-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 2048]⟩ ⟨2, ![1024, 65536]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024x2048 : Shape := ⟨2, ![1024, 2048]⟩
abbrev S2048x1024 : Shape := ⟨2, ![2048, 1024]⟩
abbrev S512x1024 : Shape := ⟨2, ![512, 1024]⟩
abbrev S3x128x512 : Shape := ⟨3, ![3, 128, 512]⟩
abbrev S3x32x512 : Shape := ⟨3, ![3, 32, 512]⟩
abbrev S8 : Shape := ⟨1, ![8]⟩
abbrev S3 : Shape := ⟨1, ![3]⟩
abbrev S4 : Shape := ⟨1, ![4]⟩
abbrev S_ : Shape := ⟨0, ![]⟩
abbrev S128x1024 : Shape := ⟨2, ![128, 1024]⟩
abbrev S128x2048 : Shape := ⟨2, ![128, 2048]⟩
abbrev S1 : Shape := ⟨1, ![1]⟩
abbrev S128x512 : Shape := ⟨2, ![128, 512]⟩
abbrev S1x128x512 : Shape := ⟨3, ![1, 128, 512]⟩
abbrev S1x32x512 : Shape := ⟨3, ![1, 32, 512]⟩
abbrev S32x512 : Shape := ⟨2, ![32, 512]⟩

abbrev nBuf : Space → Nat
  | .hbm => 4
  | .vmem => 9
  | .smem => 0
  | _ => 0

abbrev bufTy : (tb : Table) → Fin (tcTables nBuf tb) → BufTy
  | .hbm, ⟨0, _⟩ => ⟨S1024x1024, .f32⟩
  | .hbm, ⟨1, _⟩ => ⟨S1024x2048, .f32⟩
  | .hbm, ⟨2, _⟩ => ⟨S2048x1024, .f32⟩
  | .hbm, ⟨3, _⟩ => ⟨S1024x1024, .f32⟩
  | .local _ .vmem, ⟨0, _⟩ => ⟨S1024x1024, .f32⟩
  | .local _ .vmem, ⟨1, _⟩ => ⟨S1024x2048, .f32⟩
  | .local _ .vmem, ⟨2, _⟩ => ⟨S2048x1024, .f32⟩
  | .local _ .vmem, ⟨3, _⟩ => ⟨S1024x1024, .f32⟩
  | .local _ .vmem, ⟨4, _⟩ => ⟨S512x1024, .f32⟩
  | .local _ .vmem, ⟨5, _⟩ => ⟨S3x128x512, .f32⟩
  | .local _ .vmem, ⟨6, _⟩ => ⟨S3x128x512, .f32⟩
  | .local _ .vmem, ⟨7, _⟩ => ⟨S3x32x512, .f32⟩
  | .local _ .vmem, ⟨8, _⟩ => ⟨S3x32x512, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  (ofTc nBuf bufTy 1 76 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_37 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_16 : BitVec 32 := 1#32
  let v43 : BitVec 32 := Scalar.addi v2 c1_i32_16
  let c2_i32_17 : BitVec 32 := 2#32
  let c8_i32_5 : BitVec 32 := 8#32
  let v20 : BitVec 32 := Scalar.remsi v2 c8_i32_5
  let c2_i32_12 : BitVec 32 := 2#32
  let v38 : BitVec 32 := Scalar.remsi v20 c2_i32_12
  let v44 : BitVec 32 := Scalar.muli c2_i32_17 v38
  let v45 : BitVec 32 := Scalar.subi v43 v44
  let c1_i32_36 : BitVec 32 := 1#32
  let v74 : BitVec 32 := Scalar.muli v45 c1_i32_36
  let v75 : BitVec 32 := Scalar.addi c0_i32_37 v74
  v75.toNat
def k0_dev2 (d0 : Dev nD) : Nat :=
  let c0_i32_40 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_22 : BitVec 32 := 8#32
  let v52 : BitVec 32 := Scalar.muli v19 c8_i32_22
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_18 : BitVec 32 := 1#32
  let v46 : BitVec 32 := Scalar.addi v37 c1_i32_18
  let c4_i32 : BitVec 32 := 4#32
  let v47 : BitVec 32 := Scalar.remsi v46 c4_i32
  let c2_i32_23 : BitVec 32 := 2#32
  let v53 : BitVec 32 := Scalar.muli v47 c2_i32_23
  let v54 : BitVec 32 := Scalar.addi v52 v53
  let c2_i32_19 : BitVec 32 := 2#32
  let v48 : BitVec 32 := Scalar.remsi v47 c2_i32_19
  let c0_i32_20 : BitVec 32 := 0#32
  let v49 : BitVec 1 := Scalar.cmpi .eq v48 c0_i32_20
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_21 : BitVec 32 := 1#32
  let v50 : BitVec 32 := Scalar.subi c1_i32_21 v42
  let v51 : BitVec 32 := Scalar.select v49 v42 v50
  let v55 : BitVec 32 := Scalar.addi v54 v51
  let c1_i32_39 : BitVec 32 := 1#32
  let v76 : BitVec 32 := Scalar.muli v55 c1_i32_39
  let v77 : BitVec 32 := Scalar.addi c0_i32_40 v76
  v77.toNat
def k0_dev3 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_28 : BitVec 32 := 8#32
  let v62 : BitVec 32 := Scalar.muli v19 c8_i32_28
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v56 : BitVec 32 := Scalar.addi v37 c3_i32
  let c4_i32_24 : BitVec 32 := 4#32
  let v57 : BitVec 32 := Scalar.remsi v56 c4_i32_24
  let c2_i32_29 : BitVec 32 := 2#32
  let v63 : BitVec 32 := Scalar.muli v57 c2_i32_29
  let v64 : BitVec 32 := Scalar.addi v62 v63
  let c2_i32_25 : BitVec 32 := 2#32
  let v58 : BitVec 32 := Scalar.remsi v57 c2_i32_25
  let c0_i32_26 : BitVec 32 := 0#32
  let v59 : BitVec 1 := Scalar.cmpi .eq v58 c0_i32_26
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_27 : BitVec 32 := 1#32
  let v60 : BitVec 32 := Scalar.subi c1_i32_27 v42
  let v61 : BitVec 32 := Scalar.select v59 v42 v60
  let v65 : BitVec 32 := Scalar.addi v64 v61
  let c1_i32_42 : BitVec 32 := 1#32
  let v78 : BitVec 32 := Scalar.muli v65 c1_i32_42
  let v79 : BitVec 32 := Scalar.addi c0_i32_43 v78
  v79.toNat
def k0_dev4 (d0 : Dev nD) : Nat :=
  let c0_i32_46 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_30 : BitVec 32 := 8#32
  let v66 : BitVec 32 := Scalar.addi v2 c8_i32_30
  let c32_i32_31 : BitVec 32 := 32#32
  let v67 : BitVec 32 := Scalar.remsi v66 c32_i32_31
  let c1_i32_45 : BitVec 32 := 1#32
  let v80 : BitVec 32 := Scalar.muli v67 c1_i32_45
  let v81 : BitVec 32 := Scalar.addi c0_i32_46 v80
  v81.toNat
def k0_dev5 (d0 : Dev nD) : Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v68 : BitVec 32 := Scalar.addi v2 c24_i32
  let c32_i32_32 : BitVec 32 := 32#32
  let v69 : BitVec 32 := Scalar.remsi v68 c32_i32_32
  let c1_i32_48 : BitVec 32 := 1#32
  let v82 : BitVec 32 := Scalar.muli v69 c1_i32_48
  let v83 : BitVec 32 := Scalar.addi c0_i32_49 v82
  v83.toNat
def k0_off1 (d0 : Dev nD) : Fin 2 → Nat :=
  let c1_i32_33 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let v71 : BitVec 32 := Scalar.subi c1_i32_33 v42
  let c512_i32_34 : BitVec 32 := 512#32
  let v72 : BitVec 32 := Scalar.muli v71 c512_i32_34
  let c128_i32 : BitVec 32 := 128#32
  let v90 : BitVec 32 := Scalar.muli v37 c128_i32
  let v91 : BitVec 32 := Scalar.addi v72 v90
  let v92 : Index := Scalar.indexCast v91
  let c0 : Index := 0#32
  ![v92.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c128_i32_64 : BitVec 32 := 128#32
  let v107 : BitVec 32 := Scalar.muli v37 c128_i32_64
  let c0_i32_69 : BitVec 32 := 0#32
  ![v107.toNat, 0]
def k0_off3 (d0 : Dev nD) : Fin 2 → Nat :=
  let c1_i32_33 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let v71 : BitVec 32 := Scalar.subi c1_i32_33 v42
  let c512_i32_34 : BitVec 32 := 512#32
  let v72 : BitVec 32 := Scalar.muli v71 c512_i32_34
  let c128_i32_63 : BitVec 32 := 128#32
  let v105 : BitVec 32 := Scalar.muli v37 c128_i32_63
  let v106 : BitVec 32 := Scalar.addi v72 v105
  let c0_i32_70 : BitVec 32 := 0#32
  ![v106.toNat, 0]
def k0_dev6 (d0 : Dev nD) : Nat :=
  let c0_i32_68 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_16 : BitVec 32 := 1#32
  let v43 : BitVec 32 := Scalar.addi v2 c1_i32_16
  let c2_i32_17 : BitVec 32 := 2#32
  let c8_i32_5 : BitVec 32 := 8#32
  let v20 : BitVec 32 := Scalar.remsi v2 c8_i32_5
  let c2_i32_12 : BitVec 32 := 2#32
  let v38 : BitVec 32 := Scalar.remsi v20 c2_i32_12
  let v44 : BitVec 32 := Scalar.muli c2_i32_17 v38
  let v45 : BitVec 32 := Scalar.subi v43 v44
  let c1_i32_67 : BitVec 32 := 1#32
  let v108 : BitVec 32 := Scalar.muli v45 c1_i32_67
  let v109 : BitVec 32 := Scalar.addi c0_i32_68 v108
  v109.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c128_i32_72 : BitVec 32 := 128#32
  let v118 : BitVec 32 := Scalar.muli v37 c128_i32_72
  let c512_i32_77 : BitVec 32 := 512#32
  ![v118.toNat, 512]
def k0_off5 (d0 : Dev nD) : Fin 2 → Nat :=
  let c1_i32_33 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let v71 : BitVec 32 := Scalar.subi c1_i32_33 v42
  let c512_i32_34 : BitVec 32 := 512#32
  let v72 : BitVec 32 := Scalar.muli v71 c512_i32_34
  let c128_i32_71 : BitVec 32 := 128#32
  let v116 : BitVec 32 := Scalar.muli v37 c128_i32_71
  let v117 : BitVec 32 := Scalar.addi v72 v116
  let c512_i32_78 : BitVec 32 := 512#32
  ![v117.toNat, 512]
def k0_dev7 (d0 : Dev nD) : Nat :=
  let c0_i32_76 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_16 : BitVec 32 := 1#32
  let v43 : BitVec 32 := Scalar.addi v2 c1_i32_16
  let c2_i32_17 : BitVec 32 := 2#32
  let c8_i32_5 : BitVec 32 := 8#32
  let v20 : BitVec 32 := Scalar.remsi v2 c8_i32_5
  let c2_i32_12 : BitVec 32 := 2#32
  let v38 : BitVec 32 := Scalar.remsi v20 c2_i32_12
  let v44 : BitVec 32 := Scalar.muli c2_i32_17 v38
  let v45 : BitVec 32 := Scalar.subi v43 v44
  let c1_i32_75 : BitVec 32 := 1#32
  let v119 : BitVec 32 := Scalar.muli v45 c1_i32_75
  let v120 : BitVec 32 := Scalar.addi c0_i32_76 v119
  v120.toNat
def k0_off6 (d0 : Dev nD) (c3_i32_50 : BitVec 32) : Fin 2 → Nat :=
  let c1_i32_33 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let v71 : BitVec 32 := Scalar.subi c1_i32_33 v42
  let c512_i32_34 : BitVec 32 := 512#32
  let v72 : BitVec 32 := Scalar.muli v71 c512_i32_34
  let v84 : BitVec 32 := Scalar.addi v37 c3_i32_50
  let c4_i32_51 : BitVec 32 := 4#32
  let v85 : BitVec 32 := Scalar.remsi v84 c4_i32_51
  let c128_i32_79 : BitVec 32 := 128#32
  let v127 : BitVec 32 := Scalar.muli v85 c128_i32_79
  let v128 : BitVec 32 := Scalar.addi v72 v127
  let v129 : Index := Scalar.indexCast v128
  let c0_80 : Index := 0#32
  ![v129.toNat, 0]
def k0_off7 (d0 : Dev nD) (c3_i32_50 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v84 : BitVec 32 := Scalar.addi v37 c3_i32_50
  let c4_i32_51 : BitVec 32 := 4#32
  let v85 : BitVec 32 := Scalar.remsi v84 c4_i32_51
  let c128_i32_90 : BitVec 32 := 128#32
  let v144 : BitVec 32 := Scalar.muli v85 c128_i32_90
  let c0_i32_95 : BitVec 32 := 0#32
  ![v144.toNat, 0]
def k0_off8 (d0 : Dev nD) (c3_i32_50 : BitVec 32) : Fin 2 → Nat :=
  let c1_i32_33 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let v71 : BitVec 32 := Scalar.subi c1_i32_33 v42
  let c512_i32_34 : BitVec 32 := 512#32
  let v72 : BitVec 32 := Scalar.muli v71 c512_i32_34
  let v84 : BitVec 32 := Scalar.addi v37 c3_i32_50
  let c4_i32_51 : BitVec 32 := 4#32
  let v85 : BitVec 32 := Scalar.remsi v84 c4_i32_51
  let c128_i32_89 : BitVec 32 := 128#32
  let v142 : BitVec 32 := Scalar.muli v85 c128_i32_89
  let v143 : BitVec 32 := Scalar.addi v72 v142
  let c0_i32_96 : BitVec 32 := 0#32
  ![v143.toNat, 0]
def k0_dev8 (d0 : Dev nD) : Nat :=
  let c0_i32_94 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_16 : BitVec 32 := 1#32
  let v43 : BitVec 32 := Scalar.addi v2 c1_i32_16
  let c2_i32_17 : BitVec 32 := 2#32
  let c8_i32_5 : BitVec 32 := 8#32
  let v20 : BitVec 32 := Scalar.remsi v2 c8_i32_5
  let c2_i32_12 : BitVec 32 := 2#32
  let v38 : BitVec 32 := Scalar.remsi v20 c2_i32_12
  let v44 : BitVec 32 := Scalar.muli c2_i32_17 v38
  let v45 : BitVec 32 := Scalar.subi v43 v44
  let c1_i32_93 : BitVec 32 := 1#32
  let v145 : BitVec 32 := Scalar.muli v45 c1_i32_93
  let v146 : BitVec 32 := Scalar.addi c0_i32_94 v145
  v146.toNat
def k0_off9 (d0 : Dev nD) (c1_i32_52 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v86 : BitVec 32 := Scalar.addi v37 c1_i32_52
  let c4_i32_53 : BitVec 32 := 4#32
  let v87 : BitVec 32 := Scalar.remsi v86 c4_i32_53
  let c128_i32_108 : BitVec 32 := 128#32
  let v170 : BitVec 32 := Scalar.muli v87 c128_i32_108
  let c512_i32_113 : BitVec 32 := 512#32
  ![v170.toNat, 512]
def k0_off10 (d0 : Dev nD) (c1_i32_52 : BitVec 32) : Fin 2 → Nat :=
  let c1_i32_33 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let v71 : BitVec 32 := Scalar.subi c1_i32_33 v42
  let c512_i32_34 : BitVec 32 := 512#32
  let v72 : BitVec 32 := Scalar.muli v71 c512_i32_34
  let v86 : BitVec 32 := Scalar.addi v37 c1_i32_52
  let c4_i32_53 : BitVec 32 := 4#32
  let v87 : BitVec 32 := Scalar.remsi v86 c4_i32_53
  let c128_i32_107 : BitVec 32 := 128#32
  let v168 : BitVec 32 := Scalar.muli v87 c128_i32_107
  let v169 : BitVec 32 := Scalar.addi v72 v168
  let c512_i32_114 : BitVec 32 := 512#32
  ![v169.toNat, 512]
def k0_dev9 (d0 : Dev nD) : Nat :=
  let c0_i32_112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_16 : BitVec 32 := 1#32
  let v43 : BitVec 32 := Scalar.addi v2 c1_i32_16
  let c2_i32_17 : BitVec 32 := 2#32
  let c8_i32_5 : BitVec 32 := 8#32
  let v20 : BitVec 32 := Scalar.remsi v2 c8_i32_5
  let c2_i32_12 : BitVec 32 := 2#32
  let v38 : BitVec 32 := Scalar.remsi v20 c2_i32_12
  let v44 : BitVec 32 := Scalar.muli c2_i32_17 v38
  let v45 : BitVec 32 := Scalar.subi v43 v44
  let c1_i32_111 : BitVec 32 := 1#32
  let v171 : BitVec 32 := Scalar.muli v45 c1_i32_111
  let v172 : BitVec 32 := Scalar.addi c0_i32_112 v171
  v172.toNat
def k0_dev10 (d0 : Dev nD) : Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_16 : BitVec 32 := 1#32
  let v43 : BitVec 32 := Scalar.addi v2 c1_i32_16
  let c2_i32_17 : BitVec 32 := 2#32
  let c8_i32_5 : BitVec 32 := 8#32
  let v20 : BitVec 32 := Scalar.remsi v2 c8_i32_5
  let c2_i32_12 : BitVec 32 := 2#32
  let v38 : BitVec 32 := Scalar.remsi v20 c2_i32_12
  let v44 : BitVec 32 := Scalar.muli c2_i32_17 v38
  let v45 : BitVec 32 := Scalar.subi v43 v44
  let c1_i32_129 : BitVec 32 := 1#32
  let v197 : BitVec 32 := Scalar.muli v45 c1_i32_129
  let v198 : BitVec 32 := Scalar.addi c0_i32_130 v197
  v198.toNat
def k0_dev11 (d0 : Dev nD) : Nat :=
  let c0_i32_138 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_16 : BitVec 32 := 1#32
  let v43 : BitVec 32 := Scalar.addi v2 c1_i32_16
  let c2_i32_17 : BitVec 32 := 2#32
  let c8_i32_5 : BitVec 32 := 8#32
  let v20 : BitVec 32 := Scalar.remsi v2 c8_i32_5
  let c2_i32_12 : BitVec 32 := 2#32
  let v38 : BitVec 32 := Scalar.remsi v20 c2_i32_12
  let v44 : BitVec 32 := Scalar.muli c2_i32_17 v38
  let v45 : BitVec 32 := Scalar.subi v43 v44
  let c1_i32_137 : BitVec 32 := 1#32
  let v208 : BitVec 32 := Scalar.muli v45 c1_i32_137
  let v209 : BitVec 32 := Scalar.addi c0_i32_138 v208
  v209.toNat
def k0_dev12 (d0 : Dev nD) : Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_16 : BitVec 32 := 1#32
  let v43 : BitVec 32 := Scalar.addi v2 c1_i32_16
  let c2_i32_17 : BitVec 32 := 2#32
  let c8_i32_5 : BitVec 32 := 8#32
  let v20 : BitVec 32 := Scalar.remsi v2 c8_i32_5
  let c2_i32_12 : BitVec 32 := 2#32
  let v38 : BitVec 32 := Scalar.remsi v20 c2_i32_12
  let v44 : BitVec 32 := Scalar.muli c2_i32_17 v38
  let v45 : BitVec 32 := Scalar.subi v43 v44
  let c1_i32_144 : BitVec 32 := 1#32
  let v219 : BitVec 32 := Scalar.muli v45 c1_i32_144
  let v220 : BitVec 32 := Scalar.addi c0_i32_145 v219
  v220.toNat
def k0_dev13 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_16 : BitVec 32 := 1#32
  let v43 : BitVec 32 := Scalar.addi v2 c1_i32_16
  let c2_i32_17 : BitVec 32 := 2#32
  let c8_i32_5 : BitVec 32 := 8#32
  let v20 : BitVec 32 := Scalar.remsi v2 c8_i32_5
  let c2_i32_12 : BitVec 32 := 2#32
  let v38 : BitVec 32 := Scalar.remsi v20 c2_i32_12
  let v44 : BitVec 32 := Scalar.muli c2_i32_17 v38
  let v45 : BitVec 32 := Scalar.subi v43 v44
  let c1_i32_151 : BitVec 32 := 1#32
  let v230 : BitVec 32 := Scalar.muli v45 c1_i32_151
  let v231 : BitVec 32 := Scalar.addi c0_i32_152 v230
  v231.toNat
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c512_i32 : BitVec 32 := 512#32
  let v70 : BitVec 32 := Scalar.muli v42 c512_i32
  let c128_i32_176 : BitVec 32 := 128#32
  let v265 : BitVec 32 := Scalar.muli v37 c128_i32_176
  let v266 : BitVec 32 := Scalar.addi v70 v265
  let v267 : Index := Scalar.indexCast v266
  let c0_177 : Index := 0#32
  ![v267.toNat, 0]
def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c512_i32 : BitVec 32 := 512#32
  let v70 : BitVec 32 := Scalar.muli v42 c512_i32
  let c128_i32_192 : BitVec 32 := 128#32
  let v286 : BitVec 32 := Scalar.muli v37 c128_i32_192
  let v287 : BitVec 32 := Scalar.addi v70 v286
  let v289 : Index := Scalar.indexCast v287
  let c0_194 : Index := 0#32
  ![v289.toNat, 0]
def k0_off13 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c128_i32_193 : BitVec 32 := 128#32
  let v288 : BitVec 32 := Scalar.muli v37 c128_i32_193
  let v292 : Index := Scalar.indexCast v288
  let c0_195 : Index := 0#32
  ![v292.toNat, 0]
def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c512_i32 : BitVec 32 := 512#32
  let v70 : BitVec 32 := Scalar.muli v42 c512_i32
  let c128_i32_203 : BitVec 32 := 128#32
  let v303 : BitVec 32 := Scalar.muli v37 c128_i32_203
  let v304 : BitVec 32 := Scalar.addi v70 v303
  let v306 : Index := Scalar.indexCast v304
  let c512 : Index := 512#32
  ![v306.toNat, 512]
def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c128_i32_204 : BitVec 32 := 128#32
  let v305 : BitVec 32 := Scalar.muli v37 c128_i32_204
  let v309 : Index := Scalar.indexCast v305
  let c512_205 : Index := 512#32
  ![v309.toNat, 512]
def k0_off16 (d0 : Dev nD) (c0_i32_155 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c512_i32 : BitVec 32 := 512#32
  let v70 : BitVec 32 := Scalar.muli v42 c512_i32
  let v238 : BitVec 32 := Scalar.subi v37 c0_i32_155
  let c4_i32_156 : BitVec 32 := 4#32
  let v239 : BitVec 32 := Scalar.addi v238 c4_i32_156
  let c4_i32_157 : BitVec 32 := 4#32
  let v240 : BitVec 32 := Scalar.remsi v239 c4_i32_157
  let c128_i32_158 : BitVec 32 := 128#32
  let v241 : BitVec 32 := Scalar.muli v240 c128_i32_158
  let v242 : BitVec 32 := Scalar.addi v70 v241
  let c0_i32_214 : BitVec 32 := 0#32
  ![v242.toNat, 0]
def k0_dev14 (d0 : Dev nD) : Nat :=
  let c0_i32_211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_22 : BitVec 32 := 8#32
  let v52 : BitVec 32 := Scalar.muli v19 c8_i32_22
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_18 : BitVec 32 := 1#32
  let v46 : BitVec 32 := Scalar.addi v37 c1_i32_18
  let c4_i32 : BitVec 32 := 4#32
  let v47 : BitVec 32 := Scalar.remsi v46 c4_i32
  let c2_i32_23 : BitVec 32 := 2#32
  let v53 : BitVec 32 := Scalar.muli v47 c2_i32_23
  let v54 : BitVec 32 := Scalar.addi v52 v53
  let c2_i32_19 : BitVec 32 := 2#32
  let v48 : BitVec 32 := Scalar.remsi v47 c2_i32_19
  let c0_i32_20 : BitVec 32 := 0#32
  let v49 : BitVec 1 := Scalar.cmpi .eq v48 c0_i32_20
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_21 : BitVec 32 := 1#32
  let v50 : BitVec 32 := Scalar.subi c1_i32_21 v42
  let v51 : BitVec 32 := Scalar.select v49 v42 v50
  let v55 : BitVec 32 := Scalar.addi v54 v51
  let c1_i32_210 : BitVec 32 := 1#32
  let v314 : BitVec 32 := Scalar.muli v55 c1_i32_210
  let v315 : BitVec 32 := Scalar.addi c0_i32_211 v314
  v315.toNat
def k0_off17 (d0 : Dev nD) (c0_i32_167 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c512_i32 : BitVec 32 := 512#32
  let v70 : BitVec 32 := Scalar.muli v42 c512_i32
  let v253 : BitVec 32 := Scalar.addi v37 c0_i32_167
  let c4_i32_168 : BitVec 32 := 4#32
  let v254 : BitVec 32 := Scalar.remsi v253 c4_i32_168
  let c128_i32_169 : BitVec 32 := 128#32
  let v255 : BitVec 32 := Scalar.muli v254 c128_i32_169
  let v256 : BitVec 32 := Scalar.addi v70 v255
  let c512_i32_222 : BitVec 32 := 512#32
  ![v256.toNat, 512]
def k0_dev15 (d0 : Dev nD) : Nat :=
  let c0_i32_219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_28 : BitVec 32 := 8#32
  let v62 : BitVec 32 := Scalar.muli v19 c8_i32_28
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v56 : BitVec 32 := Scalar.addi v37 c3_i32
  let c4_i32_24 : BitVec 32 := 4#32
  let v57 : BitVec 32 := Scalar.remsi v56 c4_i32_24
  let c2_i32_29 : BitVec 32 := 2#32
  let v63 : BitVec 32 := Scalar.muli v57 c2_i32_29
  let v64 : BitVec 32 := Scalar.addi v62 v63
  let c2_i32_25 : BitVec 32 := 2#32
  let v58 : BitVec 32 := Scalar.remsi v57 c2_i32_25
  let c0_i32_26 : BitVec 32 := 0#32
  let v59 : BitVec 1 := Scalar.cmpi .eq v58 c0_i32_26
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_27 : BitVec 32 := 1#32
  let v60 : BitVec 32 := Scalar.subi c1_i32_27 v42
  let v61 : BitVec 32 := Scalar.select v59 v42 v60
  let v65 : BitVec 32 := Scalar.addi v64 v61
  let c1_i32_218 : BitVec 32 := 1#32
  let v323 : BitVec 32 := Scalar.muli v65 c1_i32_218
  let v324 : BitVec 32 := Scalar.addi c0_i32_219 v323
  v324.toNat
def k0_off18 (d0 : Dev nD) (c3_i32_50 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c512_i32 : BitVec 32 := 512#32
  let v70 : BitVec 32 := Scalar.muli v42 c512_i32
  let v84 : BitVec 32 := Scalar.addi v37 c3_i32_50
  let c4_i32_51 : BitVec 32 := 4#32
  let v85 : BitVec 32 := Scalar.remsi v84 c4_i32_51
  let c128_i32_223 : BitVec 32 := 128#32
  let v332 : BitVec 32 := Scalar.muli v85 c128_i32_223
  let v333 : BitVec 32 := Scalar.addi v70 v332
  let v334 : Index := Scalar.indexCast v333
  let c0_224 : Index := 0#32
  ![v334.toNat, 0]
def k0_off19 (d0 : Dev nD) (c3_i32_50 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c512_i32 : BitVec 32 := 512#32
  let v70 : BitVec 32 := Scalar.muli v42 c512_i32
  let v84 : BitVec 32 := Scalar.addi v37 c3_i32_50
  let c4_i32_51 : BitVec 32 := 4#32
  let v85 : BitVec 32 := Scalar.remsi v84 c4_i32_51
  let c128_i32_239 : BitVec 32 := 128#32
  let v353 : BitVec 32 := Scalar.muli v85 c128_i32_239
  let v354 : BitVec 32 := Scalar.addi v70 v353
  let v356 : Index := Scalar.indexCast v354
  let c0_241 : Index := 0#32
  ![v356.toNat, 0]
def k0_off20 (d0 : Dev nD) (c3_i32_50 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v84 : BitVec 32 := Scalar.addi v37 c3_i32_50
  let c4_i32_51 : BitVec 32 := 4#32
  let v85 : BitVec 32 := Scalar.remsi v84 c4_i32_51
  let c128_i32_240 : BitVec 32 := 128#32
  let v355 : BitVec 32 := Scalar.muli v85 c128_i32_240
  let v359 : Index := Scalar.indexCast v355
  let c0_242 : Index := 0#32
  ![v359.toNat, 0]
def k0_off21 (d0 : Dev nD) (c0_i32_252 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c512_i32 : BitVec 32 := 512#32
  let v70 : BitVec 32 := Scalar.muli v42 c512_i32
  let v371 : BitVec 32 := Scalar.subi v37 c0_i32_252
  let c1_i32_253 : BitVec 32 := 1#32
  let v372 : BitVec 32 := Scalar.subi v371 c1_i32_253
  let c4_i32_254 : BitVec 32 := 4#32
  let v373 : BitVec 32 := Scalar.addi v372 c4_i32_254
  let c4_i32_255 : BitVec 32 := 4#32
  let v374 : BitVec 32 := Scalar.remsi v373 c4_i32_255
  let c128_i32_256 : BitVec 32 := 128#32
  let v375 : BitVec 32 := Scalar.muli v374 c128_i32_256
  let v376 : BitVec 32 := Scalar.addi v70 v375
  let v377 : Index := Scalar.indexCast v376
  let c0_257 : Index := 0#32
  ![v377.toNat, 0]
def k0_dev16 (d0 : Dev nD) : Nat :=
  let c0_i32_266 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_22 : BitVec 32 := 8#32
  let v52 : BitVec 32 := Scalar.muli v19 c8_i32_22
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_18 : BitVec 32 := 1#32
  let v46 : BitVec 32 := Scalar.addi v37 c1_i32_18
  let c4_i32 : BitVec 32 := 4#32
  let v47 : BitVec 32 := Scalar.remsi v46 c4_i32
  let c2_i32_23 : BitVec 32 := 2#32
  let v53 : BitVec 32 := Scalar.muli v47 c2_i32_23
  let v54 : BitVec 32 := Scalar.addi v52 v53
  let c2_i32_19 : BitVec 32 := 2#32
  let v48 : BitVec 32 := Scalar.remsi v47 c2_i32_19
  let c0_i32_20 : BitVec 32 := 0#32
  let v49 : BitVec 1 := Scalar.cmpi .eq v48 c0_i32_20
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_21 : BitVec 32 := 1#32
  let v50 : BitVec 32 := Scalar.subi c1_i32_21 v42
  let v51 : BitVec 32 := Scalar.select v49 v42 v50
  let v55 : BitVec 32 := Scalar.addi v54 v51
  let c1_i32_265 : BitVec 32 := 1#32
  let v385 : BitVec 32 := Scalar.muli v55 c1_i32_265
  let v386 : BitVec 32 := Scalar.addi c0_i32_266 v385
  v386.toNat
def k0_off22 (d0 : Dev nD) (c1_i32_52 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c512_i32 : BitVec 32 := 512#32
  let v70 : BitVec 32 := Scalar.muli v42 c512_i32
  let v86 : BitVec 32 := Scalar.addi v37 c1_i32_52
  let c4_i32_53 : BitVec 32 := 4#32
  let v87 : BitVec 32 := Scalar.remsi v86 c4_i32_53
  let c128_i32_286 : BitVec 32 := 128#32
  let v415 : BitVec 32 := Scalar.muli v87 c128_i32_286
  let v416 : BitVec 32 := Scalar.addi v70 v415
  let v418 : Index := Scalar.indexCast v416
  let c512_288 : Index := 512#32
  ![v418.toNat, 512]
def k0_off23 (d0 : Dev nD) (c1_i32_52 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v86 : BitVec 32 := Scalar.addi v37 c1_i32_52
  let c4_i32_53 : BitVec 32 := 4#32
  let v87 : BitVec 32 := Scalar.remsi v86 c4_i32_53
  let c128_i32_287 : BitVec 32 := 128#32
  let v417 : BitVec 32 := Scalar.muli v87 c128_i32_287
  let v421 : Index := Scalar.indexCast v417
  let c512_289 : Index := 512#32
  ![v421.toNat, 512]
def k0_off24 (d0 : Dev nD) (c0_i32_299 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c512_i32 : BitVec 32 := 512#32
  let v70 : BitVec 32 := Scalar.muli v42 c512_i32
  let v433 : BitVec 32 := Scalar.addi v37 c0_i32_299
  let c1_i32_300 : BitVec 32 := 1#32
  let v434 : BitVec 32 := Scalar.addi v433 c1_i32_300
  let c4_i32_301 : BitVec 32 := 4#32
  let v435 : BitVec 32 := Scalar.remsi v434 c4_i32_301
  let c128_i32_302 : BitVec 32 := 128#32
  let v436 : BitVec 32 := Scalar.muli v435 c128_i32_302
  let v437 : BitVec 32 := Scalar.addi v70 v436
  let v438 : Index := Scalar.indexCast v437
  let c512_303 : Index := 512#32
  ![v438.toNat, 512]
def k0_dev17 (d0 : Dev nD) : Nat :=
  let c0_i32_312 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_28 : BitVec 32 := 8#32
  let v62 : BitVec 32 := Scalar.muli v19 c8_i32_28
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v56 : BitVec 32 := Scalar.addi v37 c3_i32
  let c4_i32_24 : BitVec 32 := 4#32
  let v57 : BitVec 32 := Scalar.remsi v56 c4_i32_24
  let c2_i32_29 : BitVec 32 := 2#32
  let v63 : BitVec 32 := Scalar.muli v57 c2_i32_29
  let v64 : BitVec 32 := Scalar.addi v62 v63
  let c2_i32_25 : BitVec 32 := 2#32
  let v58 : BitVec 32 := Scalar.remsi v57 c2_i32_25
  let c0_i32_26 : BitVec 32 := 0#32
  let v59 : BitVec 1 := Scalar.cmpi .eq v58 c0_i32_26
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_27 : BitVec 32 := 1#32
  let v60 : BitVec 32 := Scalar.subi c1_i32_27 v42
  let v61 : BitVec 32 := Scalar.select v59 v42 v60
  let v65 : BitVec 32 := Scalar.addi v64 v61
  let c1_i32_311 : BitVec 32 := 1#32
  let v446 : BitVec 32 := Scalar.muli v65 c1_i32_311
  let v447 : BitVec 32 := Scalar.addi c0_i32_312 v446
  v447.toNat
def k0_dev18 (d0 : Dev nD) : Nat :=
  let c0_i32_358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_22 : BitVec 32 := 8#32
  let v52 : BitVec 32 := Scalar.muli v19 c8_i32_22
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_18 : BitVec 32 := 1#32
  let v46 : BitVec 32 := Scalar.addi v37 c1_i32_18
  let c4_i32 : BitVec 32 := 4#32
  let v47 : BitVec 32 := Scalar.remsi v46 c4_i32
  let c2_i32_23 : BitVec 32 := 2#32
  let v53 : BitVec 32 := Scalar.muli v47 c2_i32_23
  let v54 : BitVec 32 := Scalar.addi v52 v53
  let c2_i32_19 : BitVec 32 := 2#32
  let v48 : BitVec 32 := Scalar.remsi v47 c2_i32_19
  let c0_i32_20 : BitVec 32 := 0#32
  let v49 : BitVec 1 := Scalar.cmpi .eq v48 c0_i32_20
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_21 : BitVec 32 := 1#32
  let v50 : BitVec 32 := Scalar.subi c1_i32_21 v42
  let v51 : BitVec 32 := Scalar.select v49 v42 v50
  let v55 : BitVec 32 := Scalar.addi v54 v51
  let c1_i32_357 : BitVec 32 := 1#32
  let v508 : BitVec 32 := Scalar.muli v55 c1_i32_357
  let v509 : BitVec 32 := Scalar.addi c0_i32_358 v508
  v509.toNat
def k0_dev19 (d0 : Dev nD) : Nat :=
  let c0_i32_394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_28 : BitVec 32 := 8#32
  let v62 : BitVec 32 := Scalar.muli v19 c8_i32_28
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v56 : BitVec 32 := Scalar.addi v37 c3_i32
  let c4_i32_24 : BitVec 32 := 4#32
  let v57 : BitVec 32 := Scalar.remsi v56 c4_i32_24
  let c2_i32_29 : BitVec 32 := 2#32
  let v63 : BitVec 32 := Scalar.muli v57 c2_i32_29
  let v64 : BitVec 32 := Scalar.addi v62 v63
  let c2_i32_25 : BitVec 32 := 2#32
  let v58 : BitVec 32 := Scalar.remsi v57 c2_i32_25
  let c0_i32_26 : BitVec 32 := 0#32
  let v59 : BitVec 1 := Scalar.cmpi .eq v58 c0_i32_26
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_27 : BitVec 32 := 1#32
  let v60 : BitVec 32 := Scalar.subi c1_i32_27 v42
  let v61 : BitVec 32 := Scalar.select v59 v42 v60
  let v65 : BitVec 32 := Scalar.addi v64 v61
  let c1_i32_393 : BitVec 32 := 1#32
  let v554 : BitVec 32 := Scalar.muli v65 c1_i32_393
  let v555 : BitVec 32 := Scalar.addi c0_i32_394 v554
  v555.toNat
def k0_off25 (d0 : Dev nD) (c0_i32_460 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c512_i32 : BitVec 32 := 512#32
  let v70 : BitVec 32 := Scalar.muli v42 c512_i32
  let c1_i32_454 : BitVec 32 := 1#32
  let v638 : BitVec 32 := Scalar.addi v37 c1_i32_454
  let c4_i32_455 : BitVec 32 := 4#32
  let v639 : BitVec 32 := Scalar.remsi v638 c4_i32_455
  let c128_i32_456 : BitVec 32 := 128#32
  let v640 : BitVec 32 := Scalar.muli v639 c128_i32_456
  let v641 : BitVec 32 := Scalar.addi v70 v640
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v646 : BitVec 32 := Scalar.subi v19 c0_i32_460
  let c4_i32_461 : BitVec 32 := 4#32
  let v647 : BitVec 32 := Scalar.addi v646 c4_i32_461
  let c4_i32_462 : BitVec 32 := 4#32
  let v648 : BitVec 32 := Scalar.remsi v647 c4_i32_462
  let c32_i32_463 : BitVec 32 := 32#32
  let v649 : BitVec 32 := Scalar.muli v648 c32_i32_463
  let v650 : BitVec 32 := Scalar.addi v641 v649
  let c0_i32_488 : BitVec 32 := 0#32
  ![v650.toNat, 0]
def k0_dev20 (d0 : Dev nD) : Nat :=
  let c0_i32_485 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_30 : BitVec 32 := 8#32
  let v66 : BitVec 32 := Scalar.addi v2 c8_i32_30
  let c32_i32_31 : BitVec 32 := 32#32
  let v67 : BitVec 32 := Scalar.remsi v66 c32_i32_31
  let c1_i32_484 : BitVec 32 := 1#32
  let v673 : BitVec 32 := Scalar.muli v67 c1_i32_484
  let v674 : BitVec 32 := Scalar.addi c0_i32_485 v673
  v674.toNat
def k0_off26 (d0 : Dev nD) (c0_i32_472 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c512_i32 : BitVec 32 := 512#32
  let v70 : BitVec 32 := Scalar.muli v42 c512_i32
  let c3_i32_457 : BitVec 32 := 3#32
  let v642 : BitVec 32 := Scalar.addi v37 c3_i32_457
  let c4_i32_458 : BitVec 32 := 4#32
  let v643 : BitVec 32 := Scalar.remsi v642 c4_i32_458
  let c128_i32_459 : BitVec 32 := 128#32
  let v644 : BitVec 32 := Scalar.muli v643 c128_i32_459
  let v645 : BitVec 32 := Scalar.addi v70 v644
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v661 : BitVec 32 := Scalar.addi v19 c0_i32_472
  let c4_i32_473 : BitVec 32 := 4#32
  let v662 : BitVec 32 := Scalar.remsi v661 c4_i32_473
  let c32_i32_474 : BitVec 32 := 32#32
  let v663 : BitVec 32 := Scalar.muli v662 c32_i32_474
  let v664 : BitVec 32 := Scalar.addi v645 v663
  let c512_i32_496 : BitVec 32 := 512#32
  ![v664.toNat, 512]
def k0_dev21 (d0 : Dev nD) : Nat :=
  let c0_i32_493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v68 : BitVec 32 := Scalar.addi v2 c24_i32
  let c32_i32_32 : BitVec 32 := 32#32
  let v69 : BitVec 32 := Scalar.remsi v68 c32_i32_32
  let c1_i32_492 : BitVec 32 := 1#32
  let v682 : BitVec 32 := Scalar.muli v69 c1_i32_492
  let v683 : BitVec 32 := Scalar.addi c0_i32_493 v682
  v683.toNat
def k0_off27 (d0 : Dev nD) (c0_i32_505 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c512_i32 : BitVec 32 := 512#32
  let v70 : BitVec 32 := Scalar.muli v42 c512_i32
  let c1_i32_454 : BitVec 32 := 1#32
  let v638 : BitVec 32 := Scalar.addi v37 c1_i32_454
  let c4_i32_455 : BitVec 32 := 4#32
  let v639 : BitVec 32 := Scalar.remsi v638 c4_i32_455
  let c128_i32_456 : BitVec 32 := 128#32
  let v640 : BitVec 32 := Scalar.muli v639 c128_i32_456
  let v641 : BitVec 32 := Scalar.addi v70 v640
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v698 : BitVec 32 := Scalar.subi v19 c0_i32_505
  let c1_i32_506 : BitVec 32 := 1#32
  let v699 : BitVec 32 := Scalar.subi v698 c1_i32_506
  let c4_i32_507 : BitVec 32 := 4#32
  let v700 : BitVec 32 := Scalar.addi v699 c4_i32_507
  let c4_i32_508 : BitVec 32 := 4#32
  let v701 : BitVec 32 := Scalar.remsi v700 c4_i32_508
  let c32_i32_509 : BitVec 32 := 32#32
  let v702 : BitVec 32 := Scalar.muli v701 c32_i32_509
  let v703 : BitVec 32 := Scalar.addi v641 v702
  let v704 : Index := Scalar.indexCast v703
  let c0_510 : Index := 0#32
  ![v704.toNat, 0]
def k0_dev22 (d0 : Dev nD) : Nat :=
  let c0_i32_519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_30 : BitVec 32 := 8#32
  let v66 : BitVec 32 := Scalar.addi v2 c8_i32_30
  let c32_i32_31 : BitVec 32 := 32#32
  let v67 : BitVec 32 := Scalar.remsi v66 c32_i32_31
  let c1_i32_518 : BitVec 32 := 1#32
  let v712 : BitVec 32 := Scalar.muli v67 c1_i32_518
  let v713 : BitVec 32 := Scalar.addi c0_i32_519 v712
  v713.toNat
def k0_off28 (d0 : Dev nD) (c0_i32_531 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c512_i32 : BitVec 32 := 512#32
  let v70 : BitVec 32 := Scalar.muli v42 c512_i32
  let c3_i32_457 : BitVec 32 := 3#32
  let v642 : BitVec 32 := Scalar.addi v37 c3_i32_457
  let c4_i32_458 : BitVec 32 := 4#32
  let v643 : BitVec 32 := Scalar.remsi v642 c4_i32_458
  let c128_i32_459 : BitVec 32 := 128#32
  let v644 : BitVec 32 := Scalar.muli v643 c128_i32_459
  let v645 : BitVec 32 := Scalar.addi v70 v644
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v728 : BitVec 32 := Scalar.addi v19 c0_i32_531
  let c1_i32_532 : BitVec 32 := 1#32
  let v729 : BitVec 32 := Scalar.addi v728 c1_i32_532
  let c4_i32_533 : BitVec 32 := 4#32
  let v730 : BitVec 32 := Scalar.remsi v729 c4_i32_533
  let c32_i32_534 : BitVec 32 := 32#32
  let v731 : BitVec 32 := Scalar.muli v730 c32_i32_534
  let v732 : BitVec 32 := Scalar.addi v645 v731
  let v733 : Index := Scalar.indexCast v732
  let c512_535 : Index := 512#32
  ![v733.toNat, 512]
def k0_dev23 (d0 : Dev nD) : Nat :=
  let c0_i32_544 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v68 : BitVec 32 := Scalar.addi v2 c24_i32
  let c32_i32_32 : BitVec 32 := 32#32
  let v69 : BitVec 32 := Scalar.remsi v68 c32_i32_32
  let c1_i32_543 : BitVec 32 := 1#32
  let v741 : BitVec 32 := Scalar.muli v69 c1_i32_543
  let v742 : BitVec 32 := Scalar.addi c0_i32_544 v741
  v742.toNat
def k0_dev24 (d0 : Dev nD) : Nat :=
  let c0_i32_570 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_30 : BitVec 32 := 8#32
  let v66 : BitVec 32 := Scalar.addi v2 c8_i32_30
  let c32_i32_31 : BitVec 32 := 32#32
  let v67 : BitVec 32 := Scalar.remsi v66 c32_i32_31
  let c1_i32_569 : BitVec 32 := 1#32
  let v771 : BitVec 32 := Scalar.muli v67 c1_i32_569
  let v772 : BitVec 32 := Scalar.addi c0_i32_570 v771
  v772.toNat
def k0_dev25 (d0 : Dev nD) : Nat :=
  let c0_i32_595 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v68 : BitVec 32 := Scalar.addi v2 c24_i32
  let c32_i32_32 : BitVec 32 := 32#32
  let v69 : BitVec 32 := Scalar.remsi v68 c32_i32_32
  let c1_i32_594 : BitVec 32 := 1#32
  let v800 : BitVec 32 := Scalar.muli v69 c1_i32_594
  let v801 : BitVec 32 := Scalar.addi c0_i32_595 v800
  v801.toNat
def k0_off29 (d0 : Dev nD) (c0_i32_635 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c512_i32 : BitVec 32 := 512#32
  let v70 : BitVec 32 := Scalar.muli v42 c512_i32
  let c1_i32_454 : BitVec 32 := 1#32
  let v638 : BitVec 32 := Scalar.addi v37 c1_i32_454
  let c4_i32_455 : BitVec 32 := 4#32
  let v639 : BitVec 32 := Scalar.remsi v638 c4_i32_455
  let c128_i32_456 : BitVec 32 := 128#32
  let v640 : BitVec 32 := Scalar.muli v639 c128_i32_456
  let v641 : BitVec 32 := Scalar.addi v70 v640
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_634 : BitVec 32 := 1#32
  let v850 : BitVec 32 := Scalar.addi v19 c1_i32_634
  let v851 : BitVec 32 := Scalar.subi v850 c0_i32_635
  let c4_i32_636 : BitVec 32 := 4#32
  let v852 : BitVec 32 := Scalar.addi v851 c4_i32_636
  let c4_i32_637 : BitVec 32 := 4#32
  let v853 : BitVec 32 := Scalar.remsi v852 c4_i32_637
  let c32_i32_638 : BitVec 32 := 32#32
  let v854 : BitVec 32 := Scalar.muli v853 c32_i32_638
  let v855 : BitVec 32 := Scalar.addi v641 v854
  let c0_i32_668 : BitVec 32 := 0#32
  ![v855.toNat, 0]
def k0_dev26 (d0 : Dev nD) : Nat :=
  let c0_i32_667 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_30 : BitVec 32 := 8#32
  let v66 : BitVec 32 := Scalar.addi v2 c8_i32_30
  let c32_i32_31 : BitVec 32 := 32#32
  let v67 : BitVec 32 := Scalar.remsi v66 c32_i32_31
  let c1_i32_666 : BitVec 32 := 1#32
  let v886 : BitVec 32 := Scalar.muli v67 c1_i32_666
  let v887 : BitVec 32 := Scalar.addi c0_i32_667 v886
  v887.toNat
def k0_off30 (d0 : Dev nD) (c0_i32_640 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c512_i32 : BitVec 32 := 512#32
  let v70 : BitVec 32 := Scalar.muli v42 c512_i32
  let c3_i32_457 : BitVec 32 := 3#32
  let v642 : BitVec 32 := Scalar.addi v37 c3_i32_457
  let c4_i32_458 : BitVec 32 := 4#32
  let v643 : BitVec 32 := Scalar.remsi v642 c4_i32_458
  let c128_i32_459 : BitVec 32 := 128#32
  let v644 : BitVec 32 := Scalar.muli v643 c128_i32_459
  let v645 : BitVec 32 := Scalar.addi v70 v644
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_639 : BitVec 32 := 1#32
  let v856 : BitVec 32 := Scalar.subi v19 c1_i32_639
  let v857 : BitVec 32 := Scalar.addi v856 c0_i32_640
  let c4_i32_641 : BitVec 32 := 4#32
  let v858 : BitVec 32 := Scalar.addi v857 c4_i32_641
  let c4_i32_642 : BitVec 32 := 4#32
  let v859 : BitVec 32 := Scalar.remsi v858 c4_i32_642
  let c32_i32_643 : BitVec 32 := 32#32
  let v860 : BitVec 32 := Scalar.muli v859 c32_i32_643
  let v861 : BitVec 32 := Scalar.addi v645 v860
  let c512_i32_674 : BitVec 32 := 512#32
  ![v861.toNat, 512]
def k0_dev27 (d0 : Dev nD) : Nat :=
  let c0_i32_673 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v68 : BitVec 32 := Scalar.addi v2 c24_i32
  let c32_i32_32 : BitVec 32 := 32#32
  let v69 : BitVec 32 := Scalar.remsi v68 c32_i32_32
  let c1_i32_672 : BitVec 32 := 1#32
  let v894 : BitVec 32 := Scalar.muli v69 c1_i32_672
  let v895 : BitVec 32 := Scalar.addi c0_i32_673 v894
  v895.toNat
def k0_dev28 (d0 : Dev nD) : Nat :=
  let c0_i32_685 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_30 : BitVec 32 := 8#32
  let v66 : BitVec 32 := Scalar.addi v2 c8_i32_30
  let c32_i32_31 : BitVec 32 := 32#32
  let v67 : BitVec 32 := Scalar.remsi v66 c32_i32_31
  let c1_i32_684 : BitVec 32 := 1#32
  let v908 : BitVec 32 := Scalar.muli v67 c1_i32_684
  let v909 : BitVec 32 := Scalar.addi c0_i32_685 v908
  v909.toNat
def k0_dev29 (d0 : Dev nD) : Nat :=
  let c0_i32_697 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v68 : BitVec 32 := Scalar.addi v2 c24_i32
  let c32_i32_32 : BitVec 32 := 32#32
  let v69 : BitVec 32 := Scalar.remsi v68 c32_i32_32
  let c1_i32_696 : BitVec 32 := 1#32
  let v922 : BitVec 32 := Scalar.muli v69 c1_i32_696
  let v923 : BitVec 32 := Scalar.addi c0_i32_697 v922
  v923.toNat
def k0_dev30 (d0 : Dev nD) : Nat :=
  let c0_i32_709 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_30 : BitVec 32 := 8#32
  let v66 : BitVec 32 := Scalar.addi v2 c8_i32_30
  let c32_i32_31 : BitVec 32 := 32#32
  let v67 : BitVec 32 := Scalar.remsi v66 c32_i32_31
  let c1_i32_708 : BitVec 32 := 1#32
  let v936 : BitVec 32 := Scalar.muli v67 c1_i32_708
  let v937 : BitVec 32 := Scalar.addi c0_i32_709 v936
  v937.toNat
def k0_dev31 (d0 : Dev nD) : Nat :=
  let c0_i32_721 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v68 : BitVec 32 := Scalar.addi v2 c24_i32
  let c32_i32_32 : BitVec 32 := 32#32
  let v69 : BitVec 32 := Scalar.remsi v68 c32_i32_32
  let c1_i32_720 : BitVec 32 := 1#32
  let v950 : BitVec 32 := Scalar.muli v69 c1_i32_720
  let v951 : BitVec 32 := Scalar.addi c0_i32_721 v950
  v951.toNat
def k0_off31 (d0 : Dev nD) (c0_i32_737 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c512_i32 : BitVec 32 := 512#32
  let v70 : BitVec 32 := Scalar.muli v42 c512_i32
  let c1_i32_736 : BitVec 32 := 1#32
  let v970 : BitVec 32 := Scalar.addi v37 c1_i32_736
  let v971 : BitVec 32 := Scalar.subi v970 c0_i32_737
  let c4_i32_738 : BitVec 32 := 4#32
  let v972 : BitVec 32 := Scalar.addi v971 c4_i32_738
  let c4_i32_739 : BitVec 32 := 4#32
  let v973 : BitVec 32 := Scalar.remsi v972 c4_i32_739
  let c128_i32_740 : BitVec 32 := 128#32
  let v974 : BitVec 32 := Scalar.muli v973 c128_i32_740
  let v975 : BitVec 32 := Scalar.addi v70 v974
  let c0_i32_750 : BitVec 32 := 0#32
  ![v975.toNat, 0]
def k0_dev32 (d0 : Dev nD) : Nat :=
  let c0_i32_749 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_22 : BitVec 32 := 8#32
  let v52 : BitVec 32 := Scalar.muli v19 c8_i32_22
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_18 : BitVec 32 := 1#32
  let v46 : BitVec 32 := Scalar.addi v37 c1_i32_18
  let c4_i32 : BitVec 32 := 4#32
  let v47 : BitVec 32 := Scalar.remsi v46 c4_i32
  let c2_i32_23 : BitVec 32 := 2#32
  let v53 : BitVec 32 := Scalar.muli v47 c2_i32_23
  let v54 : BitVec 32 := Scalar.addi v52 v53
  let c2_i32_19 : BitVec 32 := 2#32
  let v48 : BitVec 32 := Scalar.remsi v47 c2_i32_19
  let c0_i32_20 : BitVec 32 := 0#32
  let v49 : BitVec 1 := Scalar.cmpi .eq v48 c0_i32_20
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_21 : BitVec 32 := 1#32
  let v50 : BitVec 32 := Scalar.subi c1_i32_21 v42
  let v51 : BitVec 32 := Scalar.select v49 v42 v50
  let v55 : BitVec 32 := Scalar.addi v54 v51
  let c1_i32_748 : BitVec 32 := 1#32
  let v982 : BitVec 32 := Scalar.muli v55 c1_i32_748
  let v983 : BitVec 32 := Scalar.addi c0_i32_749 v982
  v983.toNat
def k0_off32 (d0 : Dev nD) (c0_i32_742 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c512_i32 : BitVec 32 := 512#32
  let v70 : BitVec 32 := Scalar.muli v42 c512_i32
  let c1_i32_741 : BitVec 32 := 1#32
  let v976 : BitVec 32 := Scalar.subi v37 c1_i32_741
  let v977 : BitVec 32 := Scalar.addi v976 c0_i32_742
  let c4_i32_743 : BitVec 32 := 4#32
  let v978 : BitVec 32 := Scalar.addi v977 c4_i32_743
  let c4_i32_744 : BitVec 32 := 4#32
  let v979 : BitVec 32 := Scalar.remsi v978 c4_i32_744
  let c128_i32_745 : BitVec 32 := 128#32
  let v980 : BitVec 32 := Scalar.muli v979 c128_i32_745
  let v981 : BitVec 32 := Scalar.addi v70 v980
  let c512_i32_756 : BitVec 32 := 512#32
  ![v981.toNat, 512]
def k0_dev33 (d0 : Dev nD) : Nat :=
  let c0_i32_755 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_28 : BitVec 32 := 8#32
  let v62 : BitVec 32 := Scalar.muli v19 c8_i32_28
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v56 : BitVec 32 := Scalar.addi v37 c3_i32
  let c4_i32_24 : BitVec 32 := 4#32
  let v57 : BitVec 32 := Scalar.remsi v56 c4_i32_24
  let c2_i32_29 : BitVec 32 := 2#32
  let v63 : BitVec 32 := Scalar.muli v57 c2_i32_29
  let v64 : BitVec 32 := Scalar.addi v62 v63
  let c2_i32_25 : BitVec 32 := 2#32
  let v58 : BitVec 32 := Scalar.remsi v57 c2_i32_25
  let c0_i32_26 : BitVec 32 := 0#32
  let v59 : BitVec 1 := Scalar.cmpi .eq v58 c0_i32_26
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_27 : BitVec 32 := 1#32
  let v60 : BitVec 32 := Scalar.subi c1_i32_27 v42
  let v61 : BitVec 32 := Scalar.select v59 v42 v60
  let v65 : BitVec 32 := Scalar.addi v64 v61
  let c1_i32_754 : BitVec 32 := 1#32
  let v990 : BitVec 32 := Scalar.muli v65 c1_i32_754
  let v991 : BitVec 32 := Scalar.addi c0_i32_755 v990
  v991.toNat
def k0_off33 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c512_i32 : BitVec 32 := 512#32
  let v70 : BitVec 32 := Scalar.muli v42 c512_i32
  let c128_i32_770 : BitVec 32 := 128#32
  let v1010 : BitVec 32 := Scalar.muli v37 c128_i32_770
  let v1011 : BitVec 32 := Scalar.addi v70 v1010
  let c0_i32_775 : BitVec 32 := 0#32
  ![v1011.toNat, 0]
def k0_dev34 (d0 : Dev nD) : Nat :=
  let c0_i32_774 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_16 : BitVec 32 := 1#32
  let v43 : BitVec 32 := Scalar.addi v2 c1_i32_16
  let c2_i32_17 : BitVec 32 := 2#32
  let c8_i32_5 : BitVec 32 := 8#32
  let v20 : BitVec 32 := Scalar.remsi v2 c8_i32_5
  let c2_i32_12 : BitVec 32 := 2#32
  let v38 : BitVec 32 := Scalar.remsi v20 c2_i32_12
  let v44 : BitVec 32 := Scalar.muli c2_i32_17 v38
  let v45 : BitVec 32 := Scalar.subi v43 v44
  let c1_i32_773 : BitVec 32 := 1#32
  let v1012 : BitVec 32 := Scalar.muli v45 c1_i32_773
  let v1013 : BitVec 32 := Scalar.addi c0_i32_774 v1012
  v1013.toNat
def k0_dev35 (d0 : Dev nD) : Nat :=
  let c0_i32_790 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_22 : BitVec 32 := 8#32
  let v52 : BitVec 32 := Scalar.muli v19 c8_i32_22
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_18 : BitVec 32 := 1#32
  let v46 : BitVec 32 := Scalar.addi v37 c1_i32_18
  let c4_i32 : BitVec 32 := 4#32
  let v47 : BitVec 32 := Scalar.remsi v46 c4_i32
  let c2_i32_23 : BitVec 32 := 2#32
  let v53 : BitVec 32 := Scalar.muli v47 c2_i32_23
  let v54 : BitVec 32 := Scalar.addi v52 v53
  let c2_i32_19 : BitVec 32 := 2#32
  let v48 : BitVec 32 := Scalar.remsi v47 c2_i32_19
  let c0_i32_20 : BitVec 32 := 0#32
  let v49 : BitVec 1 := Scalar.cmpi .eq v48 c0_i32_20
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_21 : BitVec 32 := 1#32
  let v50 : BitVec 32 := Scalar.subi c1_i32_21 v42
  let v51 : BitVec 32 := Scalar.select v49 v42 v50
  let v55 : BitVec 32 := Scalar.addi v54 v51
  let c1_i32_789 : BitVec 32 := 1#32
  let v1032 : BitVec 32 := Scalar.muli v55 c1_i32_789
  let v1033 : BitVec 32 := Scalar.addi c0_i32_790 v1032
  v1033.toNat
def k0_dev36 (d0 : Dev nD) : Nat :=
  let c0_i32_796 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_28 : BitVec 32 := 8#32
  let v62 : BitVec 32 := Scalar.muli v19 c8_i32_28
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v56 : BitVec 32 := Scalar.addi v37 c3_i32
  let c4_i32_24 : BitVec 32 := 4#32
  let v57 : BitVec 32 := Scalar.remsi v56 c4_i32_24
  let c2_i32_29 : BitVec 32 := 2#32
  let v63 : BitVec 32 := Scalar.muli v57 c2_i32_29
  let v64 : BitVec 32 := Scalar.addi v62 v63
  let c2_i32_25 : BitVec 32 := 2#32
  let v58 : BitVec 32 := Scalar.remsi v57 c2_i32_25
  let c0_i32_26 : BitVec 32 := 0#32
  let v59 : BitVec 1 := Scalar.cmpi .eq v58 c0_i32_26
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_27 : BitVec 32 := 1#32
  let v60 : BitVec 32 := Scalar.subi c1_i32_27 v42
  let v61 : BitVec 32 := Scalar.select v59 v42 v60
  let v65 : BitVec 32 := Scalar.addi v64 v61
  let c1_i32_795 : BitVec 32 := 1#32
  let v1040 : BitVec 32 := Scalar.muli v65 c1_i32_795
  let v1041 : BitVec 32 := Scalar.addi c0_i32_796 v1040
  v1041.toNat
def k0_off34 (d0 : Dev nD) (c1_i32_454 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c512_i32 : BitVec 32 := 512#32
  let v70 : BitVec 32 := Scalar.muli v42 c512_i32
  let v638 : BitVec 32 := Scalar.addi v37 c1_i32_454
  let c4_i32_455 : BitVec 32 := 4#32
  let v639 : BitVec 32 := Scalar.remsi v638 c4_i32_455
  let c128_i32_456 : BitVec 32 := 128#32
  let v640 : BitVec 32 := Scalar.muli v639 c128_i32_456
  let v641 : BitVec 32 := Scalar.addi v70 v640
  let c0_i32_815 : BitVec 32 := 0#32
  ![v641.toNat, 0]
def k0_dev37 (d0 : Dev nD) : Nat :=
  let c0_i32_814 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_16 : BitVec 32 := 1#32
  let v43 : BitVec 32 := Scalar.addi v2 c1_i32_16
  let c2_i32_17 : BitVec 32 := 2#32
  let c8_i32_5 : BitVec 32 := 8#32
  let v20 : BitVec 32 := Scalar.remsi v2 c8_i32_5
  let c2_i32_12 : BitVec 32 := 2#32
  let v38 : BitVec 32 := Scalar.remsi v20 c2_i32_12
  let v44 : BitVec 32 := Scalar.muli c2_i32_17 v38
  let v45 : BitVec 32 := Scalar.subi v43 v44
  let c1_i32_813 : BitVec 32 := 1#32
  let v1060 : BitVec 32 := Scalar.muli v45 c1_i32_813
  let v1061 : BitVec 32 := Scalar.addi c0_i32_814 v1060
  v1061.toNat
def k0_dev38 (d0 : Dev nD) : Nat :=
  let c0_i32_820 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_16 : BitVec 32 := 1#32
  let v43 : BitVec 32 := Scalar.addi v2 c1_i32_16
  let c2_i32_17 : BitVec 32 := 2#32
  let c8_i32_5 : BitVec 32 := 8#32
  let v20 : BitVec 32 := Scalar.remsi v2 c8_i32_5
  let c2_i32_12 : BitVec 32 := 2#32
  let v38 : BitVec 32 := Scalar.remsi v20 c2_i32_12
  let v44 : BitVec 32 := Scalar.muli c2_i32_17 v38
  let v45 : BitVec 32 := Scalar.subi v43 v44
  let c1_i32_819 : BitVec 32 := 1#32
  let v1068 : BitVec 32 := Scalar.muli v45 c1_i32_819
  let v1069 : BitVec 32 := Scalar.addi c0_i32_820 v1068
  v1069.toNat
def k0_dev39 (d0 : Dev nD) : Nat :=
  let c0_i32_836 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_22 : BitVec 32 := 8#32
  let v52 : BitVec 32 := Scalar.muli v19 c8_i32_22
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c1_i32_18 : BitVec 32 := 1#32
  let v46 : BitVec 32 := Scalar.addi v37 c1_i32_18
  let c4_i32 : BitVec 32 := 4#32
  let v47 : BitVec 32 := Scalar.remsi v46 c4_i32
  let c2_i32_23 : BitVec 32 := 2#32
  let v53 : BitVec 32 := Scalar.muli v47 c2_i32_23
  let v54 : BitVec 32 := Scalar.addi v52 v53
  let c2_i32_19 : BitVec 32 := 2#32
  let v48 : BitVec 32 := Scalar.remsi v47 c2_i32_19
  let c0_i32_20 : BitVec 32 := 0#32
  let v49 : BitVec 1 := Scalar.cmpi .eq v48 c0_i32_20
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_21 : BitVec 32 := 1#32
  let v50 : BitVec 32 := Scalar.subi c1_i32_21 v42
  let v51 : BitVec 32 := Scalar.select v49 v42 v50
  let v55 : BitVec 32 := Scalar.addi v54 v51
  let c1_i32_835 : BitVec 32 := 1#32
  let v1088 : BitVec 32 := Scalar.muli v55 c1_i32_835
  let v1089 : BitVec 32 := Scalar.addi c0_i32_836 v1088
  v1089.toNat
def k0_dev40 (d0 : Dev nD) : Nat :=
  let c0_i32_842 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_28 : BitVec 32 := 8#32
  let v62 : BitVec 32 := Scalar.muli v19 c8_i32_28
  let c8_i32_5 : BitVec 32 := 8#32
  let v20 : BitVec 32 := Scalar.remsi v2 c8_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c3_i32 : BitVec 32 := 3#32
  let v56 : BitVec 32 := Scalar.addi v37 c3_i32
  let c4_i32_24 : BitVec 32 := 4#32
  let v57 : BitVec 32 := Scalar.remsi v56 c4_i32_24
  let c2_i32_29 : BitVec 32 := 2#32
  let v63 : BitVec 32 := Scalar.muli v57 c2_i32_29
  let v64 : BitVec 32 := Scalar.addi v62 v63
  let c2_i32_25 : BitVec 32 := 2#32
  let v58 : BitVec 32 := Scalar.remsi v57 c2_i32_25
  let c0_i32_26 : BitVec 32 := 0#32
  let v59 : BitVec 1 := Scalar.cmpi .eq v58 c0_i32_26
  let c2_i32_13 : BitVec 32 := 2#32
  let v39 : BitVec 32 := Scalar.remsi v37 c2_i32_13
  let c0_i32_14 : BitVec 32 := 0#32
  let v40 : BitVec 1 := Scalar.cmpi .eq v39 c0_i32_14
  let c2_i32_12 : BitVec 32 := 2#32
  let v38 : BitVec 32 := Scalar.remsi v20 c2_i32_12
  let c1_i32_15 : BitVec 32 := 1#32
  let v41 : BitVec 32 := Scalar.subi c1_i32_15 v38
  let v42 : BitVec 32 := Scalar.select v40 v38 v41
  let c1_i32_27 : BitVec 32 := 1#32
  let v60 : BitVec 32 := Scalar.subi c1_i32_27 v42
  let v61 : BitVec 32 := Scalar.select v59 v42 v60
  let v65 : BitVec 32 := Scalar.addi v64 v61
  let c1_i32_841 : BitVec 32 := 1#32
  let v1096 : BitVec 32 := Scalar.muli v65 c1_i32_841
  let v1097 : BitVec 32 := Scalar.addi c0_i32_842 v1096
  v1097.toNat
def k0_dev41 (d0 : Dev nD) : Nat :=
  let c0_i32_861 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_16 : BitVec 32 := 1#32
  let v43 : BitVec 32 := Scalar.addi v2 c1_i32_16
  let c2_i32_17 : BitVec 32 := 2#32
  let c8_i32_5 : BitVec 32 := 8#32
  let v20 : BitVec 32 := Scalar.remsi v2 c8_i32_5
  let c2_i32_12 : BitVec 32 := 2#32
  let v38 : BitVec 32 := Scalar.remsi v20 c2_i32_12
  let v44 : BitVec 32 := Scalar.muli c2_i32_17 v38
  let v45 : BitVec 32 := Scalar.subi v43 v44
  let c1_i32_860 : BitVec 32 := 1#32
  let v1118 : BitVec 32 := Scalar.muli v45 c1_i32_860
  let v1119 : BitVec 32 := Scalar.addi c0_i32_861 v1118
  v1119.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x1024 : Shape := ⟨2, ![1024, 1024]⟩
abbrev S1024x65536 : Shape := ⟨2, ![1024, 65536]⟩
abbrev S65536x1024 : Shape := ⟨2, ![65536, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x65536, .f32⟩
  | .hbm, ⟨2, _⟩ => ⟨S65536x1024, .f32⟩
  | .hbm, ⟨3, _⟩ => ⟨S1024x65536, .f32⟩
  | .hbm, ⟨4, _⟩ => ⟨S_, .f32⟩
  | .hbm, ⟨5, _⟩ => ⟨S1024x65536, .f32⟩
  | .hbm, ⟨6, _⟩ => ⟨S1024x65536, .f32⟩
  | .hbm, ⟨7, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.Geo.lean ====
module

public import proofs.«01_k».proof.Proof.Gen.KernelIdeal

/-!
The mesh of 32 devices as the kernel uses it: a device's coordinates, its neighbours, the 36 remote
copies (`Xf`) with their targets, and the closed forms of the device ids and offsets the program computes.

Device `8z + 2y + r` sits at `(x, y, z)` with `x = r` on even `y` and `x = 1 - r` on odd `y`.
The direction `h = false` (the left 512 columns) sends upwards around the rings, `h = true`
(the right 512 columns) downwards.
-/

@[expose] public section

set_option maxRecDepth 20000

namespace Cert.AllReduce

open Idealize.ShloMosaic Cert.KernelIdeal Cert.KernelIdeal.Facts₀

/-- The devices. -/
abbrev D := Dev nD

/-- The coordinates of a device. -/
def zc (c : D) : Fin 4 := ⟨c.val / 8, by have h : c.val < 32 := c.isLt; omega⟩
/-- The coordinate along `y`. -/
def yc (c : D) : Fin 4 := ⟨c.val % 8 / 2, by omega⟩
/-- The coordinate along `x`. -/
def xc (c : D) : Fin 2 := ⟨(c.val % 2 + c.val % 4 / 2) % 2, by omega⟩

/-- The device at given coordinates. -/
def dv (x : Fin 2) (y z : Fin 4) : D :=
  ⟨8 * z.val + 2 * y.val + (x.val + y.val) % 2, by
    show _ < 32
    have := z.isLt; have := y.isLt; omega⟩

/-- One step of direction `h` on a ring of four. -/
def sg : Bool → Fin 4
  | false => 1
  | true => 3

/-- The partner along `x`, and the next device in direction `h` along `y` and along `z`. -/
def xp (c : D) : D := dv (xc c + 1) (yc c) (zc c)
/-- The neighbour along `y` in direction `h`. -/
def dy (h : Bool) (c : D) : D := dv (xc c) (yc c + sg h) (zc c)
/-- The neighbour along `z` in direction `h`. -/
def dz (h : Bool) (c : D) : D := dv (xc c) (yc c) (zc c + sg h)

/-- The partner along `x` has the other coordinate along `x`. -/
theorem xc_xp : ∀ c : D, xc (xp c) = xc c + 1 := by decide +kernel
/-- The partner along `x` has the same coordinate along `y`. -/
theorem yc_xp : ∀ c : D, yc (xp c) = yc c := by decide +kernel
/-- The partner along `x` has the same coordinate along `z`. -/
theorem zc_xp : ∀ c : D, zc (xp c) = zc c := by decide +kernel
/-- A step along `y` leaves the coordinate along `x`. -/
theorem xc_dy : ∀ (h : Bool) (c : D), xc (dy h c) = xc c := by decide +kernel
/-- A step along `y` in direction `h` moves the coordinate along `y` by its sign. -/
theorem yc_dy : ∀ (h : Bool) (c : D), yc (dy h c) = yc c + sg h := by decide +kernel
/-- A step along `y` leaves the coordinate along `z`. -/
theorem zc_dy : ∀ (h : Bool) (c : D), zc (dy h c) = zc c := by decide +kernel
/-- A step along `z` leaves the coordinate along `x`. -/
theorem xc_dz : ∀ (h : Bool) (c : D), xc (dz h c) = xc c := by decide +kernel
/-- A step along `z` leaves the coordinate along `y`. -/
theorem yc_dz : ∀ (h : Bool) (c : D), yc (dz h c) = yc c := by decide +kernel
/-- A step along `z` in direction `h` moves the coordinate along `z` by its sign. -/
theorem zc_dz : ∀ (h : Bool) (c : D), zc (dz h c) = zc c + sg h := by decide +kernel
/-- The partner of the partner is the device itself. -/
theorem xp_xp : ∀ c : D, xp (xp c) = c := by decide +kernel
/-- A step along `y` undoes the step in the other direction. -/
theorem dy_back : ∀ (h : Bool) (c : D), dy h (dy (!h) c) = c := by decide +kernel
/-- A step along `y` is undone by the step in the other direction. -/
theorem dy_forth : ∀ (h : Bool) (c : D), dy (!h) (dy h c) = c := by decide +kernel
/-- A step along `z` undoes the step in the other direction. -/
theorem dz_back : ∀ (h : Bool) (c : D), dz h (dz (!h) c) = c := by decide +kernel
/-- A step along `z` is undone by the step in the other direction. -/
theorem dz_forth : ∀ (h : Bool) (c : D), dz (!h) (dz h c) = c := by decide +kernel
/-- Three steps along `y` are one step back. -/
theorem dy_four : ∀ (h : Bool) (c : D), dy h (dy h (dy h c)) = dy (!h) c := by decide +kernel
/-- Two steps along `y` lead to the same device in both directions. -/
theorem dy_two : ∀ (h : Bool) (c : D), dy h (dy h c) = dy (!h) (dy (!h) c) := by decide +kernel
/-- Two steps along `z` lead to the same device in both directions. -/
theorem dz_two : ∀ (h : Bool) (c : D), dz h (dz h c) = dz (!h) (dz (!h) c) := by decide +kernel
/-- Three steps along `z` are one step back. -/
theorem dz_four : ∀ (h : Bool) (c : D), dz h (dz h (dz h c)) = dz (!h) c := by decide +kernel
/-- The device at a device's coordinates is that device. -/
theorem dv_coord : ∀ c : D, dv (xc c) (yc c) (zc c) = c := by decide +kernel
/-- The coordinates of the device at given coordinates are these. -/
theorem coord_dv : ∀ (x : Fin 2) (y z : Fin 4),
    xc (dv x y z) = x ∧ yc (dv x y z) = y ∧ zc (dv x y z) = z := by decide +kernel

/-- The remote copies: the exchange along `x` (8 pieces), the ring reductions along `y` and `z`, the
    ring gathers along `z` and `y`, and the gather along `x` (4 pieces). -/
inductive Xf
  | rx (j : Fin 8)
  | ry (h : Bool) (s : Fin 3)
  | rz (h : Bool) (s : Fin 3)
  | gz (h : Bool) (t : Fin 3)
  | gy (h : Bool) (t : Fin 3)
  | gx (t : Fin 4)
  deriving DecidableEq

/-- The remote copies in the order each device starts them. -/
def ord : List Xf :=
  [.rx 0, .rx 1, .rx 2, .rx 3, .rx 4, .rx 5, .rx 6, .rx 7,
   .ry false 0, .ry true 0, .ry false 1, .ry true 1, .ry false 2, .ry true 2,
   .rz false 0, .rz true 0, .rz false 1, .rz true 1, .rz false 2, .rz true 2,
   .gz false 0, .gz true 0, .gz false 1, .gz true 1, .gz false 2, .gz true 2,
   .gy false 0, .gy true 0, .gx 0, .gy false 1, .gy true 1, .gx 1, .gx 2, .gy false 2, .gy true 2, .gx 3]

/-- The order in which each device waits for the copies that come in. -/
def wrd : List Xf :=
  [.rx 0, .rx 1, .rx 2, .ry false 0, .rx 3, .ry true 0, .rx 4, .ry false 1, .rx 5, .ry true 1,
   .ry false 2, .rx 6, .ry true 2, .rx 7,
   .rz false 0, .rz true 0, .rz false 1, .rz true 1, .rz false 2, .rz true 2,
   .gz false 0, .gz true 0, .gz false 1, .gz true 1, .gz false 2, .gz true 2,
   .gy false 0, .gy true 0, .gy false 1, .gy true 1, .gy false 2, .gy true 2, .gx 0, .gx 1, .gx 2, .gx 3]

/-- Every copy has a place in the first order. -/
theorem mem_ord : ∀ j : Xf, j ∈ ord := by
  intro j
  cases j with
  | rx j => revert j; decide
  | ry h s => revert h s; decide
  | rz h s => revert h s; decide
  | gz h s => revert h s; decide
  | gy h s => revert h s; decide
  | gx j => revert j; decide

instance : Fintype Xf := ⟨⟨ord, by decide⟩, fun j => by simpa using mem_ord j⟩

/-- No copy is started twice. -/
theorem ord_nodup : ord.Nodup := by decide
/-- No arrival is waited for twice. -/
theorem wrd_nodup : wrd.Nodup := by decide
/-- Every copy's arrival has a place in the order of waits. -/
theorem mem_wrd : ∀ j : Xf, j ∈ wrd := by decide
/-- Every copy is in the reversed order of starts. -/
theorem mem_rev : ∀ j : Xf, j ∈ ord.reverse := by simp [mem_ord]

/-- The place of a copy in the order of starts. -/
def rk (j : Xf) : ℕ := ord.idxOf j

/-- The device a copy of device `c` goes to. -/
def tg : Xf → D → D
  | .rx _, c => xp c
  | .ry h _, c => dy h c
  | .rz h _, c => dz h c
  | .gz h _, c => dz h c
  | .gy h _, c => dy h c
  | .gx _, c => xp c

/-- The device a copy into device `c` comes from. -/
def sr : Xf → D → D
  | .rx _, c => xp c
  | .ry h _, c => dy (!h) c
  | .rz h _, c => dz (!h) c
  | .gz h _, c => dz (!h) c
  | .gy h _, c => dy (!h) c
  | .gx _, c => xp c

/-- The source of what a device sends is that device. -/
theorem sr_tg (j : Xf) (c : D) : sr j (tg j c) = c := by
  cases j <;> simp [sr, tg, xp_xp, dy_forth, dz_forth]
/-- What comes into a device was sent to it. -/
theorem tg_sr (j : Xf) (c : D) : tg j (sr j c) = c := by
  cases j <;> simp [sr, tg, xp_xp, dy_back, dz_back]

/-- Each copy's target as a permutation of the devices. -/
def tgE (j : Xf) : D ≃ D := ⟨tg j, sr j, sr_tg j, tg_sr j⟩

/-- The block of rows piece `j` of the exchange along `x` is about, and its half of the columns. -/
def kx : Fin 8 → Fin 4 := ![0, 0, 3, 1, 2, 2, 1, 3]
/-- The block of rows piece `j` of the exchange along `x` carries on device `c`. -/
def rb (j : Fin 8) (c : D) : Fin 4 := yc c + kx j
/-- The half of the columns piece `j` of the exchange along `x` carries. -/
def rh (j : Fin 8) : Bool := (![false, true, false, true, false, true, false, true] : Fin 8 → Bool) j
/-- The block of rows piece `t` of the gather along `x` is about. -/
def kg : Fin 4 → Fin 4 := ![0, 1, 3, 2]
/-- The block of rows copy `t` of the gather along `x` carries on device `c`. -/
def gb (t : Fin 4) (c : D) : Fin 4 := yc c + kg t
/-- How far back `n` steps against direction `h` lead on a ring of four. -/
def ks (h : Bool) (n : ℕ) : Fin 4 := -(sg h * Fin.ofNat 4 n)

/-- `0`, `1`, `2` as elements of the ring of four. -/
def f4 (s : Fin 3) : Fin 4 := s.castSucc

/-- The first row of a block, of a chunk of a block, and the first column of a half. -/
def R0 (x : Fin 2) (b : Fin 4) : ℕ := 512 * x.val + 128 * b.val
/-- The first row of a chunk of a block. -/
def K0 (x : Fin 2) (b k : Fin 4) : ℕ := 512 * x.val + 128 * b.val + 32 * k.val
/-- The first column of a half. -/
def C0 (h : Bool) : ℕ := if h then 512 else 0

/-! ### Device ids -/

/-- The printed target of the first signal: the partner along `x`. -/
theorem dev1_eq : ∀ c : D, (⟨k0_dev1 c, k0_dev1_lt c⟩ : D) = xp c := by decide +kernel
/-- The printed target of a signal: the neighbour along `y` in direction `false`. -/
theorem dev2_eq : ∀ c : D, (⟨k0_dev2 c, k0_dev2_lt c⟩ : D) = dy false c := by decide +kernel
/-- The printed target of a signal: the neighbour along `y` in direction `true`. -/
theorem dev3_eq : ∀ c : D, (⟨k0_dev3 c, k0_dev3_lt c⟩ : D) = dy true c := by decide +kernel
/-- The printed target of a signal: the neighbour along `z` in direction `false`. -/
theorem dev4_eq : ∀ c : D, (⟨k0_dev4 c, k0_dev4_lt c⟩ : D) = dz false c := by decide +kernel
/-- The printed target of a signal: the neighbour along `z` in direction `true`. -/
theorem dev5_eq : ∀ c : D, (⟨k0_dev5 c, k0_dev5_lt c⟩ : D) = dz true c := by decide +kernel
/-- The printed target of copy 0 of the exchange along `x`. -/
theorem dev6_eq : ∀ c : D, (⟨k0_dev6 c, k0_dev6_lt c⟩ : D) = tg (.rx 0) c := by decide +kernel
/-- The printed target of copy 1 of the exchange along `x`. -/
theorem dev7_eq : ∀ c : D, (⟨k0_dev7 c, k0_dev7_lt c⟩ : D) = tg (.rx 1) c := by decide +kernel
/-- The printed target of copy 2 of the exchange along `x`. -/
theorem dev8_eq : ∀ c : D, (⟨k0_dev8 c, k0_dev8_lt c⟩ : D) = tg (.rx 2) c := by decide +kernel
/-- The printed target of copy 3 of the exchange along `x`. -/
theorem dev9_eq : ∀ c : D, (⟨k0_dev9 c, k0_dev9_lt c⟩ : D) = tg (.rx 3) c := by decide +kernel
/-- The printed target of copy 4 of the exchange along `x`. -/
theorem dev10_eq : ∀ c : D, (⟨k0_dev10 c, k0_dev10_lt c⟩ : D) = tg (.rx 4) c := by decide +kernel
/-- The printed target of copy 5 of the exchange along `x`. -/
theorem dev11_eq : ∀ c : D, (⟨k0_dev11 c, k0_dev11_lt c⟩ : D) = tg (.rx 5) c := by decide +kernel
/-- The printed target of copy 6 of the exchange along `x`. -/
theorem dev12_eq : ∀ c : D, (⟨k0_dev12 c, k0_dev12_lt c⟩ : D) = tg (.rx 6) c := by decide +kernel
/-- The printed target of copy 7 of the exchange along `x`. -/
theorem dev13_eq : ∀ c : D, (⟨k0_dev13 c, k0_dev13_lt c⟩ : D) = tg (.rx 7) c := by decide +kernel
/-- The printed target of copy 0 of the reduction ring along `y`, left half. -/
theorem dev14_eq : ∀ c : D, (⟨k0_dev14 c, k0_dev14_lt c⟩ : D) = tg (.ry false 0) c := by decide +kernel
/-- The printed target of copy 0 of the reduction ring along `y`, right half. -/
theorem dev15_eq : ∀ c : D, (⟨k0_dev15 c, k0_dev15_lt c⟩ : D) = tg (.ry true 0) c := by decide +kernel
/-- The printed target of copy 1 of the reduction ring along `y`, left half. -/
theorem dev16_eq : ∀ c : D, (⟨k0_dev16 c, k0_dev16_lt c⟩ : D) = tg (.ry false 1) c := by decide +kernel
/-- The printed target of copy 1 of the reduction ring along `y`, right half. -/
theorem dev17_eq : ∀ c : D, (⟨k0_dev17 c, k0_dev17_lt c⟩ : D) = tg (.ry true 1) c := by decide +kernel
/-- The printed target of copy 2 of the reduction ring along `y`, left half. -/
theorem dev18_eq : ∀ c : D, (⟨k0_dev18 c, k0_dev18_lt c⟩ : D) = tg (.ry false 2) c := by decide +kernel
/-- The printed target of copy 2 of the reduction ring along `y`, right half. -/
theorem dev19_eq : ∀ c : D, (⟨k0_dev19 c, k0_dev19_lt c⟩ : D) = tg (.ry true 2) c := by decide +kernel
/-- The printed target of copy 0 of the reduction ring along `z`, left half. -/
theorem dev20_eq : ∀ c : D, (⟨k0_dev20 c, k0_dev20_lt c⟩ : D) = tg (.rz false 0) c := by decide +kernel
/-- The printed target of copy 0 of the reduction ring along `z`, right half. -/
theorem dev21_eq : ∀ c : D, (⟨k0_dev21 c, k0_dev21_lt c⟩ : D) = tg (.rz true 0) c := by decide +kernel
/-- The printed target of copy 1 of the reduction ring along `z`, left half. -/
theorem dev22_eq : ∀ c : D, (⟨k0_dev22 c, k0_dev22_lt c⟩ : D) = tg (.rz false 1) c := by decide +kernel
/-- The printed target of copy 1 of the reduction ring along `z`, right half. -/
theorem dev23_eq : ∀ c : D, (⟨k0_dev23 c, k0_dev23_lt c⟩ : D) = tg (.rz true 1) c := by decide +kernel
/-- The printed target of copy 2 of the reduction ring along `z`, left half. -/
theorem dev24_eq : ∀ c : D, (⟨k0_dev24 c, k0_dev24_lt c⟩ : D) = tg (.rz false 2) c := by decide +kernel
/-- The printed target of copy 2 of the reduction ring along `z`, right half. -/
theorem dev25_eq : ∀ c : D, (⟨k0_dev25 c, k0_dev25_lt c⟩ : D) = tg (.rz true 2) c := by decide +kernel
/-- The printed target of copy 0 of the gather along `z`, left half. -/
theorem dev26_eq : ∀ c : D, (⟨k0_dev26 c, k0_dev26_lt c⟩ : D) = tg (.gz false 0) c := by decide +kernel
/-- The printed target of copy 0 of the gather along `z`, right half. -/
theorem dev27_eq : ∀ c : D, (⟨k0_dev27 c, k0_dev27_lt c⟩ : D) = tg (.gz true 0) c := by decide +kernel
/-- The printed target of copy 1 of the gather along `z`, left half. -/
theorem dev28_eq : ∀ c : D, (⟨k0_dev28 c, k0_dev28_lt c⟩ : D) = tg (.gz false 1) c := by decide +kernel
/-- The printed target of copy 1 of the gather along `z`, right half. -/
theorem dev29_eq : ∀ c : D, (⟨k0_dev29 c, k0_dev29_lt c⟩ : D) = tg (.gz true 1) c := by decide +kernel
/-- The printed target of copy 2 of the gather along `z`, left half. -/
theorem dev30_eq : ∀ c : D, (⟨k0_dev30 c, k0_dev30_lt c⟩ : D) = tg (.gz false 2) c := by decide +kernel
/-- The printed target of copy 2 of the gather along `z`, right half. -/
theorem dev31_eq : ∀ c : D, (⟨k0_dev31 c, k0_dev31_lt c⟩ : D) = tg (.gz true 2) c := by decide +kernel
/-- The printed target of copy 0 of the gather along `y`, left half. -/
theorem dev32_eq : ∀ c : D, (⟨k0_dev32 c, k0_dev32_lt c⟩ : D) = tg (.gy false 0) c := by decide +kernel
/-- The printed target of copy 0 of the gather along `y`, right half. -/
theorem dev33_eq : ∀ c : D, (⟨k0_dev33 c, k0_dev33_lt c⟩ : D) = tg (.gy true 0) c := by decide +kernel
/-- The printed target of copy 0 of the gather along `x`. -/
theorem dev34_eq : ∀ c : D, (⟨k0_dev34 c, k0_dev34_lt c⟩ : D) = tg (.gx 0) c := by decide +kernel
/-- The printed target of copy 1 of the gather along `y`, left half. -/
theorem dev35_eq : ∀ c : D, (⟨k0_dev35 c, k0_dev35_lt c⟩ : D) = tg (.gy false 1) c := by decide +kernel
/-- The printed target of copy 1 of the gather along `y`, right half. -/
theorem dev36_eq : ∀ c : D, (⟨k0_dev36 c, k0_dev36_lt c⟩ : D) = tg (.gy true 1) c := by decide +kernel
/-- The printed target of copy 1 of the gather along `x`. -/
theorem dev37_eq : ∀ c : D, (⟨k0_dev37 c, k0_dev37_lt c⟩ : D) = tg (.gx 1) c := by decide +kernel
/-- The printed target of copy 2 of the gather along `x`. -/
theorem dev38_eq : ∀ c : D, (⟨k0_dev38 c, k0_dev38_lt c⟩ : D) = tg (.gx 2) c := by decide +kernel
/-- The printed target of copy 2 of the gather along `y`, left half. -/
theorem dev39_eq : ∀ c : D, (⟨k0_dev39 c, k0_dev39_lt c⟩ : D) = tg (.gy false 2) c := by decide +kernel
/-- The printed target of copy 2 of the gather along `y`, right half. -/
theorem dev40_eq : ∀ c : D, (⟨k0_dev40 c, k0_dev40_lt c⟩ : D) = tg (.gy true 2) c := by decide +kernel
/-- The printed target of copy 3 of the gather along `x`. -/
theorem dev41_eq : ∀ c : D, (⟨k0_dev41 c, k0_dev41_lt c⟩ : D) = tg (.gx 3) c := by decide +kernel

/-! ### Offsets -/

/-- A printed offset: a block of the other half of the result's rows, whole rows. -/
theorem off1_eq : ∀ (c : D), k0_off1 c = ![R0 (xc c + 1) (yc c + 0), 0] := by decide +kernel
/-- A printed offset: a block of the landing buffer along `x`, left half of the columns. -/
theorem off2_eq : ∀ (c : D), k0_off2 c = ![128 * (rb 0 c).val, C0 false] := by decide +kernel
/-- A printed offset: a block of the other half of the result's rows, left half of the columns. -/
theorem off3_eq : ∀ (c : D), k0_off3 c = ![R0 (xc c + 1) (rb 0 c), C0 false] := by decide +kernel
/-- A printed offset: a block of the landing buffer along `x`, right half of the columns. -/
theorem off4_eq : ∀ (c : D), k0_off4 c = ![128 * (rb 1 c).val, C0 true] := by decide +kernel
/-- A printed offset: a block of the other half of the result's rows, right half of the columns. -/
theorem off5_eq : ∀ (c : D), k0_off5 c = ![R0 (xc c + 1) (rb 1 c), C0 true] := by decide +kernel
/-- A printed offset: a block of the other half of the result's rows, whole rows. -/
theorem off6_eq : ∀ (r : Fin 3) (c : D), k0_off6 c (BitVec.ofNat 32 (1 + r.val)) = ![R0 (xc c + 1) (yc c + (1 + f4 r)), 0] := by decide +kernel
/-- A printed offset: a block of the landing buffer along `x`, left half of the columns. -/
theorem off7_eq : ∀ (r : Fin 3) (c : D), k0_off7 c (BitVec.ofNat 32 (1 + r.val)) = ![128 * (yc c + (1 + f4 r)).val, C0 false] := by decide +kernel
/-- A printed offset: a block of the other half of the result's rows, left half of the columns. -/
theorem off8_eq : ∀ (r : Fin 3) (c : D), k0_off8 c (BitVec.ofNat 32 (1 + r.val)) = ![R0 (xc c + 1) (yc c + (1 + f4 r)), C0 false] := by decide +kernel
/-- A printed offset: a block of the landing buffer along `x`, right half of the columns. -/
theorem off9_eq : ∀ (r : Fin 3) (c : D), k0_off9 c (BitVec.ofNat 32 (1 + r.val)) = ![128 * (yc c + (1 + f4 r)).val, C0 true] := by decide +kernel
/-- A printed offset: a block of the other half of the result's rows, right half of the columns. -/
theorem off10_eq : ∀ (r : Fin 3) (c : D), k0_off10 c (BitVec.ofNat 32 (1 + r.val)) = ![R0 (xc c + 1) (yc c + (1 + f4 r)), C0 true] := by decide +kernel
/-- A printed offset: a block of the own half of the result's rows, whole rows. -/
theorem off11_eq : ∀ (c : D), k0_off11 c = ![R0 (xc c) (yc c + 0), 0] := by decide +kernel
/-- A printed offset: a block of the own half of the result's rows, left half of the columns. -/
theorem off12_eq : ∀ (c : D), k0_off12 c = ![R0 (xc c) (yc c + 0), C0 false] := by decide +kernel
/-- A printed offset: a block of the landing buffer along `x`, left half of the columns. -/
theorem off13_eq : ∀ (c : D), k0_off13 c = ![128 * (yc c + 0).val, C0 false] := by decide +kernel
/-- A printed offset: a block of the own half of the result's rows, right half of the columns. -/
theorem off14_eq : ∀ (c : D), k0_off14 c = ![R0 (xc c) (yc c + 0), C0 true] := by decide +kernel
/-- A printed offset: a block of the landing buffer along `x`, right half of the columns. -/
theorem off15_eq : ∀ (c : D), k0_off15 c = ![128 * (yc c + 0).val, C0 true] := by decide +kernel
/-- A printed offset: a block of the own half of the result's rows, left half of the columns. -/
theorem off16_eq : ∀ (s : Fin 3) (c : D), k0_off16 c (BitVec.ofNat 32 s.val) = ![R0 (xc c) (yc c + ks false s.val), C0 false] := by decide +kernel
/-- A printed offset: a block of the own half of the result's rows, right half of the columns. -/
theorem off17_eq : ∀ (s : Fin 3) (c : D), k0_off17 c (BitVec.ofNat 32 s.val) = ![R0 (xc c) (yc c + ks true s.val), C0 true] := by decide +kernel
/-- A printed offset: a block of the own half of the result's rows, whole rows. -/
theorem off18_eq : ∀ (r : Fin 3) (c : D), k0_off18 c (BitVec.ofNat 32 (1 + r.val)) = ![R0 (xc c) (yc c + (1 + f4 r)), 0] := by decide +kernel
/-- A printed offset: a block of the own half of the result's rows, left half of the columns. -/
theorem off19_eq : ∀ (r : Fin 3) (c : D), k0_off19 c (BitVec.ofNat 32 (1 + r.val)) = ![R0 (xc c) (yc c + (1 + f4 r)), C0 false] := by decide +kernel
/-- A printed offset: a block of the landing buffer along `x`, left half of the columns. -/
theorem off20_eq : ∀ (r : Fin 3) (c : D), k0_off20 c (BitVec.ofNat 32 (1 + r.val)) = ![128 * (yc c + (1 + f4 r)).val, C0 false] := by decide +kernel
/-- A printed offset: a block of the own half of the result's rows, left half of the columns. -/
theorem off21_eq : ∀ (s : Fin 3) (c : D), k0_off21 c (BitVec.ofNat 32 s.val) = ![R0 (xc c) (yc c + ks false (s.val + 1)), C0 false] := by decide +kernel
/-- A printed offset: a block of the own half of the result's rows, right half of the columns. -/
theorem off22_eq : ∀ (r : Fin 3) (c : D), k0_off22 c (BitVec.ofNat 32 (1 + r.val)) = ![R0 (xc c) (yc c + (1 + f4 r)), C0 true] := by decide +kernel
/-- A printed offset: a block of the landing buffer along `x`, right half of the columns. -/
theorem off23_eq : ∀ (r : Fin 3) (c : D), k0_off23 c (BitVec.ofNat 32 (1 + r.val)) = ![128 * (yc c + (1 + f4 r)).val, C0 true] := by decide +kernel
/-- A printed offset: a block of the own half of the result's rows, right half of the columns. -/
theorem off24_eq : ∀ (s : Fin 3) (c : D), k0_off24 c (BitVec.ofNat 32 s.val) = ![R0 (xc c) (yc c + ks true (s.val + 1)), C0 true] := by decide +kernel
/-- A printed offset: a chunk of a block of the result, left half of the columns. -/
theorem off25_eq : ∀ (s : Fin 3) (c : D), k0_off25 c (BitVec.ofNat 32 s.val) = ![K0 (xc c) (yc c + sg false) (zc c + ks false s.val), C0 false] := by decide +kernel
/-- A printed offset: a chunk of a block of the result, right half of the columns. -/
theorem off26_eq : ∀ (s : Fin 3) (c : D), k0_off26 c (BitVec.ofNat 32 s.val) = ![K0 (xc c) (yc c + sg true) (zc c + ks true s.val), C0 true] := by decide +kernel
/-- A printed offset: a chunk of a block of the result, left half of the columns. -/
theorem off27_eq : ∀ (s : Fin 3) (c : D), k0_off27 c (BitVec.ofNat 32 s.val) = ![K0 (xc c) (yc c + sg false) (zc c + ks false (s.val + 1)), C0 false] := by decide +kernel
/-- A printed offset: a chunk of a block of the result, right half of the columns. -/
theorem off28_eq : ∀ (s : Fin 3) (c : D), k0_off28 c (BitVec.ofNat 32 s.val) = ![K0 (xc c) (yc c + sg true) (zc c + ks true (s.val + 1)), C0 true] := by decide +kernel
/-- A printed offset: a chunk of a block of the result, left half of the columns. -/
theorem off29_eq : ∀ (s : Fin 3) (c : D), k0_off29 c (BitVec.ofNat 32 s.val) = ![K0 (xc c) (yc c + sg false) (zc c + ks false (s.val + 3)), C0 false] := by decide +kernel
/-- A printed offset: a chunk of a block of the result, right half of the columns. -/
theorem off30_eq : ∀ (s : Fin 3) (c : D), k0_off30 c (BitVec.ofNat 32 s.val) = ![K0 (xc c) (yc c + sg true) (zc c + ks true (s.val + 3)), C0 true] := by decide +kernel
/-- A printed offset: a block of the own half of the result's rows, left half of the columns. -/
theorem off31_eq : ∀ (s : Fin 3) (c : D), k0_off31 c (BitVec.ofNat 32 s.val) = ![R0 (xc c) (yc c + ks false (s.val + 3)), C0 false] := by decide +kernel
/-- A printed offset: a block of the own half of the result's rows, right half of the columns. -/
theorem off32_eq : ∀ (s : Fin 3) (c : D), k0_off32 c (BitVec.ofNat 32 s.val) = ![R0 (xc c) (yc c + ks true (s.val + 3)), C0 true] := by decide +kernel
/-- A printed offset: a block of the own half of the result's rows, whole rows. -/
theorem off33_eq : ∀ (c : D), k0_off33 c = ![R0 (xc c) (yc c + 0), 0] := by decide +kernel
/-- A printed offset: a block of the own half of the result's rows, whole rows. -/
theorem off34_eq : ∀ (r : Fin 3) (c : D), k0_off34 c (BitVec.ofNat 32 (1 + r.val)) = ![R0 (xc c) (yc c + (1 + f4 r)), 0] := by decide +kernel

end Cert.AllReduce
-- ==== Proof.Sched.lean ====
module

public import proofs.«01_k».proof.Proof.Geo
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

/-!
The cross-device protocol: the cells (the barrier semaphore and the 72 DMA semaphores of each device), what
each cell's one round hands over, the contents of every buffer region handed over, and the levels.

Contents are functions of a row and a column of the `1024 × 1024` result.
* `Pl c`: device `c`'s own product `relu(x @ W1_c) @ W2_c`.
* `Sx c`: `Pl c` plus the partner's along `x`.
* `Ty h n c`: the sum of `Sx` over `c` and the `n` devices before it in direction `h` along `y`.
* `Tq h c`: the sum over all four devices of the ring along `y`, the last one's two summands added in the order it meets them.
* `Tz h n c`: the sum of `Tq h` over `c` and the `n` devices before it in direction `h` along `z`.
* `fin`: the total, as the device that owns a chunk after the reductions computes it.
-/

@[expose] public section

set_option maxRecDepth 20000

noncomputable section

namespace Cert.AllReduce

open Cert.KernelIdeal Cert.KernelIdeal.Gen
open Idealize.ShloMosaic
open Idealize.ShloMosaic.TcCoe
open Idealize.ShloMosaic.RefSig (tileCredit tileCredit_pos)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The protocol's resource algebra: one round per cell, duties named by `Fin 5`. -/
abbrev UB : Type := URounds (GSem nD τ sig) (Fin 5)
/-- The resource algebra: the pipeline's and the protocol's. -/
abbrev UU : Type := UR sig nD τ × UB

local notation "𝕄" => MT nD τ sig Unit (Elt F) ℕ UU ℕ

/-- The pipeline's part of the resources. -/
abbrev EP : Emb (UR sig nD τ) (MT nD τ sig Unit (Elt F) ℕ UU ℕ) := embL
/-- The protocol's part of the resources. -/
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ### Regions -/

/-- A box of rows and columns of a two-axis buffer. -/
def box (a b r nr c nc : ℕ) : Finset (⟨2, ![a, b]⟩ : Shape).Idx :=
  Finset.univ.filter fun i => r ≤ (i 0).val ∧ (i 0).val < r + nr ∧ c ≤ (i 1).val ∧ (i 1).val < c + nc

/-- A slot of a three-axis buffer. -/
def slot (a b d s : ℕ) : Finset (⟨3, ![a, b, d]⟩ : Shape).Idx :=
  Finset.univ.filter fun i => (i 0).val = s

/-- A block of 128 rows in a half of the columns; a chunk of 32 of its rows; a block of whole rows. -/
def Blk (x : Fin 2) (b : Fin 4) (h : Bool) : Finset S1024x1024.Idx := box 1024 1024 (R0 x b) 128 (C0 h) 512
/-- A chunk of 32 rows of a block, in a half of the columns. -/
def Chk (x : Fin 2) (b k : Fin 4) (h : Bool) : Finset S1024x1024.Idx := box 1024 1024 (K0 x b k) 32 (C0 h) 512
/-- A block of 128 whole rows. -/
def Row (x : Fin 2) (b : Fin 4) : Finset S1024x1024.Idx := box 1024 1024 (R0 x b) 128 0 1024

/-- The result buffer's elements `S` on device `c`, at share `q`, holding `g`. -/
def O (S : Finset S1024x1024.Idx) (q : PosShare TreeShare) (g : ℕ → ℕ → F .f32) (c : D) : sProp 𝕄 :=
  ((c : Thread nD τ).loc cc0_stg3_0) ↦[S]{q} (fun i : S1024x1024.Idx => g (i 0).val (i 1).val)

/-- The same with arbitrary contents. -/
def Oany (S : Finset S1024x1024.Idx) (c : D) : sProp 𝕄 :=
  iprop(∃ g : ℕ → ℕ → F .f32, O S fullShare g c)

/-- The landing buffer of the exchange along `x`. -/
def C4 (S : Finset S512x1024.Idx) (g : ℕ → ℕ → F .f32) (c : D) : sProp 𝕄 :=
  ((c : Thread nD τ).loc cc0_scratch0) ↦[S]{fullShare} (fun i : S512x1024.Idx => g (i 0).val (i 1).val)
/-- The landing buffer of the exchange along `x` at arbitrary contents. -/
def C4any (S : Finset S512x1024.Idx) (c : D) : sProp 𝕄 :=
  iprop(∃ f : Buf (Elt F) ((c : Thread nD τ).loc cc0_scratch0), ((c : Thread nD τ).loc cc0_scratch0) ↦[S]{fullShare} f)

/-- The landing buffers of the ring reductions: a slot of three, rows and columns counted from the block's origin. -/
def Cy (h : Bool) (S : Finset S3x128x512.Idx) (g : ℕ → ℕ → F .f32) (c : D) : sProp 𝕄 := match h with
  | false => ((c : Thread nD τ).loc cc0_scratch1) ↦[S]{fullShare} (fun i : S3x128x512.Idx => g (i 1).val (i 2).val)
  | true => ((c : Thread nD τ).loc cc0_scratch2) ↦[S]{fullShare} (fun i : S3x128x512.Idx => g (i 1).val (i 2).val)
/-- A landing buffer of the ring along `y` at arbitrary contents. -/
def Cyany (h : Bool) (S : Finset S3x128x512.Idx) (c : D) : sProp 𝕄 := match h with
  | false => iprop(∃ f : Buf (Elt F) ((c : Thread nD τ).loc cc0_scratch1), ((c : Thread nD τ).loc cc0_scratch1) ↦[S]{fullShare} f)
  | true => iprop(∃ f : Buf (Elt F) ((c : Thread nD τ).loc cc0_scratch2), ((c : Thread nD τ).loc cc0_scratch2) ↦[S]{fullShare} f)
/-- A landing buffer of the ring along `z`. -/
def Cz (h : Bool) (S : Finset S3x32x512.Idx) (g : ℕ → ℕ → F .f32) (c : D) : sProp 𝕄 := match h with
  | false => ((c : Thread nD τ).loc cc0_scratch3) ↦[S]{fullShare} (fun i : S3x32x512.Idx => g (i 1).val (i 2).val)
  | true => ((c : Thread nD τ).loc cc0_scratch4) ↦[S]{fullShare} (fun i : S3x32x512.Idx => g (i 1).val (i 2).val)
/-- A landing buffer of the ring along `z` at arbitrary contents. -/
def Czany (h : Bool) (S : Finset S3x32x512.Idx) (c : D) : sProp 𝕄 := match h with
  | false => iprop(∃ f : Buf (Elt F) ((c : Thread nD τ).loc cc0_scratch3), ((c : Thread nD τ).loc cc0_scratch3) ↦[S]{fullShare} f)
  | true => iprop(∃ f : Buf (Elt F) ((c : Thread nD τ).loc cc0_scratch4), ((c : Thread nD τ).loc cc0_scratch4) ↦[S]{fullShare} f)

instance (S q) (g : ℕ → ℕ → F .f32) (c : D) : BI.Storable (upEmb : UEmb _ 𝕄) (O S q g c) := by unfold O; infer_instance
instance (S) (c : D) : BI.Storable (upEmb : UEmb _ 𝕄) (Oany (F := F) S c) := by unfold Oany; infer_instance
instance (S) (g : ℕ → ℕ → F .f32) (c : D) : BI.Storable (upEmb : UEmb _ 𝕄) (C4 S g c) := by unfold C4; infer_instance
instance (S) (c : D) : BI.Storable (upEmb : UEmb _ 𝕄) (C4any (F := F) S c) := by unfold C4any; infer_instance
instance (h S) (g : ℕ → ℕ → F .f32) (c : D) : BI.Storable (upEmb : UEmb _ 𝕄) (Cy h S g c) := by
  cases h <;> (unfold Cy; infer_instance)
instance (h S) (c : D) : BI.Storable (upEmb : UEmb _ 𝕄) (Cyany (F := F) h S c) := by
  cases h <;> (unfold Cyany; infer_instance)
instance (h S) (g : ℕ → ℕ → F .f32) (c : D) : BI.Storable (upEmb : UEmb _ 𝕄) (Cz h S g c) := by
  cases h <;> (unfold Cz; infer_instance)
instance (h S) (c : D) : BI.Storable (upEmb : UEmb _ 𝕄) (Czany (F := F) h S c) := by
  cases h <;> (unfold Czany; infer_instance)

/-! ### Contents -/

/-- The staged operands of device `c`. -/
def xstg (c : D) : (cc0_stg0_0 : Ref sig .tc).ty.Contents (Elt F) :=
  (win0_0.blk (0 : Fin 1)).view.read (Elt F) ((s₀ m ρ).mem ((c : Thread nD τ).loc main_arg0))
/-- Device `c`'s staged block of the first weights. -/
def w1stg (c : D) : (cc0_stg1_0 : Ref sig .tc).ty.Contents (Elt F) :=
  (win0_1.blk (0 : Fin 1)).view.read (Elt F) ((s₀ m ρ).mem ((c : Thread nD τ).loc main_arg1))
/-- Device `c`'s staged block of the second weights. -/
def w2stg (c : D) : (cc0_stg2_0 : Ref sig .tc).ty.Contents (Elt F) :=
  (win0_2.blk (0 : Fin 1)).view.read (Elt F) ((s₀ m ρ).mem ((c : Thread nD τ).loc main_arg2))

/-- The index of a row and a column, wrapped into range. -/
def ix (r c : ℕ) : S1024x1024.Idx := fun a => match a with
  | ⟨0, _⟩ => ⟨r % 1024, Nat.mod_lt _ (by decide)⟩
  | ⟨1, _⟩ => ⟨c % 1024, Nat.mod_lt _ (by decide)⟩

/-- The 128 rows of `x` from row `r` on. -/
def xrows (c : D) (r : ℕ) : Vec F S128x1024 .f32 := fun i => xstg m ρ c (ix (r + (i 0).val) (i 1).val)

/-- The kernel's block product: 128 rows of `relu(x @ W1) @ W2`. -/
def mlp (x : Vec F S128x1024 .f32) (w1 : Vec F S1024x2048 .f32) (w2 : Vec F S2048x1024 .f32) : FVec F S128x1024 .f32 :=
  k0_pay2 (k0_pay1 x w1) w2

/-- Device `c`'s own product at a row and a column. -/
def Pl (c : D) (r col : ℕ) : F .f32 :=
  mlp (xrows m ρ c (128 * (r / 128))) (w1stg m ρ c) (w2stg m ρ c)
    (fun a => match a with
      | ⟨0, _⟩ => ⟨r % 128, Nat.mod_lt _ (by decide)⟩
      | ⟨1, _⟩ => ⟨col % 1024, Nat.mod_lt _ (by decide)⟩)

/-- The pointwise sum of two contents. -/
def padd (f g : ℕ → ℕ → F .f32) : ℕ → ℕ → F .f32 := fun r col => FloatOps.addf (f r col) (g r col)

/-- Device `c`'s product plus its partner's along `x`. -/
def Sx (c : D) : ℕ → ℕ → F .f32 := padd (Pl m ρ c) (Pl m ρ (xp c))

/-- The sum over device `c` and the `n` devices before it in direction `h` along `y`. -/
def Ty (h : Bool) : ℕ → D → ℕ → ℕ → F .f32
  | 0, c => Sx m ρ c
  | n + 1, c => padd (Sx m ρ c) (Ty h n (dy (!h) c))

/-- The sum over the whole ring along `y`: at the last step the ring's sum is added before the partner's product. -/
def Tq (h : Bool) (c : D) : ℕ → ℕ → F .f32 :=
  padd (padd (Pl m ρ c) (Ty m ρ h 2 (dy (!h) c))) (Pl m ρ (xp c))

/-- The sum over device `c` and the `n` devices before it in direction `h` along `z`. -/
def Tz (h : Bool) : ℕ → D → ℕ → ℕ → F .f32
  | 0, c => Tq m ρ h c
  | n + 1, c => padd (Tq m ρ h c) (Tz h n (dz (!h) c))

/-- The device that owns the chunk of a row and a column after the reductions. -/
def owner (r col : ℕ) : D :=
  let h := decide (512 ≤ col)
  dv (Fin.ofNat 2 (r / 512)) (Fin.ofNat 4 (r / 128) - sg h) (Fin.ofNat 4 (r / 32) - sg h)

/-- The total of all devices' products, as its owner computes it. -/
def fin (r col : ℕ) : F .f32 := Tz m ρ (decide (512 ≤ col)) 3 (owner r col) r col

/-- Contents seen from an origin. -/
def sh (g : ℕ → ℕ → F .f32) (r0 c0 : ℕ) : ℕ → ℕ → F .f32 := fun r col => g (r0 + r) (c0 + col)

/-! ### Cells -/

/-- A device's cells: `none` the barrier, `some (false, j)` and `some (true, j)` copy `j`'s send and receive semaphore. -/
abbrev CI := Option (Bool × Xf)

/-- The DMA semaphores in the order of their numbers, from 4 on. -/
def tabl : List (Bool × Xf) :=
  [(false, .rx 0), (false, .rx 1), (false, .rx 2), (false, .rx 3), (false, .rx 4), (false, .rx 5), (false, .rx 6), (false, .rx 7),
   (true, .rx 0), (true, .rx 1), (true, .rx 2), (true, .rx 3), (true, .rx 4), (true, .rx 5), (true, .rx 6), (true, .rx 7),
   (false, .ry false 0), (false, .ry false 1), (false, .ry false 2), (true, .ry false 0), (true, .ry false 1), (true, .ry false 2),
   (false, .ry true 0), (false, .ry true 1), (false, .ry true 2), (true, .ry true 0), (true, .ry true 1), (true, .ry true 2),
   (false, .rz false 0), (false, .rz false 1), (false, .rz false 2), (true, .rz false 0), (true, .rz false 1), (true, .rz false 2),
   (false, .rz true 0), (false, .rz true 1), (false, .rz true 2), (true, .rz true 0), (true, .rz true 1), (true, .rz true 2),
   (false, .gz false 0), (false, .gz false 1), (false, .gz false 2), (true, .gz false 0), (true, .gz false 1), (true, .gz false 2),
   (false, .gz true 0), (false, .gz true 1), (false, .gz true 2), (true, .gz true 0), (true, .gz true 1), (true, .gz true 2),
   (false, .gy false 0), (false, .gy false 1), (false, .gy false 2), (true, .gy false 0), (true, .gy false 1), (true, .gy false 2),
   (false, .gy true 0), (false, .gy true 1), (false, .gy true 2), (true, .gy true 0), (true, .gy true 1), (true, .gy true 2),
   (false, .gx 0), (false, .gx 1), (false, .gx 2), (false, .gx 3), (true, .gx 0), (true, .gx 1), (true, .gx 2), (true, .gx 3)]

/-- A semaphore's number. -/
def sn : Bool × Xf → ℕ
  | (b, .rx j) => 4 + (if b then 8 else 0) + j.val
  | (b, .ry h s) => 20 + (if h then 6 else 0) + (if b then 3 else 0) + s.val
  | (b, .rz h s) => 32 + (if h then 6 else 0) + (if b then 3 else 0) + s.val
  | (b, .gz h s) => 44 + (if h then 6 else 0) + (if b then 3 else 0) + s.val
  | (b, .gy h s) => 56 + (if h then 6 else 0) + (if b then 3 else 0) + s.val
  | (b, .gx t) => 68 + (if b then 4 else 0) + t.val

/-- A semaphore's number is in range. -/
theorem sn_lt : ∀ p : Bool × Xf, sn p < 76 := by decide +kernel
/-- The protocol's semaphores come after the four of the staging. -/
theorem sn_ge : ∀ p : Bool × Xf, 4 ≤ sn p := by decide +kernel

/-- The semaphore of a number. -/
def dq (q : ℕ) : Option (Bool × Xf) := if q < 4 then none else tabl[q - 4]?

/-- The semaphore of a semaphore's number is that semaphore. -/
theorem dq_sn : ∀ p : Bool × Xf, dq (sn p) = some p := by decide +kernel

/-- The barrier semaphore. -/
abbrev barS : Sem sig := (SemArray.scalar (sig.barrier 0 rfl) : Sems sig S_).sem
/-- The DMA semaphore of a copy's departure or arrival. -/
def dS (p : Bool × Xf) : DmaSem sig := ⟨sn p, sn_lt p⟩

/-- The semaphore of a cell. -/
def csem : CI → SemLoc sig
  | none => .reg barS
  | some p => .dma (dS p)

/-- Which of the protocol's cells a semaphore is. -/
def ck : SemLoc sig → Option CI
  | .reg _ => some none
  | .dma q => (dq q.val).map some

/-- The cell of a cell's semaphore is that cell. -/
theorem ck_csem (i : CI) : ck (csem i) = some i := by
  cases i with
  | none => rfl
  | some p => show (dq (sn p)).map some = _; rw [dq_sn]; rfl

/-- A cell of device `c`. -/
abbrev kcell (c : D) (i : CI) : GSem nD τ sig := ((c : Thread nD τ), csem i)
/-- Device `c`'s barrier. -/
abbrev barCell (c : D) : GSem nD τ sig := kcell c none
/-- The semaphore on device `c` that counts copy `j`'s departure. -/
abbrev sndCell (j : Xf) (c : D) : GSem nD τ sig := kcell c (some (false, j))
/-- The semaphore on device `c` that counts copy `j`'s arrival. -/
abbrev rcvCell (j : Xf) (c : D) : GSem nD τ sig := kcell c (some (true, j))

/-- Different cells, or cells of different devices, are different semaphores. -/
theorem kcell_inj {c c' : D} {i i' : CI} (h : kcell c i = kcell c' i') : c = c' ∧ i = i' := by
  have h1 : c = c' := congrArg (fun g : GSem nD τ sig => g.1.1) h
  have h2 : csem i = csem i' := congrArg Prod.snd h
  have h3 := congrArg ck h2
  rw [ck_csem, ck_csem] at h3
  exact ⟨h1, Option.some.inj h3⟩

/-! ### Payloads -/

/-- Elements `S` of the result buffers of the `n` devices before `c` in direction `h` along `y` (along `z`). -/
def jY (h : Bool) (S : Finset S1024x1024.Idx) : ℕ → D → sProp 𝕄
  | 0, _ => iprop(emp)
  | n + 1, c => iprop(Oany (F := F) S (dy (!h) c) ∗ jY h S n (dy (!h) c))
/-- Elements `S` of the result buffers of the `n` devices before `c` in direction `h` along `z`. -/
def jZ (h : Bool) (S : Finset S1024x1024.Idx) : ℕ → D → sProp 𝕄
  | 0, _ => iprop(emp)
  | n + 1, c => iprop(Oany (F := F) S (dz (!h) c) ∗ jZ h S n (dz (!h) c))

instance (h S n) (c : D) : BI.Storable (upEmb : UEmb _ 𝕄) (jY (F := F) h S n c) := by
  induction n generalizing c with
  | zero => unfold jY; infer_instance
  | succ n ih => unfold jY; have := ih (dy (!h) c); infer_instance
instance (h S n) (c : D) : BI.Storable (upEmb : UEmb _ 𝕄) (jZ (F := F) h S n c) := by
  induction n generalizing c with
  | zero => unfold jZ; infer_instance
  | succ n ih => unfold jZ; have := ih (dz (!h) c); infer_instance

/-- The shares of the finished blocks: for the gathers along `z`, `y` and `x`. -/
abbrev qz : PosShare TreeShare := fullShare.left
/-- The share of a finished block for the gather along `y`. -/
abbrev qy : PosShare TreeShare := fullShare.right.left
/-- The share of a finished block for the gather along `x`. -/
abbrev qx : PosShare TreeShare := fullShare.right.right

/-- What device `c` finds when copy `j` has come in. -/
def rcvPay : Xf → D → sProp 𝕄
  | .rx j, c => iprop(C4 (box 512 1024 (128 * (rb j c).val) 128 (C0 (rh j)) 512) (sh (Pl m ρ (xp c)) (512 * (xc c).val) 0) c
      ∗ Oany (F := F) (Blk (xc c) (rb j c) (rh j)) (xp c))
  | .ry h s, c => iprop(Cy h (slot 3 128 512 s.val) (sh (Ty m ρ h s.val (dy (!h) c)) (R0 (xc c) (yc c + ks h (s.val + 1))) (C0 h)) c
      ∗ jY (F := F) h (Blk (xc c) (yc c + ks h (s.val + 1)) h) (s.val + 1) c)
  | .rz h s, c => iprop(Cz h (slot 3 32 512 s.val) (sh (Tz m ρ h s.val (dz (!h) c)) (K0 (xc c) (yc c + sg h) (zc c + ks h (s.val + 1))) (C0 h)) c
      ∗ jZ (F := F) h (Chk (xc c) (yc c + sg h) (zc c + ks h (s.val + 1)) h) (s.val + 1) c)
  | .gz h t, c => iprop(O (Chk (xc c) (yc c + sg h) (zc c + ks h t.val) h) fullShare (fin m ρ) c
      ∗ jZ (F := F) (!h) (Chk (xc c) (yc c + sg h) (zc c + ks h t.val) h) (2 - t.val) c)
  | .gy h t, c => iprop(O (Blk (xc c) (yc c + ks h t.val) h) fullShare (fin m ρ) c
      ∗ jY (F := F) (!h) (Blk (xc c) (yc c + ks h t.val) h) (2 - t.val) c)
  | .gx t, c => O (Row (xc c + 1) (gb t c)) fullShare (fin m ρ) c

/-- What device `c` has back when copy `j` has left. -/
def sndPay : Xf → D → sProp 𝕄
  | .rx _, _ => iprop(emp)
  | .ry _ _, _ => iprop(emp)
  | .rz _ _, _ => iprop(emp)
  | .gz h t, c => O (Chk (xc c) (yc c + sg h) (zc c + ks h (t.val + 3)) h) qz (fin m ρ) c
  | .gy h t, c => O (Blk (xc c) (yc c + ks h (t.val + 3)) h) qy (fin m ρ) c
  | .gx t, c => O (Row (xc c) (gb t c)) qx (fin m ρ) c

/-- What the duties of device `c`'s barrier hand it: its neighbours' landing buffers. -/
def barPay : Fin 5 → D → sProp 𝕄
  | 0, c => C4any (F := F) Finset.univ (xp c)
  | 1, c => Cyany (F := F) false Finset.univ (dy false c)
  | 2, c => Cyany (F := F) true Finset.univ (dy true c)
  | 3, c => Czany (F := F) false Finset.univ (dz false c)
  | 4, c => Czany (F := F) true Finset.univ (dz true c)

/-- The device whose barrier duty `d` device `c` pays. -/
def bt : Fin 5 → D → D
  | 0, c => xp c
  | 1, c => dy true c
  | 2, c => dy false c
  | 3, c => dz true c
  | 4, c => dz false c
/-- The device that pays duty `d` of device `c`'s barrier. -/
def bs : Fin 5 → D → D
  | 0, c => xp c
  | 1, c => dy false c
  | 2, c => dy true c
  | 3, c => dz false c
  | 4, c => dz true c
/-- The payer of the duty that device `c` pays is `c`. -/
theorem bs_bt : ∀ (d : Fin 5) (c : D), bs d (bt d c) = c := by decide +kernel
/-- The device that payer `bs d c` pays duty `d` to is `c`. -/
theorem bt_bs : ∀ (d : Fin 5) (c : D), bt d (bs d c) = c := by decide +kernel
/-- Whom a barrier duty is paid to, as a permutation of the devices. -/
def btE (d : Fin 5) : D ≃ D := ⟨bt d, bs d, bs_bt d, bt_bs d⟩

/-- The credit of a copy. -/
def N : Xf → ℕ
  | .rx _ => tileCredit S128x512 .f32
  | .ry _ _ => tileCredit S128x512 .f32
  | .rz _ _ => tileCredit S32x512 .f32
  | .gz _ _ => tileCredit S32x512 .f32
  | .gy _ _ => tileCredit S128x512 .f32
  | .gx _ => tileCredit S128x1024 .f32

/-- A copy's credit is positive. -/
theorem N_pos (j : Xf) : 0 < N j := by
  cases j <;> exact tileCredit_pos _ _ (by decide)

/-! ### The schedule -/

/-- Round 0 of every cell: the barrier has five unit duties, a DMA cell one duty of its copy's credit. -/
def Rd : Rounds.Schedule (GSem nD τ sig) (Fin 5) 𝕄 where
  duties g r := if r = 0 ∧ g.1.2 = .tc then (match ck g.2 with
    | none => ∅
    | some none => Finset.univ
    | some (some _) => {0}) else ∅
  unitless _ := False
  amount g _ _ := match ck g.2 with
    | some (some p) => N p.2
    | _ => 1
  payload g _ d := match ck g.2 with
    | some none => barPay (F := F) d g.1.1
    | some (some (true, j)) => rcvPay m ρ j g.1.1
    | some (some (false, j)) => sndPay m ρ j g.1.1
    | none => iprop(emp)
  amount_pos g _ _ _ := by
    split
    · exact N_pos _
    · exact Nat.one_pos

instance (j) (c : D) : BI.Storable (upEmb : UEmb _ 𝕄) (rcvPay (F := F) m ρ j c) := by
  cases j <;> (unfold rcvPay; infer_instance)
instance (j) (c : D) : BI.Storable (upEmb : UEmb _ 𝕄) (sndPay (F := F) m ρ j c) := by
  cases j <;> (unfold sndPay; infer_instance)
instance (d) (c : D) : BI.Storable (upEmb : UEmb _ 𝕄) (barPay (F := F) d c) := by
  fin_cases d <;> (unfold barPay; infer_instance)

instance Rd_storable (g : GSem nD τ sig) (r : ℕ) (d : Fin 5) :
    BI.Storable (upEmb : UEmb _ 𝕄) ((Rd (F := F) m ρ).payload g r d) := by
  dsimp only [Rd]
  (repeat' split) <;> infer_instance

/-- A barrier has five duties. -/
theorem duties_bar (c : D) : (Rd (F := F) m ρ).duties (barCell c) 0 = Finset.univ := by
  dsimp only [Rd]; rw [if_pos ⟨rfl, rfl⟩]; rfl
/-- A DMA cell has one duty. -/
theorem duties_dma (p) (c : D) : (Rd (F := F) m ρ).duties (kcell c (some p)) 0 = {0} := by
  dsimp only [Rd]; rw [if_pos ⟨rfl, rfl⟩, ck_csem]
/-- No cell has a second round. -/
theorem duties_later (g : GSem nD τ sig) : ∀ r, 1 ≤ r → (Rd (F := F) m ρ).duties g r = ∅ :=
  fun r hr => by dsimp only [Rd]; rw [if_neg fun h => by omega]
/-- A barrier duty is one unit. -/
theorem amount_bar (c : D) (d) : (Rd (F := F) m ρ).amount (barCell c) 0 d = 1 := rfl
/-- A DMA cell's duty is its copy's credit. -/
theorem amount_dma (p) (c : D) (d) : (Rd (F := F) m ρ).amount (kcell c (some p)) 0 d = N p.2 := by
  dsimp only [Rd]; rw [ck_csem]
/-- What a barrier duty hands over. -/
theorem payload_bar (c : D) (d) : (Rd (F := F) m ρ).payload (barCell c) 0 d = barPay d c := rfl
/-- What a departure hands back. -/
theorem payload_snd (j) (c : D) (d) : (Rd (F := F) m ρ).payload (sndCell j c) 0 d = sndPay m ρ j c := by
  dsimp only [Rd]; rw [ck_csem]
/-- What an arrival hands over. -/
theorem payload_rcv (j) (c : D) (d) : (Rd (F := F) m ρ).payload (rcvCell j c) 0 d = rcvPay m ρ j c := by
  dsimp only [Rd]; rw [ck_csem]
/-- A barrier's round is five units. -/
theorem expect_bar (c : D) : (Rd (F := F) m ρ).expect (barCell c) 0 = 5 := by
  unfold Schedule.expect Schedule.amountOf
  rw [duties_bar, Finset.sum_congr rfl fun d _ => amount_bar m ρ c d, Finset.sum_const, Finset.card_univ, Fintype.card_fin, smul_eq_mul]
/-- A DMA cell's round is its copy's credit. -/
theorem expect_dma (p) (c : D) : (Rd (F := F) m ρ).expect (kcell c (some p)) 0 = N p.2 := by
  unfold Schedule.expect Schedule.amountOf; rw [duties_dma, Finset.sum_singleton, amount_dma]

/-- The rest of a round no duty of which is taken: every payload. -/
theorem rest_bar (c : D) : bigSep ((Rd (F := F) m ρ).duties (barCell c) 0 \ ∅) (fun d => (Rd (F := F) m ρ).payload (barCell c) 0 d)
    = iprop(barPay 0 c ∗ barPay 1 c ∗ barPay 2 c ∗ barPay 3 c ∗ barPay 4 c) := by
  rw [Finset.sdiff_empty, duties_bar, bigSep_univ_eq_bigSepL [0, 1, 2, 3, 4] (by decide) (by decide)]
  rfl
/-- All that a departure's round hands over is its one payload. -/
theorem rest_snd (j) (c : D) : bigSep ((Rd (F := F) m ρ).duties (sndCell j c) 0 \ ∅) (fun d => (Rd (F := F) m ρ).payload (sndCell j c) 0 d)
    = sndPay m ρ j c := by
  rw [Finset.sdiff_empty, duties_dma, bigSep_singleton, payload_snd]
/-- All that an arrival's round hands over is its one payload. -/
theorem rest_rcv (j) (c : D) : bigSep ((Rd (F := F) m ρ).duties (rcvCell j c) 0 \ ∅) (fun d => (Rd (F := F) m ρ).payload (rcvCell j c) 0 d)
    = rcvPay m ρ j c := by
  rw [Finset.sdiff_empty, duties_dma, bigSep_singleton, payload_rcv]

/-! ### What is owed, and the levels -/

/-- The credits the copies of a list owe their targets. -/
def owX (l : List Xf) (c : D) : CellTallies nD τ sig Unit := match l with
  | [] => 0
  | j :: l => owX l c + tallyAt (rcvCell j (tg j c)) () (N j)
/-- With the units the signals of a list owe. -/
def owB (b : List (Fin 5)) (l : List Xf) (c : D) : CellTallies nD τ sig Unit := match b with
  | [] => owX l c
  | d :: b => owB b l c + tallyAt (barCell (bt d c)) () 1

/-- The order of the five signals. -/
def bord : List (Fin 5) := [0, 2, 1, 4, 3]

/-- The place of a copy in the order of starts. -/
def pl : Xf → ℕ
  | .rx j => j.val
  | .ry h s => 8 + 2 * s.val + (if h then 1 else 0)
  | .rz h s => 14 + 2 * s.val + (if h then 1 else 0)
  | .gz h s => 20 + 2 * s.val + (if h then 1 else 0)
  | .gy h s => (![26, 29, 33] : Fin 3 → ℕ) s + (if h then 1 else 0)
  | .gx t => (![28, 31, 32, 35] : Fin 4 → ℕ) t

/-- The levels are stated for the cells of the TensorCores. -/
def L (g : GSem nD τ sig) : Finset Unit := if g.1.2 = .tc then {()} else ∅
/-- The barrier at level 1, a copy's receive cell above it in the order of starts, everything else at 0. -/
def lv (g : GSem nD τ sig) (_ : Unit) : ℕ := match ck g.2 with
  | some none => 1
  | some (some (true, j)) => 2 + pl j
  | _ => 0

/-- No level is stated for a cell of another core. -/
theorem L_of_ne (g : GSem nD τ sig) (h : g.1.2 ≠ .tc) : L g = ∅ := if_neg h
/-- A cell of a TensorCore has one level stated. -/
theorem L_tc (c : D) (sm : SemLoc sig) : L ((c : Thread nD τ), sm) = {()} := if_pos rfl
/-- An arrival's level is its copy's place in the order of starts, above the barrier. -/
theorem lv_rcv (j) (c : D) (u) : lv (rcvCell j c) u = 2 + pl j := by unfold lv; rw [ck_csem]
/-- The barrier's level is 1. -/
theorem lv_bar (c : D) (u) : lv (barCell c) u = 1 := rfl
/-- A departure's level is 0. -/
theorem lv_snd (j) (c : D) (u) : lv (sndCell j c) u = 0 := by unfold lv; rw [ck_csem]

/-- A cell that copies owe credit is the arrival of one of them. -/
theorem owX_pos {l : List Xf} {c : D} {g : GSem nD τ sig} {u : Unit} (h : 0 < owX l c g u) :
    ∃ j ∈ l, g = rcvCell j (tg j c) := by
  induction l with
  | nil => exact absurd h (by simp [owX])
  | cons j l ih =>
    unfold owX at h
    rw [Pi.add_apply, Finsupp.add_apply, tallyAt_apply] at h
    by_cases hj : g = rcvCell j (tg j c) ∧ u = ()
    · exact ⟨j, List.mem_cons_self, hj.1⟩
    · rw [if_neg hj, Nat.add_zero] at h
      obtain ⟨i, hi, hg⟩ := ih h
      exact ⟨i, List.mem_cons_of_mem _ hi, hg⟩

/-- A cell that signals and copies owe credit is a barrier or the arrival of one of the copies. -/
theorem owB_pos {b : List (Fin 5)} {l : List Xf} {c : D} {g : GSem nD τ sig} {u : Unit} (h : 0 < owB b l c g u) :
    (∃ d, g = barCell (bt d c)) ∨ ∃ j ∈ l, g = rcvCell j (tg j c) := by
  induction b with
  | nil => exact Or.inr (owX_pos h)
  | cons d b ih =>
    unfold owB at h
    rw [Pi.add_apply, Finsupp.add_apply, tallyAt_apply] at h
    by_cases hj : g = barCell (bt d c) ∧ u = ()
    · exact Or.inl ⟨d, hj.1⟩
    · rw [if_neg hj, Nat.add_zero] at h
      exact ih h

/-- A device may wait on a cell of a level below those of every copy it still owes. -/
theorem mayWait_X (c : D) (sm : SemLoc sig) (l : List Xf)
    (hl : ∀ j ∈ l, lv ((c : Thread nD τ), sm) () < 2 + pl j) :
    (levAts L lv : sProp 𝕄) ⊢ MayWait (c : Thread nD τ) sm () (owX l c) :=
  MayOwe.of_cut (L := L) (lev := lv) (lv ((c : Thread nD τ), sm) ())
    (fun p hp => by rw [Finset.mem_singleton.mp hp, L_tc]; exact Finset.mem_singleton_self _)
    (fun g u hg => by obtain ⟨j, -, rfl⟩ := owX_pos hg; exact Finset.mem_singleton_self _)
    (fun p hp => by rw [Finset.mem_singleton.mp hp])
    (fun g u hg => by obtain ⟨j, hj, rfl⟩ := owX_pos hg; rw [lv_rcv]; exact hl j hj)

/-- On a cell of level 0 a device may wait whatever it still owes. -/
theorem mayWait_zero (c : D) (q : DmaSem sig) (hq : lv ((c : Thread nD τ), .dma q) () = 0) (b : List (Fin 5)) (l : List Xf) :
    (levAts L lv : sProp 𝕄) ⊢ MayWait (c : Thread nD τ) (.dma q) () (owB b l c) :=
  MayOwe.of_cut (L := L) (lev := lv) 0
    (fun p hp => by rw [Finset.mem_singleton.mp hp, L_tc]; exact Finset.mem_singleton_self _)
    (fun g u hg => by rcases owB_pos hg with ⟨d, rfl⟩ | ⟨j, -, rfl⟩ <;> exact Finset.mem_singleton_self _)
    (fun p hp => by rw [Finset.mem_singleton.mp hp, hq])
    (fun g u hg => by
      rcases owB_pos hg with ⟨d, rfl⟩ | ⟨j, -, rfl⟩
      · rw [lv_bar]; decide
      · rw [lv_rcv]; omega)

end Cert.AllReduce

end
-- ==== Proof.Mem.lean ====
module

public import proofs.«01_k».proof.Proof.Sched
public import Idealize.ShloMosaic.Lib.Pipeline.Value

/-!
Loads and stores of the body on the regions it owns: what a load of a box of rows and columns reads, and what a
store leaves there, with contents as functions of a row and a column.
-/

@[expose] public section

set_option maxRecDepth 20000

noncomputable section

namespace Cert.AllReduce

open Cert.KernelIdeal Cert.KernelIdeal.Gen
open Idealize.ShloMosaic
open Idealize.ShloMosaic.TcCoe
open Idealize.ShloMosaic.RefSig (tileCredit tileCredit_pos)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop of the program needs a variant. -/
abbrev 𝒱₀ : Variants := Variants.none

/-- The weakest precondition of a program on device `c`'s core. -/
abbrev WP {α : Type} (c : D) (p : Prog (TpuEff nD τ sig (Elt F) Λ₀ .tc) α) (Q : α → sProp 𝕄) : sProp 𝕄 :=
  wp frame (wpE (defs₀ (F := F)) 𝒱₀ (c : Thread nD τ) none) Set.univ p Q

/-! ### Rectangles as boxes -/

/-- Membership in a box. -/
theorem mem_box {a b r nr c nc : ℕ} {i : (⟨2, ![a, b]⟩ : Shape).Idx} :
    i ∈ box a b r nr c nc ↔ r ≤ (i 0).val ∧ (i 0).val < r + nr ∧ c ≤ (i 1).val ∧ (i 1).val < c + nc := by
  unfold box; simp

/-- Membership in a slot. -/
theorem mem_slot {a b d s : ℕ} {i : (⟨3, ![a, b, d]⟩ : Shape).Idx} : i ∈ slot a b d s ↔ (i 0).val = s := by
  unfold slot; simp

/-- A rectangle's elements are a box. -/
theorem rect_box {a b nr nc r c : ℕ} (inb) :
    (Rect.unit (s := ⟨2, ![a, b]⟩) ![r, c] (⟨2, ![nr, nc]⟩ : Shape).size inb).set = box a b r nr c nc := by
  ext i
  rw [Rect.mem_set_unit, mem_box, Fin.forall_fin_two]
  exact and_assoc

/-- A rectangle over one slot has the slot's elements. -/
theorem rect_slot {a b d s : ℕ} (inb) :
    (Rect.unit (s := ⟨3, ![a, b, d]⟩) ![s, 0, 0] (⟨3, ![1, b, d]⟩ : Shape).size inb).set = slot a b d s := by
  ext i
  rw [Rect.mem_set_unit, mem_slot]
  constructor
  · intro h
    have h0 := h 0
    have h1 : s ≤ (i 0).val := h0.1
    have h2 : (i 0).val < s + 1 := h0.2
    omega
  · intro h x
    match x with
    | ⟨0, _⟩ => exact ⟨show s ≤ (i 0).val by omega, show (i 0).val < s + 1 by omega⟩
    | ⟨1, _⟩ => exact ⟨Nat.zero_le _, show (i 1).val < 0 + b by rw [Nat.zero_add]; exact (i 1).isLt⟩
    | ⟨2, _⟩ => exact ⟨Nat.zero_le _, show (i 2).val < 0 + d by rw [Nat.zero_add]; exact (i 2).isLt⟩

/-- A vector of rows and columns from a function. -/
def vec2 (nr nc : ℕ) (g : ℕ → ℕ → F .f32) : Vec F ⟨2, ![nr, nc]⟩ .f32 := fun j => g (j 0).val (j 1).val
/-- The same with a leading unit axis. -/
def vec3 (nr nc : ℕ) (g : ℕ → ℕ → F .f32) : Vec F ⟨3, ![1, nr, nc]⟩ .f32 := fun j => g (j 1).val (j 2).val

/-! ### The result buffer -/

/-- A load of a box of the result buffer reads its contents. -/
theorem ld_o {α : Type} {c : D} {S : Finset S1024x1024.Idx} {q : PosShare TreeShare} {g : ℕ → ℕ → F .f32} {nr nc r0 c0 : ℕ}
    {off : Fin 2 → ℕ} {inb} {hl} {k : Vec F ⟨2, ![nr, nc]⟩ .f32 → Prog (TpuEff nD τ sig (Elt F) Λ₀ .tc) α} {Q : α → sProp 𝕄}
    (hoff : off = ![r0, c0]) (hS : box 1024 1024 r0 nr c0 nc ⊆ S) :
    O S q g c ⊢ iprop((O S q g c -∗ WP c (k (vec2 nr nc (sh g r0 c0))) Q)
      -∗ WP c (.op (.load (Memref.whole cc0_stg3_0) (Rect.unit (s := S1024x1024) off (⟨2, ![nr, nc]⟩ : Shape).size inb).toLoadRect hl) k) Q) := by
  subst hoff
  unfold O
  have hr : ((Memref.whole cc0_stg3_0 : Memref sig .tc .vmem S1024x1024 .f32).access (Rect.unit (s := S1024x1024) ![r0, c0] (⟨2, ![nr, nc]⟩ : Shape).size inb)).read (Elt F)
      (fun i : S1024x1024.Idx => g (i 0).val (i 1).val) = vec2 nr nc (sh g r0 c0) := by
    funext j
    show g _ _ = g _ _
    congr 1 <;> (show _ + 1 * _ = _; rw [Nat.one_mul]; rfl)
  iintro H Hk
  iapply (wp_load_rect 𝒱₀ (c : Thread nD τ) none Set.univ (m := (Memref.whole cc0_stg3_0 : Memref sig .tc .vmem S1024x1024 .f32))
    (r := Rect.unit (s := S1024x1024) ![r0, c0] (⟨2, ![nr, nc]⟩ : Shape).size inb)
    ((View.set_slice_whole _ _).le.trans ((rect_box _).le.trans hS))) $$ H
  rw [hr]
  iexact Hk

/-- A store into a box of the result buffer leaves what was stored. -/
theorem st_o {α : Type} {c : D} {g g' : ℕ → ℕ → F .f32} {nr nc r0 c0 : ℕ}
    {off : Fin 2 → ℕ} {inb} {hx hm} {w : Vec F ⟨2, ![nr, nc]⟩ .f32} {k : PUnit → Prog (TpuEff nD τ sig (Elt F) Λ₀ .tc) α} {Q : α → sProp 𝕄}
    (hoff : off = ![r0, c0]) (hw : w = vec2 nr nc (sh g' r0 c0)) :
    O (box 1024 1024 r0 nr c0 nc) fullShare g c ⊢ iprop((O (box 1024 1024 r0 nr c0 nc) fullShare g' c -∗ WP c (k ⟨⟩) Q)
      -∗ WP c (.op (.store (Memref.whole cc0_stg3_0) (Rect.unit (s := S1024x1024) off (⟨2, ![nr, nc]⟩ : Shape).size inb) w Finset.univ hx hm) k) Q) := by
  subst hoff hw
  unfold O
  have hset : ((Memref.whole cc0_stg3_0 : Memref sig .tc .vmem S1024x1024 .f32).access (Rect.unit (s := S1024x1024) ![r0, c0] (⟨2, ![nr, nc]⟩ : Shape).size inb)).set
      = box 1024 1024 r0 nr c0 nc := (View.set_slice_whole _ _).trans (rect_box _)
  have hr : ((c : Thread nD τ).loc cc0_stg3_0 ↦[box 1024 1024 r0 nr c0 nc]{fullShare}
        ((Memref.whole cc0_stg3_0 : Memref sig .tc .vmem S1024x1024 .f32).access (Rect.unit (s := S1024x1024) ![r0, c0] (⟨2, ![nr, nc]⟩ : Shape).size inb)).write (Elt F)
          (fun i : S1024x1024.Idx => g (i 0).val (i 1).val) (vec2 nr nc (sh g' r0 c0)) Finset.univ : sProp 𝕄)
      = ((c : Thread nD τ).loc cc0_stg3_0 ↦[box 1024 1024 r0 nr c0 nc]{fullShare} (fun i : S1024x1024.Idx => g' (i 0).val (i 1).val)) := by
    refine pointsTo_congr fun i hi => ?_
    rw [← hset] at hi
    obtain ⟨j, -, rfl⟩ := Finset.mem_map.mp hi
    refine (View.write_emb_of_mem _ _ (Finset.mem_univ j)).trans ?_
    show g' _ _ = g' _ _
    congr 1 <;> (show _ = _ + 1 * _; rw [Nat.one_mul]; rfl)
  iintro H Hk
  iapply (wp_store 𝒱₀ (c : Thread nD τ) none Set.univ (m := (Memref.whole cc0_stg3_0 : Memref sig .tc .vmem S1024x1024 .f32))
    (r := Rect.unit (s := S1024x1024) ![r0, c0] (⟨2, ![nr, nc]⟩ : Shape).size inb) (Mk := Finset.univ) hset.le) $$ H
  iintro H
  iapply Hk
  iapply (Entails.of_eq hr) $$ H

/-! ### The landing buffers -/

/-- A load of a box of the landing buffer of the exchange along `x` reads its contents. -/
theorem ld_c4 {α : Type} {c : D} {S : Finset S512x1024.Idx} {g : ℕ → ℕ → F .f32} {nr nc r0 c0 : ℕ}
    {off : Fin 2 → ℕ} {inb} {hl} {k : Vec F ⟨2, ![nr, nc]⟩ .f32 → Prog (TpuEff nD τ sig (Elt F) Λ₀ .tc) α} {Q : α → sProp 𝕄}
    (hoff : off = ![r0, c0]) (hS : box 512 1024 r0 nr c0 nc ⊆ S) :
    C4 S g c ⊢ iprop((C4 S g c -∗ WP c (k (vec2 nr nc (sh g r0 c0))) Q)
      -∗ WP c (.op (.load (Memref.whole cc0_scratch0) (Rect.unit (s := S512x1024) off (⟨2, ![nr, nc]⟩ : Shape).size inb).toLoadRect hl) k) Q) := by
  subst hoff
  unfold C4
  have hr : ((Memref.whole cc0_scratch0 : Memref sig .tc .vmem S512x1024 .f32).access (Rect.unit (s := S512x1024) ![r0, c0] (⟨2, ![nr, nc]⟩ : Shape).size inb)).read (Elt F)
      (fun i : S512x1024.Idx => g (i 0).val (i 1).val) = vec2 nr nc (sh g r0 c0) := by
    funext j
    show g _ _ = g _ _
    congr 1 <;> (show _ + 1 * _ = _; rw [Nat.one_mul]; rfl)
  iintro H Hk
  iapply (wp_load_rect 𝒱₀ (c : Thread nD τ) none Set.univ (m := (Memref.whole cc0_scratch0 : Memref sig .tc .vmem S512x1024 .f32))
    (r := Rect.unit (s := S512x1024) ![r0, c0] (⟨2, ![nr, nc]⟩ : Shape).size inb)
    ((View.set_slice_whole _ _).le.trans ((rect_box _).le.trans hS))) $$ H
  rw [hr]
  iexact Hk

/-- A load of a slot of the landing buffer of the ring along `y`, left half, reads its contents. -/
theorem ld_y0 {α : Type} {c : D} {g : ℕ → ℕ → F .f32} {s : ℕ}
    {inb} {hl} {k : Vec F ⟨3, ![1, 128, 512]⟩ .f32 → Prog (TpuEff nD τ sig (Elt F) Λ₀ .tc) α} {Q : α → sProp 𝕄} :
    Cy false (slot 3 128 512 s) g c ⊢ iprop((Cy false (slot 3 128 512 s) g c -∗ WP c (k (vec3 128 512 g)) Q)
      -∗ WP c (.op (.load (Memref.whole cc0_scratch1) (Rect.unit (s := S3x128x512) ![s, 0, 0] (⟨3, ![1, 128, 512]⟩ : Shape).size inb).toLoadRect hl) k) Q) := by
  unfold Cy
  have hr : ((Memref.whole cc0_scratch1 : Memref sig .tc .vmem S3x128x512 .f32).access (Rect.unit (s := S3x128x512) ![s, 0, 0] (⟨3, ![1, 128, 512]⟩ : Shape).size inb)).read (Elt F)
      (fun i : S3x128x512.Idx => g (i 1).val (i 2).val) = vec3 128 512 g := by
    funext j
    show g _ _ = g _ _
    congr 1 <;> (show 0 + 1 * _ = _; rw [Nat.one_mul, Nat.zero_add])
  iintro H Hk
  iapply (wp_load_rect 𝒱₀ (c : Thread nD τ) none Set.univ (m := (Memref.whole cc0_scratch1 : Memref sig .tc .vmem S3x128x512 .f32))
    (r := Rect.unit (s := S3x128x512) ![s, 0, 0] (⟨3, ![1, 128, 512]⟩ : Shape).size inb)
    ((View.set_slice_whole _ _).le.trans (rect_slot _).le)) $$ H
  rw [hr]
  iexact Hk

/-- A load of a slot of the landing buffer of the ring along `y`, right half, reads its contents. -/
theorem ld_y1 {α : Type} {c : D} {g : ℕ → ℕ → F .f32} {s : ℕ}
    {inb} {hl} {k : Vec F ⟨3, ![1, 128, 512]⟩ .f32 → Prog (TpuEff nD τ sig (Elt F) Λ₀ .tc) α} {Q : α → sProp 𝕄} :
    Cy true (slot 3 128 512 s) g c ⊢ iprop((Cy true (slot 3 128 512 s) g c -∗ WP c (k (vec3 128 512 g)) Q)
      -∗ WP c (.op (.load (Memref.whole cc0_scratch2) (Rect.unit (s := S3x128x512) ![s, 0, 0] (⟨3, ![1, 128, 512]⟩ : Shape).size inb).toLoadRect hl) k) Q) := by
  unfold Cy
  have hr : ((Memref.whole cc0_scratch2 : Memref sig .tc .vmem S3x128x512 .f32).access (Rect.unit (s := S3x128x512) ![s, 0, 0] (⟨3, ![1, 128, 512]⟩ : Shape).size inb)).read (Elt F)
      (fun i : S3x128x512.Idx => g (i 1).val (i 2).val) = vec3 128 512 g := by
    funext j
    show g _ _ = g _ _
    congr 1 <;> (show 0 + 1 * _ = _; rw [Nat.one_mul, Nat.zero_add])
  iintro H Hk
  iapply (wp_load_rect 𝒱₀ (c : Thread nD τ) none Set.univ (m := (Memref.whole cc0_scratch2 : Memref sig .tc .vmem S3x128x512 .f32))
    (r := Rect.unit (s := S3x128x512) ![s, 0, 0] (⟨3, ![1, 128, 512]⟩ : Shape).size inb)
    ((View.set_slice_whole _ _).le.trans (rect_slot _).le)) $$ H
  rw [hr]
  iexact Hk

/-- A load of a slot of the landing buffer of the ring along `z`, left half, reads its contents. -/
theorem ld_z0 {α : Type} {c : D} {g : ℕ → ℕ → F .f32} {s : ℕ}
    {inb} {hl} {k : Vec F ⟨3, ![1, 32, 512]⟩ .f32 → Prog (TpuEff nD τ sig (Elt F) Λ₀ .tc) α} {Q : α → sProp 𝕄} :
    Cz false (slot 3 32 512 s) g c ⊢ iprop((Cz false (slot 3 32 512 s) g c -∗ WP c (k (vec3 32 512 g)) Q)
      -∗ WP c (.op (.load (Memref.whole cc0_scratch3) (Rect.unit (s := S3x32x512) ![s, 0, 0] (⟨3, ![1, 32, 512]⟩ : Shape).size inb).toLoadRect hl) k) Q) := by
  unfold Cz
  have hr : ((Memref.whole cc0_scratch3 : Memref sig .tc .vmem S3x32x512 .f32).access (Rect.unit (s := S3x32x512) ![s, 0, 0] (⟨3, ![1, 32, 512]⟩ : Shape).size inb)).read (Elt F)
      (fun i : S3x32x512.Idx => g (i 1).val (i 2).val) = vec3 32 512 g := by
    funext j
    show g _ _ = g _ _
    congr 1 <;> (show 0 + 1 * _ = _; rw [Nat.one_mul, Nat.zero_add])
  iintro H Hk
  iapply (wp_load_rect 𝒱₀ (c : Thread nD τ) none Set.univ (m := (Memref.whole cc0_scratch3 : Memref sig .tc .vmem S3x32x512 .f32))
    (r := Rect.unit (s := S3x32x512) ![s, 0, 0] (⟨3, ![1, 32, 512]⟩ : Shape).size inb)
    ((View.set_slice_whole _ _).le.trans (rect_slot _).le)) $$ H
  rw [hr]
  iexact Hk

/-- A load of a slot of the landing buffer of the ring along `z`, right half, reads its contents. -/
theorem ld_z1 {α : Type} {c : D} {g : ℕ → ℕ → F .f32} {s : ℕ}
    {inb} {hl} {k : Vec F ⟨3, ![1, 32, 512]⟩ .f32 → Prog (TpuEff nD τ sig (Elt F) Λ₀ .tc) α} {Q : α → sProp 𝕄} :
    Cz true (slot 3 32 512 s) g c ⊢ iprop((Cz true (slot 3 32 512 s) g c -∗ WP c (k (vec3 32 512 g)) Q)
      -∗ WP c (.op (.load (Memref.whole cc0_scratch4) (Rect.unit (s := S3x32x512) ![s, 0, 0] (⟨3, ![1, 32, 512]⟩ : Shape).size inb).toLoadRect hl) k) Q) := by
  unfold Cz
  have hr : ((Memref.whole cc0_scratch4 : Memref sig .tc .vmem S3x32x512 .f32).access (Rect.unit (s := S3x32x512) ![s, 0, 0] (⟨3, ![1, 32, 512]⟩ : Shape).size inb)).read (Elt F)
      (fun i : S3x32x512.Idx => g (i 1).val (i 2).val) = vec3 32 512 g := by
    funext j
    show g _ _ = g _ _
    congr 1 <;> (show 0 + 1 * _ = _; rw [Nat.one_mul, Nat.zero_add])
  iintro H Hk
  iapply (wp_load_rect 𝒱₀ (c : Thread nD τ) none Set.univ (m := (Memref.whole cc0_scratch4 : Memref sig .tc .vmem S3x32x512 .f32))
    (r := Rect.unit (s := S3x32x512) ![s, 0, 0] (⟨3, ![1, 32, 512]⟩ : Shape).size inb)
    ((View.set_slice_whole _ _).le.trans (rect_slot _).le)) $$ H
  rw [hr]
  iexact Hk

/-! ### The staged operands -/

variable (m : (ℓ : Loc nD τ sig) → Buf (Elt F) ℓ) (ρ : Dev nD → PrngReg)

/-- Device `c`'s staged operands. -/
def XW (c : D) : sProp 𝕄 :=
  iprop(((c : Thread nD τ).loc cc0_stg0_0 ↦{fullShare} xstg m ρ c) ∗ ((c : Thread nD τ).loc cc0_stg1_0 ↦{fullShare} w1stg m ρ c)
    ∗ ((c : Thread nD τ).loc cc0_stg2_0 ↦{fullShare} w2stg m ρ c))

/-- A load of 128 rows of the staged `x` reads these rows. -/
theorem ld_x {α : Type} {c : D} {r0 : ℕ} {off : Fin 2 → ℕ} {inb} {hl}
    {k : Vec F S128x1024 .f32 → Prog (TpuEff nD τ sig (Elt F) Λ₀ .tc) α} {Q : α → sProp 𝕄} (hoff : off = ![r0, 0]) :
    XW m ρ c ⊢ iprop((XW m ρ c -∗ WP c (k (xrows m ρ c r0)) Q)
      -∗ WP c (.op (.load (Memref.whole cc0_stg0_0) (Rect.unit (s := S1024x1024) off S128x1024.size inb).toLoadRect hl) k) Q) := by
  subst hoff
  have hb : r0 + 128 ≤ 1024 := inb 0
  have hr : ((Memref.whole cc0_stg0_0 : Memref sig .tc .vmem S1024x1024 .f32).access (Rect.unit (s := S1024x1024) ![r0, 0] S128x1024.size inb)).read (Elt F)
      (xstg m ρ c) = xrows m ρ c r0 := by
    funext j
    have h0 : (j 0).val < 128 := (j 0).isLt
    have h1 : (j 1).val < 1024 := (j 1).isLt
    show xstg m ρ c _ = xstg m ρ c _
    congr 1
    funext a
    match a with
    | ⟨0, _⟩ => exact Fin.ext (show r0 + 1 * (j 0).val = (r0 + (j 0).val) % 1024 by rw [Nat.mod_eq_of_lt (by omega)]; omega)
    | ⟨1, _⟩ => exact Fin.ext (show 0 + 1 * (j 1).val = (j 1).val % 1024 by rw [Nat.mod_eq_of_lt (by omega)]; omega)
  unfold XW
  iintro ⟨H, H1, H2⟩ Hk
  iapply (wp_load_rect 𝒱₀ (c : Thread nD τ) none Set.univ (m := (Memref.whole cc0_stg0_0 : Memref sig .tc .vmem S1024x1024 .f32))
    (r := Rect.unit (s := S1024x1024) ![r0, 0] S128x1024.size inb) (Finset.subset_univ _)) $$ H
  rw [hr]
  iintro H
  iapply Hk
  isplitl [H]; · iexact H
  isplitl [H1] <;> iassumption

/-- The offset zero. -/
theorem hz2 : (![0, 0] : Fin 2 → ℕ) = fun _ => 0 := by decide

/-- A load of the staged first weights reads them. -/
theorem ld_w1 {α : Type} {c : D} {inb} {hl}
    {k : Vec F S1024x2048 .f32 → Prog (TpuEff nD τ sig (Elt F) Λ₀ .tc) α} {Q : α → sProp 𝕄} :
    XW m ρ c ⊢ iprop((XW m ρ c -∗ WP c (k (w1stg m ρ c)) Q)
      -∗ WP c (.op (.load (Memref.whole cc0_stg1_0) (Rect.unit (s := S1024x2048) ![0, 0] S1024x2048.size inb).toLoadRect hl) k) Q) := by
  have hr : (Memref.whole cc0_stg1_0 : Memref sig .tc .vmem S1024x2048 .f32).view.readAt (Elt F) (Rect.unit (s := S1024x2048) ![0, 0] S1024x2048.size inb).toLoadRect
      (w1stg m ρ c) = w1stg m ρ c := Memref.readAt_unit_zero (Elt F) cc0_stg1_0 hz2 _ _
  unfold XW
  iintro ⟨H0, H, H2⟩ Hk
  iapply (wp_load 𝒱₀ (c : Thread nD τ) none Set.univ (m := (Memref.whole cc0_stg1_0 : Memref sig .tc .vmem S1024x2048 .f32))
    (Finset.subset_univ _)) $$ H
  rw [hr]
  iintro H
  iapply Hk
  isplitl [H0]; · iexact H0
  isplitl [H] <;> iassumption

/-- A load of the staged second weights reads them. -/
theorem ld_w2 {α : Type} {c : D} {inb} {hl}
    {k : Vec F S2048x1024 .f32 → Prog (TpuEff nD τ sig (Elt F) Λ₀ .tc) α} {Q : α → sProp 𝕄} :
    XW m ρ c ⊢ iprop((XW m ρ c -∗ WP c (k (w2stg m ρ c)) Q)
      -∗ WP c (.op (.load (Memref.whole cc0_stg2_0) (Rect.unit (s := S2048x1024) ![0, 0] S2048x1024.size inb).toLoadRect hl) k) Q) := by
  have hr : (Memref.whole cc0_stg2_0 : Memref sig .tc .vmem S2048x1024 .f32).view.readAt (Elt F) (Rect.unit (s := S2048x1024) ![0, 0] S2048x1024.size inb).toLoadRect
      (w2stg m ρ c) = w2stg m ρ c := Memref.readAt_unit_zero (Elt F) cc0_stg2_0 hz2 _ _
  unfold XW
  iintro ⟨H0, H1, H⟩ Hk
  iapply (wp_load 𝒱₀ (c : Thread nD τ) none Set.univ (m := (Memref.whole cc0_stg2_0 : Memref sig .tc .vmem S2048x1024 .f32))
    (Finset.subset_univ _)) $$ H
  rw [hr]
  iintro H
  iapply Hk
  isplitl [H0]; · iexact H0
  isplitl [H1] <;> iassumption

/-! ### What the payloads are -/

/-- The sum of two boxes of contents. -/
theorem add_vec2 {nr nc : ℕ} (f g : ℕ → ℕ → F .f32) :
    addf (vec2 nr nc f) (vec2 nr nc g) = vec2 nr nc (padd f g) := rfl

/-- A slot of a landing buffer as rows and columns. -/
theorem cast_vec3 {nr nc : ℕ} (g : ℕ → ℕ → F .f32) (h) : shapeCast ⟨2, ![nr, nc]⟩ (vec3 nr nc g) h = vec2 nr nc g := by
  funext j
  exact shapeCast_dropUnit_apply (n := 2) ![nr, nc] (vec3 nr nc g) h j

/-- A block product is the device's own product on 128 rows. -/
theorem mlp_vec2 (c : D) (b : ℕ) : mlp (xrows m ρ c (128 * b)) (w1stg m ρ c) (w2stg m ρ c) = vec2 128 1024 (sh (Pl m ρ c) (128 * b) 0) := by
  funext j
  have h0 : (j 0).val < 128 := (j 0).isLt
  have h1 : (j 1).val < 1024 := (j 1).isLt
  show _ = Pl m ρ c (128 * b + (j 0).val) (0 + (j 1).val)
  unfold Pl
  rw [show (128 * b + (j 0).val) / 128 = b by omega]
  congr 1
  funext a
  match a with
  | ⟨0, _⟩ => exact Fin.ext (show (j 0).val = (128 * b + (j 0).val) % 128 by omega)
  | ⟨1, _⟩ => exact Fin.ext (show (j 1).val = (0 + (j 1).val) % 1024 by omega)

end Cert.AllReduce

end
-- ==== Proof.Steps.lean ====
module

public import proofs.«01_k».proof.Proof.Mem
public import Idealize.ShloMosaic.Lib.Pipeline.BigSepL

/-!
The body's steps on the protocol: the signals, the waits and the copies, over the bundle `St` of everything a
device holds of the protocol at a point of the body.
-/

@[expose] public section

set_option maxRecDepth 20000

noncomputable section

namespace Cert.AllReduce

open Cert.KernelIdeal Cert.KernelIdeal.Gen
open Idealize.ShloMosaic
open Idealize.ShloMosaic.TcCoe
open Idealize.ShloMosaic.RefSig (tileCredit tileCredit_pos)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ### Semaphores picked out of arrays -/

/-- A semaphore picked out of an array. -/
theorem sem_at {base n k N : ℕ} (h : base + (⟨1, ![n]⟩ : Shape).numel ≤ N) (inb : ∀ a, ![k] a + (⟨1, ![1]⟩ : Shape).size a ≤ (⟨1, ![n]⟩ : Shape).size a)
    {d : Fin 0 → ℕ} (sq : (⟨1, ![1]⟩ : Shape).Squeezes ⟨0, d⟩) (hlt : base + k < N) :
    (((SemArray.consecutive base (⟨1, ![n]⟩ : Shape) h).slice (Rect.unit (s := ⟨1, ![n]⟩) ![k] (⟨1, ![1]⟩ : Shape).size inb)).squeeze ⟨0, d⟩ sq).sem = (⟨base + k, hlt⟩ : Fin N) := by
  apply Fin.ext
  show base + ((⟨1, ![n]⟩ : Shape).rowMajor ((Rect.unit (s := ⟨1, ![n]⟩) ![k] (⟨1, ![1]⟩ : Shape).size inb).emb (Shape.reshapeEquiv sq.numel_eq fun i => i.elim0))).val = base + k
  congr 1
  have h1 : ∀ j : (⟨1, ![1]⟩ : Shape).Idx, (j 0).val = 0 := fun j => by have : (j 0).val < 1 := (j 0).isLt; omega
  set x := Shape.reshapeEquiv sq.numel_eq fun i => i.elim0
  rw [Shape.rowMajor_val_one]
  show k + 1 * (x 0).val = k
  rw [h1 x, Nat.mul_zero, Nat.add_zero]

/-- The semaphores of the departures of the exchange along `x`. -/
theorem sem5 (k : ℕ) (hk : k < 8) (inb sq) :
    SemArray.sem (SemArray.squeeze (SemArray.slice cc0_scratch5 (Rect.unit (s := S8) ![k] ![1] inb)) S_ sq) = dS (false, .rx ⟨k, hk⟩) :=
  sem_at _ _ _ (show 4 + k < 76 by omega)
/-- The semaphores of the arrivals of the exchange along `x`. -/
theorem sem6 (k : ℕ) (hk : k < 8) (inb sq) :
    SemArray.sem (SemArray.squeeze (SemArray.slice cc0_scratch6 (Rect.unit (s := S8) ![k] ![1] inb)) S_ sq) = dS (true, .rx ⟨k, hk⟩) :=
  sem_at _ _ _ (show 12 + k < 76 by omega)
/-- The semaphores of the departures of the reduction ring along `y`, left half. -/
theorem sem7 (k : ℕ) (hk : k < 3) (inb sq) :
    SemArray.sem (SemArray.squeeze (SemArray.slice cc0_scratch7 (Rect.unit (s := S3) ![k] ![1] inb)) S_ sq) = dS (false, .ry false ⟨k, hk⟩) :=
  sem_at _ _ _ (show 20 + k < 76 by omega)
/-- The semaphores of the arrivals of the reduction ring along `y`, left half. -/
theorem sem8 (k : ℕ) (hk : k < 3) (inb sq) :
    SemArray.sem (SemArray.squeeze (SemArray.slice cc0_scratch8 (Rect.unit (s := S3) ![k] ![1] inb)) S_ sq) = dS (true, .ry false ⟨k, hk⟩) :=
  sem_at _ _ _ (show 23 + k < 76 by omega)
/-- The semaphores of the departures of the reduction ring along `y`, right half. -/
theorem sem9 (k : ℕ) (hk : k < 3) (inb sq) :
    SemArray.sem (SemArray.squeeze (SemArray.slice cc0_scratch9 (Rect.unit (s := S3) ![k] ![1] inb)) S_ sq) = dS (false, .ry true ⟨k, hk⟩) :=
  sem_at _ _ _ (show 26 + k < 76 by omega)
/-- The semaphores of the arrivals of the reduction ring along `y`, right half. -/
theorem sem10 (k : ℕ) (hk : k < 3) (inb sq) :
    SemArray.sem (SemArray.squeeze (SemArray.slice cc0_scratch10 (Rect.unit (s := S3) ![k] ![1] inb)) S_ sq) = dS (true, .ry true ⟨k, hk⟩) :=
  sem_at _ _ _ (show 29 + k < 76 by omega)
/-- The semaphores of the departures of the reduction ring along `z`, left half. -/
theorem sem11 (k : ℕ) (hk : k < 3) (inb sq) :
    SemArray.sem (SemArray.squeeze (SemArray.slice cc0_scratch11 (Rect.unit (s := S3) ![k] ![1] inb)) S_ sq) = dS (false, .rz false ⟨k, hk⟩) :=
  sem_at _ _ _ (show 32 + k < 76 by omega)
/-- The semaphores of the arrivals of the reduction ring along `z`, left half. -/
theorem sem12 (k : ℕ) (hk : k < 3) (inb sq) :
    SemArray.sem (SemArray.squeeze (SemArray.slice cc0_scratch12 (Rect.unit (s := S3) ![k] ![1] inb)) S_ sq) = dS (true, .rz false ⟨k, hk⟩) :=
  sem_at _ _ _ (show 35 + k < 76 by omega)
/-- The semaphores of the departures of the reduction ring along `z`, right half. -/
theorem sem13 (k : ℕ) (hk : k < 3) (inb sq) :
    SemArray.sem (SemArray.squeeze (SemArray.slice cc0_scratch13 (Rect.unit (s := S3) ![k] ![1] inb)) S_ sq) = dS (false, .rz true ⟨k, hk⟩) :=
  sem_at _ _ _ (show 38 + k < 76 by omega)
/-- The semaphores of the arrivals of the reduction ring along `z`, right half. -/
theorem sem14 (k : ℕ) (hk : k < 3) (inb sq) :
    SemArray.sem (SemArray.squeeze (SemArray.slice cc0_scratch14 (Rect.unit (s := S3) ![k] ![1] inb)) S_ sq) = dS (true, .rz true ⟨k, hk⟩) :=
  sem_at _ _ _ (show 41 + k < 76 by omega)
/-- The semaphores of the departures of the gather along `z`, left half. -/
theorem sem15 (k : ℕ) (hk : k < 3) (inb sq) :
    SemArray.sem (SemArray.squeeze (SemArray.slice cc0_scratch15 (Rect.unit (s := S3) ![k] ![1] inb)) S_ sq) = dS (false, .gz false ⟨k, hk⟩) :=
  sem_at _ _ _ (show 44 + k < 76 by omega)
/-- The semaphores of the arrivals of the gather along `z`, left half. -/
theorem sem16 (k : ℕ) (hk : k < 3) (inb sq) :
    SemArray.sem (SemArray.squeeze (SemArray.slice cc0_scratch16 (Rect.unit (s := S3) ![k] ![1] inb)) S_ sq) = dS (true, .gz false ⟨k, hk⟩) :=
  sem_at _ _ _ (show 47 + k < 76 by omega)
/-- The semaphores of the departures of the gather along `z`, right half. -/
theorem sem17 (k : ℕ) (hk : k < 3) (inb sq) :
    SemArray.sem (SemArray.squeeze (SemArray.slice cc0_scratch17 (Rect.unit (s := S3) ![k] ![1] inb)) S_ sq) = dS (false, .gz true ⟨k, hk⟩) :=
  sem_at _ _ _ (show 50 + k < 76 by omega)
/-- The semaphores of the arrivals of the gather along `z`, right half. -/
theorem sem18 (k : ℕ) (hk : k < 3) (inb sq) :
    SemArray.sem (SemArray.squeeze (SemArray.slice cc0_scratch18 (Rect.unit (s := S3) ![k] ![1] inb)) S_ sq) = dS (true, .gz true ⟨k, hk⟩) :=
  sem_at _ _ _ (show 53 + k < 76 by omega)
/-- The semaphores of the departures of the gather along `y`, left half. -/
theorem sem19 (k : ℕ) (hk : k < 3) (inb sq) :
    SemArray.sem (SemArray.squeeze (SemArray.slice cc0_scratch19 (Rect.unit (s := S3) ![k] ![1] inb)) S_ sq) = dS (false, .gy false ⟨k, hk⟩) :=
  sem_at _ _ _ (show 56 + k < 76 by omega)
/-- The semaphores of the arrivals of the gather along `y`, left half. -/
theorem sem20 (k : ℕ) (hk : k < 3) (inb sq) :
    SemArray.sem (SemArray.squeeze (SemArray.slice cc0_scratch20 (Rect.unit (s := S3) ![k] ![1] inb)) S_ sq) = dS (true, .gy false ⟨k, hk⟩) :=
  sem_at _ _ _ (show 59 + k < 76 by omega)
/-- The semaphores of the departures of the gather along `y`, right half. -/
theorem sem21 (k : ℕ) (hk : k < 3) (inb sq) :
    SemArray.sem (SemArray.squeeze (SemArray.slice cc0_scratch21 (Rect.unit (s := S3) ![k] ![1] inb)) S_ sq) = dS (false, .gy true ⟨k, hk⟩) :=
  sem_at _ _ _ (show 62 + k < 76 by omega)
/-- The semaphores of the arrivals of the gather along `y`, right half. -/
theorem sem22 (k : ℕ) (hk : k < 3) (inb sq) :
    SemArray.sem (SemArray.squeeze (SemArray.slice cc0_scratch22 (Rect.unit (s := S3) ![k] ![1] inb)) S_ sq) = dS (true, .gy true ⟨k, hk⟩) :=
  sem_at _ _ _ (show 65 + k < 76 by omega)
/-- The semaphores of the departures of the gather along `x`. -/
theorem sem23 (k : ℕ) (hk : k < 4) (inb sq) :
    SemArray.sem (SemArray.squeeze (SemArray.slice cc0_scratch23 (Rect.unit (s := S4) ![k] ![1] inb)) S_ sq) = dS (false, .gx ⟨k, hk⟩) :=
  sem_at _ _ _ (show 68 + k < 76 by omega)
/-- The semaphores of the arrivals of the gather along `x`. -/
theorem sem24 (k : ℕ) (hk : k < 4) (inb sq) :
    SemArray.sem (SemArray.squeeze (SemArray.slice cc0_scratch24 (Rect.unit (s := S4) ![k] ![1] inb)) S_ sq) = dS (true, .gx ⟨k, hk⟩) :=
  sem_at _ _ _ (show 72 + k < 76 by omega)

variable (m : (ℓ : Loc nD τ sig) → Buf (Elt F) ℓ) (ρ : Dev nD → PrngReg) (K : D × CI → ℕ)

/-! ### What a device holds of the protocol -/

/-- Every cell's invariant, and that its round 0 is reached. -/
def Recs : sProp 𝕄 :=
  iprop((bigSep Finset.univ fun p : D × CI => cellInv ER (Rd m ρ) (K p) (kcell p.1 p.2))
    ∗ (bigSep Finset.univ fun p : D × CI => reached ER (kcell p.1 p.2) 0))

instance : Persistent (Recs (F := F) m ρ K) := by unfold Recs; infer_instance

/-- Every cell's invariant is among the records. -/
theorem recs_inv (c : D) (i : CI) : Recs m ρ K ⊢ cellInv ER (Rd m ρ) (K (c, i)) (kcell c i) := by
  unfold Recs
  iintro ⟨H, -⟩
  iapply (show (bigSep Finset.univ fun p : D × CI => (cellInv ER (Rd m ρ) (K p) (kcell p.1 p.2) : sProp 𝕄)) ⊢ cellInv ER (Rd m ρ) (K (c, i)) (kcell c i)
    from bigSep_elim (Finset.mem_univ (c, i))) $$ H

/-- Every cell's round 0 is recorded as reached. -/
theorem recs_reached (c : D) (i : CI) : Recs m ρ K ⊢ reached ER (kcell c i) 0 := by
  unfold Recs
  iintro ⟨-, H⟩
  iapply (show (bigSep Finset.univ fun p : D × CI => (reached ER (kcell p.1 p.2) 0 : sProp 𝕄)) ⊢ reached ER (kcell c i) 0
    from bigSep_elim (Finset.mem_univ (c, i))) $$ H

/-- The tokens to start copy `j`, what is kept for the wait on its arrival, and what is kept for the wait on its departure. -/
def tokS (c : D) (j : Xf) : sProp 𝕄 :=
  iprop(dutyTok ER (sndCell j c) 0 0 ∗ dutyTok ER (rcvCell j (tg j c)) 0 0 ∗ atPos ER (sndCell j c) 0 ∅ 0)
/-- What is kept for the wait on copy `j`'s arrival. -/
def tokW (c : D) (j : Xf) : sProp 𝕄 :=
  iprop(atPos ER (rcvCell j c) 0 ∅ 0 ∗ cred (tallyAt (rcvCell j c) () (N j)))
/-- What is kept for the wait on copy `j`'s departure. -/
def tokD (c : D) (j : Xf) : sProp 𝕄 :=
  iprop(cred (tallyAt (sndCell j c) () (N j)) ∗ atPos ER (sndCell j c) 0 ∅ 0)

/-- A device's part of the protocol after `b` signals, `n` starts, `w` arrivals and `s` departures waited for. -/
def St (b n w s : ℕ) (c : D) : sProp 𝕄 :=
  iprop(Recs m ρ K ∗ levAts L lv ∗ (∃ W, owes (c : Thread nD τ) (owB (bord.drop b) (ord.drop n) c) W)
    ∗ bigSepL (bord.drop b) (fun d => dutyTok ER (barCell (bt d c)) 0 d)
    ∗ bigSepL (ord.drop n) (tokS c)
    ∗ bigSepL (wrd.drop w) (tokW c)
    ∗ bigSepL ((ord.take n).drop s) (tokD c)
    ∗ bigSepL (wrd.take w) (fun j => semVal (rcvCell j c) 0)
    ∗ bigSepL (ord.take s) (fun j => semVal (sndCell j c) 0))

variable {m ρ K}

/-- A list's product with one more at the end. -/
theorem bigSepL_push {I : Type} (l : List I) (i : I) (Φ : I → sProp 𝕄) :
    iprop(bigSepL l Φ ∗ Φ i) ⊢ bigSepL (l ++ [i]) Φ := by
  rw [bigSepL_append]; exact BI.Entails.refl _

/-- A signal: the barrier duty `d` of a neighbour, with its payload. -/
theorem st_sig {α : Type} {c : D} (b : ℕ) (d : Fin 5) (hb : bord.drop b = d :: bord.drop (b + 1)) {n w s : ℕ}
    {x : D} (hx : x = bt d c) {k : PUnit → Prog (TpuEff nD τ sig (Elt F) Λ₀ .tc) α} {Q : α → sProp 𝕄} :
    iprop(St m ρ K b n w s c ∗ barPay d (bt d c)) ⊢ iprop((St m ρ K (b + 1) n w s c -∗ WP c (k ⟨⟩) Q)
      -∗ WP c (.op (.semSignal (Dev.tc x : Thread nD τ) barS 1) k) Q) := by
  subst hx
  unfold St
  rw [hb, bigSepL_cons']
  iintro ⟨⟨#HR, #HL, ⟨%W, HO⟩, ⟨Ht, Hts⟩, H1, H2, H3, H4, H5⟩, HP⟩ Hk
  iapply (Rounds.wp_signal 𝒱₀ ER (Rd m ρ) (c : Thread nD τ) none (dst := (bt d c : Thread nD τ)) (κ := K (bt d c, none))
    (d := d) (by rw [show ((bt d c : Thread nD τ), SemLoc.reg barS) = barCell (bt d c) from rfl, duties_bar]; exact Finset.mem_univ _) ((amount_bar m ρ (bt d c) d).trans (by decide)) () (owB (bord.drop (b + 1)) (ord.drop n) c) rfl)
    $$ [HO Ht HP]
  · isplitr; · iapply (recs_inv m ρ K (bt d c) none) $$ HR
    isplitl [HO]; · iexact HO
    isplitl [Ht]; · iexact Ht
    isplitl [HP]
    · rw [show (Rd m ρ).payload ((bt d c : Thread nD τ), SemLoc.reg barS) 0 d = barPay d (bt d c) from payload_bar m ρ (bt d c) d]; iexact HP
    iapply (recs_reached m ρ K (bt d c) none) $$ HR
  iintro HO
  iapply Hk
  isplitr; · iexact HR
  isplitr; · iexact HL
  isplitl [HO]; · iexists W; iexact HO
  isplitl [Hts]; · iexact Hts
  isplitl [H1]; · iexact H1
  isplitl [H2]; · iexact H2
  isplitl [H3]; · iexact H3
  isplitl [H4] <;> iassumption

/-- The wait for the five signals. -/
theorem st_bar {α : Type} {c : D} {w s : ℕ} {k : PUnit → Prog (TpuEff nD τ sig (Elt F) Λ₀ .tc) α} {Q : α → sProp 𝕄} :
    iprop(St m ρ K 5 0 w s c ∗ cred (tallyAt (barCell c) () 5) ∗ atPos ER (barCell c) 0 ∅ 0)
      ⊢ iprop(((St m ρ K 5 0 w s c ∗ semVal (barCell c) 0 ∗ barPay 0 c ∗ barPay 1 c ∗ barPay 2 c ∗ barPay 3 c ∗ barPay 4 c) -∗ WP c (k ⟨⟩) Q)
      -∗ WP c (.op (.semWait barS 5) k) Q) := by
  unfold St
  iintro ⟨⟨#HR, #HL, ⟨%W, HO⟩, H0, H1, H2, H3, H4, H5⟩, Hc, Hat⟩ Hk
  iapply (Rounds.wp_wait_rest_token 𝒱₀ ER (Rd m ρ) (c : Thread nD τ) none (κ := K (c, none))
      (wpE_semWait_eq 𝒱₀ (c : Thread nD τ) none Set.univ) (Set.mem_univ _) () (O := owB (bord.drop 5) (ord.drop 0) c) (W := W) (R := 0) (m := 0) (T := ∅)
      (by rw [Nat.zero_add]; exact (expect_bar m ρ c).symm)) $$ [Hc HO Hat]
  · isplitr; · iapply (recs_inv m ρ K c none) $$ HR
    isplitl [Hc]; · iexact Hc
    isplitl [HO]; · iexact HO
    isplitr; · iapply (mayWait_X c (.reg barS) ord (fun j _ => by rw [show lv ((c : Thread nD τ), .reg barS) () = 1 from rfl]; omega)); iexact HL
    iexact Hat
  iintro ⟨HO, Hat, -, Hpay⟩
  ihave Hp := (Entails.of_eq (rest_bar m ρ c)) $$ [Hpay]
  · iexact Hpay
  imod (Rounds.cell_close ER (Rd m ρ) (Set.mem_univ (K (c, none))) (fun h => h) (R := 0 + 1) (duties_later m ρ (barCell c))) $$ [Hat] with Hz
  · isplitr; · iapply (recs_inv m ρ K c none) $$ HR
    iexact Hat
  iapply Hk
  isplitr [Hz Hp]
  · isplitr; · iexact HR
    isplitr; · iexact HL
    isplitl [HO]; · iexists _; iexact HO
    isplitl [H0]; · iexact H0
    isplitl [H1]; · iexact H1
    isplitl [H2]; · iexact H2
    isplitl [H3]; · iexact H3
    isplitl [H4] <;> iassumption
  isplitl [Hz] <;> iassumption

/-- The wait for an arrival. -/
theorem st_rcv {α : Type} {c : D} (w : ℕ) (j : Xf) (hw : wrd.drop w = j :: wrd.drop (w + 1)) (hw' : wrd.take (w + 1) = wrd.take w ++ [j])
    {n s : ℕ} (hl : ∀ i ∈ ord.drop n, pl j < pl i) {q : DmaSem sig} (hq : q = dS (true, j)) {sh sh' : Shape} {e e' : EltTy} {sp sp' : Space}
    {src : Memref sig .tc sp sh e} {dst : Memref sig .tc sp' sh' e'} {h1 h2} (hN : dst.view.dmaCredit = N j)
    {k : PUnit → Prog (TpuEff nD τ sig (Elt F) Λ₀ .tc) α} {Q : α → sProp 𝕄} :
    St m ρ K 5 n w s c ⊢ iprop(((St m ρ K 5 n (w + 1) s c ∗ rcvPay m ρ j c) -∗ WP c (k ⟨⟩) Q)
      -∗ WP c (.op (.waitDma2 q src dst h1 h2) k) Q) := by
  subst hq
  unfold St
  rw [hw, hw', bigSepL_cons']
  unfold tokW
  iintro ⟨#HR, #HL, ⟨%W, HO⟩, H0, H1, ⟨⟨Hat, Hc⟩, H2⟩, H3, H4, H5⟩ Hk
  rw [← hN]
  iapply (Rounds.wp_wait_rest_token 𝒱₀ ER (Rd m ρ) (c : Thread nD τ) none (κ := K (c, some (true, j)))
      (wpE_waitDma2_eq 𝒱₀ (c : Thread nD τ) none Set.univ) (Set.mem_univ _) () (O := owX (ord.drop n) c) (W := W) (R := 0) (m := 0) (T := ∅)
      (by rw [Nat.zero_add, hN]; exact (expect_dma m ρ (true, j) c).symm)) $$ [Hc HO Hat]
  · isplitr; · iapply (recs_inv m ρ K c (some (true, j))) $$ HR
    isplitl [Hc]; · iexact Hc
    isplitl [HO]; · iexact HO
    isplitr
    · iapply (mayWait_X c (.dma (dS (true, j))) (ord.drop n) (fun i hi => by
        rw [show lv ((c : Thread nD τ), .dma (dS (true, j))) () = 2 + pl j from lv_rcv j c ()]; have := hl i hi; omega)); iexact HL
    iexact Hat
  iintro ⟨HO, Hat, -, Hpay⟩
  ihave Hp := (Entails.of_eq (rest_rcv m ρ j c)) $$ [Hpay]
  · iexact Hpay
  imod (Rounds.cell_close ER (Rd m ρ) (Set.mem_univ (K (c, some (true, j)))) (fun h => h) (R := 0 + 1) (duties_later m ρ (rcvCell j c))) $$ [Hat] with Hz
  · isplitr; · iapply (recs_inv m ρ K c (some (true, j))) $$ HR
    iexact Hat
  iapply Hk
  isplitr [Hp]
  · isplitr; · iexact HR
    isplitr; · iexact HL
    isplitl [HO]; · iexists _; iexact HO
    isplitl [H0]; · iexact H0
    isplitl [H1]; · iexact H1
    isplitl [H2]; · iexact H2
    isplitl [H3]; · iexact H3
    isplitl [H4 Hz]
    · iapply (bigSepL_push (wrd.take w) j (fun j => (semVal (rcvCell j c) 0 : sProp 𝕄)))
      isplitl [H4] <;> iassumption
    iexact H5
  iexact Hp

/-- The wait for a departure, after every start. -/
theorem st_snd {α : Type} {c : D} (s : ℕ) (j : Xf) (hs : (ord.take 36).drop s = j :: (ord.take 36).drop (s + 1)) (hs' : ord.take (s + 1) = ord.take s ++ [j])
    {w : ℕ} {q : DmaSem sig} (hq : q = dS (false, j)) {sh sh' : Shape} {e e' : EltTy} {sp sp' : Space}
    {src : Memref sig .tc sp sh e} {dst : Memref sig .tc sp' sh' e'} {h1 h2} (hN : dst.view.dmaCredit = N j)
    {k : PUnit → Prog (TpuEff nD τ sig (Elt F) Λ₀ .tc) α} {Q : α → sProp 𝕄} :
    St m ρ K 5 36 w s c ⊢ iprop(((St m ρ K 5 36 w (s + 1) c ∗ sndPay m ρ j c) -∗ WP c (k ⟨⟩) Q)
      -∗ WP c (.op (.waitDma2 q src dst h1 h2) k) Q) := by
  subst hq
  unfold St
  rw [hs, hs', bigSepL_cons']
  unfold tokD
  iintro ⟨#HR, #HL, ⟨%W, HO⟩, H0, H1, H2, ⟨⟨Hc, Hat⟩, H3⟩, H4, H5⟩ Hk
  rw [← hN]
  iapply (Rounds.wp_wait_rest_token 𝒱₀ ER (Rd m ρ) (c : Thread nD τ) none (κ := K (c, some (false, j)))
      (wpE_waitDma2_eq 𝒱₀ (c : Thread nD τ) none Set.univ) (Set.mem_univ _) () (O := 0) (W := W) (R := 0) (m := 0) (T := ∅)
      (by rw [Nat.zero_add, hN]; exact (expect_dma m ρ (false, j) c).symm)) $$ [Hc HO Hat]
  · isplitr; · iapply (recs_inv m ρ K c (some (false, j))) $$ HR
    isplitl [Hc]; · iexact Hc
    isplitl [HO]; · iexact HO
    isplitr; · rw [MayWait_zero]; iempintro
    iexact Hat
  iintro ⟨HO, Hat, -, Hpay⟩
  ihave Hp := (Entails.of_eq (rest_snd m ρ j c)) $$ [Hpay]
  · iexact Hpay
  imod (Rounds.cell_close ER (Rd m ρ) (Set.mem_univ (K (c, some (false, j)))) (fun h => h) (R := 0 + 1) (duties_later m ρ (sndCell j c))) $$ [Hat] with Hz
  · isplitr; · iapply (recs_inv m ρ K c (some (false, j))) $$ HR
    iexact Hat
  iapply Hk
  isplitr [Hp]
  · isplitr; · iexact HR
    isplitr; · iexact HL
    isplitl [HO]; · iexists _; iexact HO
    isplitl [H0]; · iexact H0
    isplitl [H1]; · iexact H1
    isplitl [H2]; · iexact H2
    isplitl [H3]; · iexact H3
    isplitl [H4]; · iexact H4
    iapply (bigSepL_push (ord.take s) j (fun j => (semVal (sndCell j c) 0 : sProp 𝕄)))
    isplitl [H5] <;> iassumption
  iexact Hp

/-- A start whose source goes along to the target's owner. -/
theorem st_sendA {α : Type} {c : D} (n : ℕ) (j : Xf) (hn : ord.drop n = j :: ord.drop (n + 1)) (hn' : ord.take (n + 1) = ord.take n ++ [j])
    {w : ℕ} {s : Shape} {src dst : Memref sig .tc .vmem s .f32} {hsc}
    {h1 h2 h3} {fs : Buf (Elt F) (src.view.loc (c : Thread nD τ))}
    {fd : Buf (Elt F) (dst.view.loc (tg j c : Thread nD τ))} {R : sProp 𝕄} (hN : dst.view.amount (.dma (dS (true, j))) = N j)
    (hsnd : iprop(emp) ⊢ sndPay (F := F) m ρ j c)
    (hpay : iprop(((dst.view.loc (tg j c : Thread nD τ) ↦[dst.view.set]{fullShare} (dst.view.write (Elt F) fd (src.view.read (Elt F) fs) Finset.univ)) ∗ R)
      ∗ (src.view.loc (c : Thread nD τ) ↦[src.view.set]{fullShare} fs)) ⊢ rcvPay m ρ j (tg j c))
    {k : PUnit → Prog (TpuEff nD τ sig (Elt F) Λ₀ .tc) α} {Q : α → sProp 𝕄} :
    iprop(St m ρ K 5 n w 0 c ∗ (src.view.loc (c : Thread nD τ) ↦[src.view.set]{fullShare} fs) ∗ (dst.view.loc (tg j c : Thread nD τ) ↦[dst.view.set]{fullShare} fd) ∗ R)
      ⊢ iprop((St m ρ K 5 (n + 1) w 0 c -∗ WP c (k ⟨⟩) Q)
      -∗ WP c (.op (.enqueueDma src (.remote (Dev.tc (tg j c) : Thread nD τ) dst (.dma (dS (false, j))) hsc) (.dma (dS (true, j))) h1 h2 h3) k) Q) := by
  unfold St
  rw [hn, hn', bigSepL_cons', List.drop_zero, List.drop_zero]
  unfold tokS
  iintro ⟨⟨#HR, #HL, ⟨%W, HO⟩, H0, ⟨⟨Ht1, Ht2, Hat⟩, H1⟩, H2, H3, H4, H5⟩, Hs, Hd, HRr⟩ Hk
  iapply (Rounds.wp_send_landing_pointsTo_with 𝒱₀ ER (Rd m ρ) (c : Thread nD τ) none (κ₁ := K (c, some (false, j))) (κ₂ := K (tg j c, some (true, j)))
    (r₁ := 0) (r₂ := 0) (d₁ := 0) (d₂ := 0) (fd := fd) (F := R) (src := src) (dst := dst) (fs := fs) (c' := (tg j c : Thread nD τ)) (sS := .dma (dS (false, j))) (sem := .dma (dS (true, j)))
    (by rw [show ((c : Thread nD τ), SemLoc.dma (dS (false, j))) = sndCell j c from rfl, duties_dma]; exact Finset.mem_singleton_self _)
    (by rw [show ((tg j c : Thread nD τ), SemLoc.dma (dS (true, j))) = rcvCell j (tg j c) from rfl, duties_dma]; exact Finset.mem_singleton_self _)
    () () (N j) hN (amount_dma m ρ (false, j) c 0) (amount_dma m ρ (true, j) (tg j c) 0) (owX (ord.drop (n + 1)) c) rfl (W := W)
    ((hsnd).trans (Entails.of_eq (payload_snd m ρ j c 0).symm)) (hpay.trans (Entails.of_eq (payload_rcv m ρ j (tg j c) 0).symm))) $$ [HO Hs Hd HRr Ht1 Ht2]
  · isplitr; · iapply (recs_inv m ρ K c (some (false, j))) $$ HR
    isplitr; · iapply (recs_inv m ρ K (tg j c) (some (true, j))) $$ HR
    isplitl [Hs]; · iexact Hs
    isplitl [Hd HRr]
    · isplitl [Hd]; · iexact Hd
      iexact HRr
    isplitl [HO]; · iexact HO
    isplitl [Ht1]; · iexact Ht1
    isplitr; · iapply (recs_reached m ρ K c (some (false, j))) $$ HR
    isplitl [Ht2]; · iexact Ht2
    iapply (recs_reached m ρ K (tg j c) (some (true, j))) $$ HR
  iintro ⟨Hc, HO⟩
  iapply Hk
  isplitr; · iexact HR
  isplitr; · iexact HL
  isplitl [HO]; · iexists W; iexact HO
  isplitl [H0]; · iexact H0
  isplitl [H1]; · iexact H1
  isplitl [H2]; · iexact H2
  isplitl [H3 Hc Hat]
  · iapply (bigSepL_push (ord.take n) j (tokD c))
    isplitl [H3]; · iexact H3
    unfold tokD
    isplitl [Hc]; · iexact Hc
    iexact Hat
  isplitl [H4]; · iexact H4
  iexact H5

/-- A start whose source comes back at its departure. -/
theorem st_sendB {α : Type} {c : D} (n : ℕ) (j : Xf) (hn : ord.drop n = j :: ord.drop (n + 1)) (hn' : ord.take (n + 1) = ord.take n ++ [j])
    {w : ℕ} {s : Shape} {src dst : Memref sig .tc .vmem s .f32} {hsc}
    {h1 h2 h3} {q : PosShare TreeShare} {fs : Buf (Elt F) (src.view.loc (c : Thread nD τ))}
    {fd : Buf (Elt F) (dst.view.loc (tg j c : Thread nD τ))} {R : sProp 𝕄} (hN : dst.view.amount (.dma (dS (true, j))) = N j)
    (hsnd : (src.view.loc (c : Thread nD τ) ↦[src.view.set]{q} fs) ⊢ sndPay (F := F) m ρ j c)
    (hpay : iprop((dst.view.loc (tg j c : Thread nD τ) ↦[dst.view.set]{fullShare} (dst.view.write (Elt F) fd (src.view.read (Elt F) fs) Finset.univ)) ∗ R)
      ⊢ rcvPay m ρ j (tg j c))
    {k : PUnit → Prog (TpuEff nD τ sig (Elt F) Λ₀ .tc) α} {Q : α → sProp 𝕄} :
    iprop(St m ρ K 5 n w 0 c ∗ (src.view.loc (c : Thread nD τ) ↦[src.view.set]{q} fs) ∗ (dst.view.loc (tg j c : Thread nD τ) ↦[dst.view.set]{fullShare} fd) ∗ R)
      ⊢ iprop((St m ρ K 5 (n + 1) w 0 c -∗ WP c (k ⟨⟩) Q)
      -∗ WP c (.op (.enqueueDma src (.remote (Dev.tc (tg j c) : Thread nD τ) dst (.dma (dS (false, j))) hsc) (.dma (dS (true, j))) h1 h2 h3) k) Q) := by
  unfold St
  rw [hn, hn', bigSepL_cons', List.drop_zero, List.drop_zero]
  unfold tokS
  iintro ⟨⟨#HR, #HL, ⟨%W, HO⟩, H0, ⟨⟨Ht1, Ht2, Hat⟩, H1⟩, H2, H3, H4, H5⟩, Hs, Hd, HRr⟩ Hk
  iapply (Rounds.wp_send_pointsTo_with 𝒱₀ ER (Rd m ρ) (c : Thread nD τ) none (κ₁ := K (c, some (false, j))) (κ₂ := K (tg j c, some (true, j)))
    (r₁ := 0) (r₂ := 0) (d₁ := 0) (d₂ := 0) (fd := fd) (F := R) (src := src) (dst := dst) (fs := fs) (c' := (tg j c : Thread nD τ)) (sS := .dma (dS (false, j))) (sem := .dma (dS (true, j)))
    (by rw [show ((c : Thread nD τ), SemLoc.dma (dS (false, j))) = sndCell j c from rfl, duties_dma]; exact Finset.mem_singleton_self _)
    (by rw [show ((tg j c : Thread nD τ), SemLoc.dma (dS (true, j))) = rcvCell j (tg j c) from rfl, duties_dma]; exact Finset.mem_singleton_self _)
    () () (N j) hN (amount_dma m ρ (false, j) c 0) (amount_dma m ρ (true, j) (tg j c) 0) (owX (ord.drop (n + 1)) c) rfl (W := W)
    ((hsnd).trans (Entails.of_eq (payload_snd m ρ j c 0).symm)) (hpay.trans (Entails.of_eq (payload_rcv m ρ j (tg j c) 0).symm))) $$ [HO Hs Hd HRr Ht1 Ht2]
  · isplitr; · iapply (recs_inv m ρ K c (some (false, j))) $$ HR
    isplitr; · iapply (recs_inv m ρ K (tg j c) (some (true, j))) $$ HR
    isplitl [Hs]; · iexact Hs
    isplitl [Hd HRr]
    · isplitl [Hd]; · iexact Hd
      iexact HRr
    isplitl [HO]; · iexact HO
    isplitl [Ht1]; · iexact Ht1
    isplitr; · iapply (recs_reached m ρ K c (some (false, j))) $$ HR
    isplitl [Ht2]; · iexact Ht2
    iapply (recs_reached m ρ K (tg j c) (some (true, j))) $$ HR
  iintro ⟨Hc, HO⟩
  iapply Hk
  isplitr; · iexact HR
  isplitr; · iexact HL
  isplitl [HO]; · iexists W; iexact HO
  isplitl [H0]; · iexact H0
  isplitl [H1]; · iexact H1
  isplitl [H2]; · iexact H2
  isplitl [H3 Hc Hat]
  · iapply (bigSepL_push (ord.take n) j (tokD c))
    isplitl [H3]; · iexact H3
    unfold tokD
    isplitl [Hc]; · iexact Hc
    iexact Hat
  isplitl [H4]; · iexact H4
  iexact H5

end Cert.AllReduce

end
-- ==== Proof.Rules.lean ====
module

public import proofs.«01_k».proof.Proof.Steps

/-!
The body's steps by kind of copy: the starts, the arrivals, the departures, the additions and the block products,
each over the regions it touches.
-/

@[expose] public section

set_option maxRecDepth 20000

noncomputable section

namespace Cert.AllReduce

open Cert.KernelIdeal Cert.KernelIdeal.Gen
open Idealize.ShloMosaic
open Idealize.ShloMosaic.TcCoe
open Idealize.ShloMosaic.RefSig (tileCredit tileCredit_pos)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg} {K : D × CI → ℕ}

/-! ### Where a copy lands -/

/-- A buffer region's credit is that of its shape. -/
theorem credit_eq {sp : Space} {s : Shape} {e : EltTy} (v : Memref sig .tc sp s e) : v.view.dmaCredit = tileCredit s e := rfl

/-- Landing on `dst`: `A` is the place before, and `B g` the place holding `g`, of which the copy brings the rows and columns from `r0` and `c0` on. -/
def Lands {nr nc : ℕ} (dst : Memref sig .tc .vmem ⟨2, ![nr, nc]⟩ .f32) (r0 c0 : ℕ) (A : D → sProp 𝕄) (B : (ℕ → ℕ → F .f32) → D → sProp 𝕄) : Prop :=
  (∀ x, A x ⊢ iprop(∃ fd : Buf (Elt F) (dst.view.loc (x : Thread nD τ)), dst.view.loc (x : Thread nD τ) ↦[dst.view.set]{fullShare} fd))
  ∧ ∀ (x : D) (fd : Buf (Elt F) (dst.view.loc (x : Thread nD τ))) (g : ℕ → ℕ → F .f32),
      (dst.view.loc (x : Thread nD τ) ↦[dst.view.set]{fullShare} (dst.view.write (Elt F) fd (vec2 nr nc (sh g r0 c0)) Finset.univ) : sProp 𝕄) ⊢ B g x

/-- The rows and columns of the result buffer a copy names. -/
abbrev oSl (off : Fin 2 → ℕ) (nr nc : ℕ) (inb : ∀ a, off a + (⟨2, ![nr, nc]⟩ : Shape).size a ≤ S1024x1024.size a) : Memref sig .tc .vmem ⟨2, ![nr, nc]⟩ .f32 :=
  (Memref.whole cc0_stg3_0).slice (Rect.unit (s := S1024x1024) off (⟨2, ![nr, nc]⟩ : Shape).size inb) (fun _ => rfl)

/-- The elements of a region of the result buffer are a box. -/
theorem oSl_set {nr nc r0 c0 : ℕ} {inb} : (oSl ![r0, c0] nr nc inb).view.set = box 1024 1024 r0 nr c0 nc :=
  (View.set_slice_whole _ _).trans (rect_box _)

/-- Owning a box of the result buffer is owning the region. -/
theorem oSl_pt {nr nc r0 c0 : ℕ} {inb} (q : PosShare TreeShare) (g : ℕ → ℕ → F .f32) (c : D) :
    O (box 1024 1024 r0 nr c0 nc) q g c = ((oSl ![r0, c0] nr nc inb).view.loc (c : Thread nD τ) ↦[(oSl ![r0, c0] nr nc inb).view.set]{q} (fun i : S1024x1024.Idx => g (i 0).val (i 1).val)) := by
  rw [oSl_set]; rfl

/-- Reading a region of the result buffer gives its contents. -/
theorem oSl_read {nr nc r0 c0 : ℕ} {inb} (g : ℕ → ℕ → F .f32) :
    (oSl ![r0, c0] nr nc inb).view.read (Elt F) (fun i : S1024x1024.Idx => g (i 0).val (i 1).val) = vec2 nr nc (sh g r0 c0) := by
  funext j
  show g _ _ = g _ _
  congr 1 <;> (show _ + 1 * _ = _; rw [Nat.one_mul]; rfl)

/-- A function of in-range rows and columns from contents of the result buffer. -/
theorem oany_of {S : Finset S1024x1024.Idx} {c : D} (f : Buf (Elt F) ((c : Thread nD τ).loc cc0_stg3_0)) :
    (((c : Thread nD τ).loc cc0_stg3_0) ↦[S]{fullShare} f : sProp 𝕄) ⊢ Oany S c := by
  unfold Oany O
  iintro H
  iexists (fun r col => f (ix r col))
  iapply (Entails.of_eq (pointsTo_congr fun i _ => ?_)) $$ H
  show f i = f _
  congr 1
  funext a
  have h0 : (i 0).val < 1024 := (i 0).isLt
  have h1 : (i 1).val < 1024 := (i 1).isLt
  match a with
  | ⟨0, _⟩ => exact Fin.ext (show (i 0).val = (i 0).val % 1024 by omega)
  | ⟨1, _⟩ => exact Fin.ext (show (i 1).val = (i 1).val % 1024 by omega)

/-- A copy into a region of the result buffer leaves what it carries. -/
theorem lands_o {nr nc r0 c0 : ℕ} {off : Fin 2 → ℕ} {inb} (hoff : off = ![r0, c0]) :
    Lands (F := F) (oSl off nr nc inb) r0 c0 (Oany (box 1024 1024 r0 nr c0 nc)) (O (box 1024 1024 r0 nr c0 nc) fullShare) := by
  subst hoff
  refine ⟨fun x => ?_, fun x fd g => ?_⟩
  · unfold Oany
    iintro ⟨%g, H⟩
    iexists (fun i : S1024x1024.Idx => g (i 0).val (i 1).val)
    iapply (Entails.of_eq (oSl_pt fullShare g x)) $$ H
  · refine Entails.of_eq ?_
    rw [oSl_pt (inb := inb)]
    refine pointsTo_congr fun i hi => ?_
    obtain ⟨j, -, rfl⟩ := Finset.mem_map.mp hi
    refine (View.write_emb_of_mem _ _ (Finset.mem_univ j)).trans ?_
    show g _ _ = g _ _
    congr 1 <;> (show _ = _ + 1 * _; rw [Nat.one_mul]; rfl)

/-- The rows and columns of the exchange's landing buffer a copy names. -/
abbrev cSl (off : Fin 2 → ℕ) (nr nc : ℕ) (inb : ∀ a, off a + (⟨2, ![nr, nc]⟩ : Shape).size a ≤ S512x1024.size a) : Memref sig .tc .vmem ⟨2, ![nr, nc]⟩ .f32 :=
  (Memref.whole cc0_scratch0).slice (Rect.unit (s := S512x1024) off (⟨2, ![nr, nc]⟩ : Shape).size inb) (fun _ => rfl)

/-- A copy into a region of the landing buffer of the exchange along `x` leaves what it carries. -/
theorem lands_c {nr nc r0 c0 : ℕ} {off : Fin 2 → ℕ} {inb} (hoff : off = ![r0, c0]) :
    Lands (F := F) (cSl off nr nc inb) r0 c0 (C4any (box 512 1024 r0 nr c0 nc)) (C4 (box 512 1024 r0 nr c0 nc)) := by
  subst hoff
  have hset : (cSl ![r0, c0] nr nc inb).view.set = box 512 1024 r0 nr c0 nc := (View.set_slice_whole _ _).trans (rect_box _)
  refine ⟨fun x => ?_, fun x fd g => ?_⟩
  · rw [hset]; exact BI.Entails.refl _
  · refine Entails.of_eq ?_
    unfold C4
    rw [← hset]
    refine pointsTo_congr fun i hi => ?_
    obtain ⟨j, -, rfl⟩ := Finset.mem_map.mp hi
    refine (View.write_emb_of_mem _ _ (Finset.mem_univ j)).trans ?_
    show g _ _ = g _ _
    congr 1 <;> (show _ = _ + 1 * _; rw [Nat.one_mul]; rfl)

/-- A copy into a slot of the landing buffer of the ring along `y`, left half, leaves what it carries. -/
theorem lands_y0 {s : ℕ} {inb sq} :
    Lands (F := F) (nr := 128) (nc := 512) (((Memref.whole cc0_scratch1).slice (Rect.unit (s := S3x128x512) ![s, 0, 0] (⟨3, ![1, 128, 512]⟩ : Shape).size inb) (fun _ => rfl)).squeeze ⟨2, ![128, 512]⟩ sq) 0 0
      (Cyany false (slot 3 128 512 s)) (Cy false (slot 3 128 512 s)) := by
  have hset : (((Memref.whole cc0_scratch1).slice (Rect.unit (s := S3x128x512) ![s, 0, 0] (⟨3, ![1, 128, 512]⟩ : Shape).size inb) (fun _ => rfl)).squeeze ⟨2, ![128, 512]⟩ sq).view.set = slot 3 128 512 s :=
    (View.set_reshape _ _).trans ((View.set_slice_whole _ _).trans (rect_slot _))
  refine ⟨fun x => ?_, fun x fd g => ?_⟩
  · rw [hset]; exact BI.Entails.refl _
  · refine Entails.of_eq ?_
    unfold Cy
    rw [← hset]
    refine pointsTo_congr fun i hi => ?_
    obtain ⟨j, -, rfl⟩ := Finset.mem_map.mp hi
    refine (View.write_emb_of_mem _ _ (Finset.mem_univ j)).trans ?_
    have e : Shape.reshapeEquiv sq.numel_eq j = (Fin.cons ⟨0, Nat.one_pos⟩ j : (⟨3, ![1, 128, 512]⟩ : Shape).Idx) :=
      Shape.reshapeEquiv_cons_one (n := 2) (d := ![128, 512]) sq.numel_eq j
    show g _ _ = g (0 + 1 * (Shape.reshapeEquiv sq.numel_eq j 1).val) (0 + 1 * (Shape.reshapeEquiv sq.numel_eq j 2).val)
    rw [e, Nat.one_mul, Nat.one_mul]
    rfl

/-- A copy into a slot of the landing buffer of the ring along `y`, right half, leaves what it carries. -/
theorem lands_y1 {s : ℕ} {inb sq} :
    Lands (F := F) (nr := 128) (nc := 512) (((Memref.whole cc0_scratch2).slice (Rect.unit (s := S3x128x512) ![s, 0, 0] (⟨3, ![1, 128, 512]⟩ : Shape).size inb) (fun _ => rfl)).squeeze ⟨2, ![128, 512]⟩ sq) 0 0
      (Cyany true (slot 3 128 512 s)) (Cy true (slot 3 128 512 s)) := by
  have hset : (((Memref.whole cc0_scratch2).slice (Rect.unit (s := S3x128x512) ![s, 0, 0] (⟨3, ![1, 128, 512]⟩ : Shape).size inb) (fun _ => rfl)).squeeze ⟨2, ![128, 512]⟩ sq).view.set = slot 3 128 512 s :=
    (View.set_reshape _ _).trans ((View.set_slice_whole _ _).trans (rect_slot _))
  refine ⟨fun x => ?_, fun x fd g => ?_⟩
  · rw [hset]; exact BI.Entails.refl _
  · refine Entails.of_eq ?_
    unfold Cy
    rw [← hset]
    refine pointsTo_congr fun i hi => ?_
    obtain ⟨j, -, rfl⟩ := Finset.mem_map.mp hi
    refine (View.write_emb_of_mem _ _ (Finset.mem_univ j)).trans ?_
    have e : Shape.reshapeEquiv sq.numel_eq j = (Fin.cons ⟨0, Nat.one_pos⟩ j : (⟨3, ![1, 128, 512]⟩ : Shape).Idx) :=
      Shape.reshapeEquiv_cons_one (n := 2) (d := ![128, 512]) sq.numel_eq j
    show g _ _ = g (0 + 1 * (Shape.reshapeEquiv sq.numel_eq j 1).val) (0 + 1 * (Shape.reshapeEquiv sq.numel_eq j 2).val)
    rw [e, Nat.one_mul, Nat.one_mul]
    rfl

/-- A copy into a slot of the landing buffer of the ring along `z`, left half, leaves what it carries. -/
theorem lands_z0 {s : ℕ} {inb sq} :
    Lands (F := F) (nr := 32) (nc := 512) (((Memref.whole cc0_scratch3).slice (Rect.unit (s := S3x32x512) ![s, 0, 0] (⟨3, ![1, 32, 512]⟩ : Shape).size inb) (fun _ => rfl)).squeeze ⟨2, ![32, 512]⟩ sq) 0 0
      (Czany false (slot 3 32 512 s)) (Cz false (slot 3 32 512 s)) := by
  have hset : (((Memref.whole cc0_scratch3).slice (Rect.unit (s := S3x32x512) ![s, 0, 0] (⟨3, ![1, 32, 512]⟩ : Shape).size inb) (fun _ => rfl)).squeeze ⟨2, ![32, 512]⟩ sq).view.set = slot 3 32 512 s :=
    (View.set_reshape _ _).trans ((View.set_slice_whole _ _).trans (rect_slot _))
  refine ⟨fun x => ?_, fun x fd g => ?_⟩
  · rw [hset]; exact BI.Entails.refl _
  · refine Entails.of_eq ?_
    unfold Cz
    rw [← hset]
    refine pointsTo_congr fun i hi => ?_
    obtain ⟨j, -, rfl⟩ := Finset.mem_map.mp hi
    refine (View.write_emb_of_mem _ _ (Finset.mem_univ j)).trans ?_
    have e : Shape.reshapeEquiv sq.numel_eq j = (Fin.cons ⟨0, Nat.one_pos⟩ j : (⟨3, ![1, 32, 512]⟩ : Shape).Idx) :=
      Shape.reshapeEquiv_cons_one (n := 2) (d := ![32, 512]) sq.numel_eq j
    show g _ _ = g (0 + 1 * (Shape.reshapeEquiv sq.numel_eq j 1).val) (0 + 1 * (Shape.reshapeEquiv sq.numel_eq j 2).val)
    rw [e, Nat.one_mul, Nat.one_mul]
    rfl

/-- A copy into a slot of the landing buffer of the ring along `z`, right half, leaves what it carries. -/
theorem lands_z1 {s : ℕ} {inb sq} :
    Lands (F := F) (nr := 32) (nc := 512) (((Memref.whole cc0_scratch4).slice (Rect.unit (s := S3x32x512) ![s, 0, 0] (⟨3, ![1, 32, 512]⟩ : Shape).size inb) (fun _ => rfl)).squeeze ⟨2, ![32, 512]⟩ sq) 0 0
      (Czany true (slot 3 32 512 s)) (Cz true (slot 3 32 512 s)) := by
  have hset : (((Memref.whole cc0_scratch4).slice (Rect.unit (s := S3x32x512) ![s, 0, 0] (⟨3, ![1, 32, 512]⟩ : Shape).size inb) (fun _ => rfl)).squeeze ⟨2, ![32, 512]⟩ sq).view.set = slot 3 32 512 s :=
    (View.set_reshape _ _).trans ((View.set_slice_whole _ _).trans (rect_slot _))
  refine ⟨fun x => ?_, fun x fd g => ?_⟩
  · rw [hset]; exact BI.Entails.refl _
  · refine Entails.of_eq ?_
    unfold Cz
    rw [← hset]
    refine pointsTo_congr fun i hi => ?_
    obtain ⟨j, -, rfl⟩ := Finset.mem_map.mp hi
    refine (View.write_emb_of_mem _ _ (Finset.mem_univ j)).trans ?_
    have e : Shape.reshapeEquiv sq.numel_eq j = (Fin.cons ⟨0, Nat.one_pos⟩ j : (⟨3, ![1, 32, 512]⟩ : Shape).Idx) :=
      Shape.reshapeEquiv_cons_one (n := 2) (d := ![32, 512]) sq.numel_eq j
    show g _ _ = g (0 + 1 * (Shape.reshapeEquiv sq.numel_eq j 1).val) (0 + 1 * (Shape.reshapeEquiv sq.numel_eq j 2).val)
    rw [e, Nat.one_mul, Nat.one_mul]
    rfl

/-! ### Starts -/

/-- A start from the result buffer whose source goes along. -/
theorem sendA {α : Type} {c x : D} (n : ℕ) (j : Xf) (hn : ord.drop n = j :: ord.drop (n + 1)) (hn' : ord.take (n + 1) = ord.take n ++ [j])
    {w nr nc r0 c0 r1 c1 : ℕ} {off : Fin 2 → ℕ} {inb} {dst : Memref sig .tc .vmem ⟨2, ![nr, nc]⟩ .f32} {A : D → sProp 𝕄} {B}
    (hx : x = tg j c) (hoff : off = ![r0, c0]) (hL : Lands dst r1 c1 A B)
    {R : sProp 𝕄} {g g' : ℕ → ℕ → F .f32} (hN : tileCredit ⟨2, ![nr, nc]⟩ .f32 = N j) (hg : sh g' r1 c1 = sh g r0 c0)
    (hsnd : sndPay m ρ j c = iprop(emp))
    (hpay : iprop((B g' (tg j c) ∗ R) ∗ O (box 1024 1024 r0 nr c0 nc) fullShare g c) ⊢ rcvPay m ρ j (tg j c))
    {hsc} {h1 h2 h3}
    {k : PUnit → Prog (TpuEff nD τ sig (Elt F) Λ₀ .tc) α} {Q : α → sProp 𝕄} :
    St m ρ K 5 n w 0 c ⊢ iprop(O (box 1024 1024 r0 nr c0 nc) fullShare g c -∗ A (tg j c) -∗ R -∗ (St m ρ K 5 (n + 1) w 0 c -∗ WP c (k ⟨⟩) Q)
      -∗ WP c (.op (.enqueueDma (oSl off nr nc inb) (.remote (Dev.tc x : Thread nD τ) dst (.dma (dS (false, j))) hsc) (.dma (dS (true, j))) h1 h2 h3) k) Q) := by
  subst hx hoff
  iintro HS HO HA HR Hk
  ihave Hd := (hL.1 (tg j c)) $$ HA
  icases Hd with ⟨%fd, Hd⟩
  have hp : iprop(((dst.view.loc (tg j c : Thread nD τ) ↦[dst.view.set]{fullShare} (dst.view.write (Elt F) fd ((oSl ![r0, c0] nr nc inb).view.read (Elt F) (fun i : S1024x1024.Idx => g (i 0).val (i 1).val)) Finset.univ)) ∗ R)
      ∗ ((oSl ![r0, c0] nr nc inb).view.loc (c : Thread nD τ) ↦[(oSl ![r0, c0] nr nc inb).view.set]{fullShare} (fun i : S1024x1024.Idx => g (i 0).val (i 1).val))) ⊢ rcvPay m ρ j (tg j c) := by
    rw [oSl_read, ← hg, ← oSl_pt (inb := inb)]
    iintro ⟨⟨Hd, HR⟩, HO⟩
    iapply hpay
    isplitr [HO]
    · isplitl [Hd]
      · iapply (hL.2 (tg j c) fd g') $$ Hd
      iexact HR
    iexact HO
  iapply (st_sendA (w := w) n j hn hn' (src := oSl ![r0, c0] nr nc inb) (dst := dst) (fs := fun i : S1024x1024.Idx => g (i 0).val (i 1).val) (hN : dst.view.amount (.dma (dS (true, j))) = N j)
    (Entails.of_eq hsnd.symm) (fd := fd) (R := R) hp) $$ [HS HO Hd HR]
  · isplitl [HS]; · iexact HS
    isplitl [HO]; · iapply (Entails.of_eq (oSl_pt (inb := inb) fullShare g c)) $$ HO
    isplitl [Hd]; · iexact Hd
    iexact HR
  iexact Hk

/-- A start within the result buffers whose source comes back. -/
theorem sendB {α : Type} {c x : D} (n : ℕ) (j : Xf) (hn : ord.drop n = j :: ord.drop (n + 1)) (hn' : ord.take (n + 1) = ord.take n ++ [j])
    {w nr nc r0 c0 : ℕ} {off : Fin 2 → ℕ} {inb inb'} (hx : x = tg j c) (hoff : off = ![r0, c0])
    {R : sProp 𝕄} {q : PosShare TreeShare} {g : ℕ → ℕ → F .f32} (hN : tileCredit ⟨2, ![nr, nc]⟩ .f32 = N j)
    (hsnd : O (box 1024 1024 r0 nr c0 nc) q g c ⊢ sndPay m ρ j c)
    (hpay : iprop(O (box 1024 1024 r0 nr c0 nc) fullShare g (tg j c) ∗ R) ⊢ rcvPay m ρ j (tg j c))
    {hsc} {h1 h2 h3}
    {k : PUnit → Prog (TpuEff nD τ sig (Elt F) Λ₀ .tc) α} {Q : α → sProp 𝕄} :
    St m ρ K 5 n w 0 c ⊢ iprop(O (box 1024 1024 r0 nr c0 nc) q g c -∗ Oany (box 1024 1024 r0 nr c0 nc) (tg j c) -∗ R -∗ (St m ρ K 5 (n + 1) w 0 c -∗ WP c (k ⟨⟩) Q)
      -∗ WP c (.op (.enqueueDma (oSl off nr nc inb) (.remote (Dev.tc x : Thread nD τ) (oSl off nr nc inb') (.dma (dS (false, j))) hsc) (.dma (dS (true, j))) h1 h2 h3) k) Q) := by
  subst hx hoff
  have hL := lands_o (F := F) (nr := nr) (nc := nc) (inb := inb') (rfl : ![r0, c0] = ![r0, c0])
  iintro HS HO HA HR Hk
  ihave Hd := (hL.1 (tg j c)) $$ HA
  icases Hd with ⟨%fd, Hd⟩
  have hp : iprop(((oSl ![r0, c0] nr nc inb').view.loc (tg j c : Thread nD τ) ↦[(oSl ![r0, c0] nr nc inb').view.set]{fullShare} ((oSl ![r0, c0] nr nc inb').view.write (Elt F) fd ((oSl ![r0, c0] nr nc inb).view.read (Elt F) (fun i : S1024x1024.Idx => g (i 0).val (i 1).val)) Finset.univ)) ∗ R)
      ⊢ rcvPay m ρ j (tg j c) := by
    rw [oSl_read]
    iintro ⟨Hd, HR⟩
    iapply hpay
    isplitl [Hd]
    · iapply (hL.2 (tg j c) fd g) $$ Hd
    iexact HR
  iapply (st_sendB (w := w) n j hn hn' (src := oSl ![r0, c0] nr nc inb) (dst := oSl ![r0, c0] nr nc inb') (fs := fun i : S1024x1024.Idx => g (i 0).val (i 1).val) (q := q)
    (hN : (oSl ![r0, c0] nr nc inb').view.amount (.dma (dS (true, j))) = N j) ((Entails.of_eq (oSl_pt q g c).symm).trans hsnd) (fd := fd) (R := R) hp) $$ [HS HO Hd HR]
  · isplitl [HS]; · iexact HS
    isplitl [HO]; · iapply (Entails.of_eq (oSl_pt (inb := inb) q g c)) $$ HO
    isplitl [Hd]; · iexact Hd
    iexact HR
  iexact Hk

/-! ### Starts, by kind -/

/-- A reduction ring's receiver takes up the block its sender sent. -/
theorem ks_step : ∀ (h : Bool) (s : Fin 3) (y : Fin 4), y + sg h + ks h (s.val + 1) = y + ks h s.val := by decide +kernel
/-- A gather's receiver takes up the block its sender sent. -/
theorem ks_gath : ∀ (h : Bool) (s : Fin 3) (y : Fin 4), y + sg h + ks h s.val = y + ks h (s.val + 3) := by decide +kernel
/-- Changing the half of the rows twice leads back to it. -/
theorem x_two : ∀ x : Fin 2, x + 1 + 1 = x := by decide

/-- The regions of `n + 1` devices before along `y`: the neighbour's and those before it. -/
theorem jY_succ (h : Bool) (S) (n : ℕ) (c : D) : jY (F := F) h S (n + 1) c = iprop(Oany S (dy (!h) c) ∗ jY h S n (dy (!h) c)) := rfl
/-- The regions of `n + 1` devices before along `z`: the neighbour's and those before it. -/
theorem jZ_succ (h : Bool) (S) (n : ℕ) (c : D) : jZ (F := F) h S (n + 1) c = iprop(Oany S (dz (!h) c) ∗ jZ h S n (dz (!h) c)) := rfl
/-- What an arrival of the exchange along `x` hands over. -/
theorem rcv_rx (j : Fin 8) (c : D) : rcvPay m ρ (.rx j) c = iprop(C4 (box 512 1024 (128 * (yc c + kx j).val) 128 (C0 (rh j)) 512) (sh (Pl m ρ (xp c)) (512 * (xc c).val) 0) c
      ∗ Oany (F := F) (Blk (xc c) (yc c + kx j) (rh j)) (xp c)) := rfl
/-- What an arrival of the reduction ring along `y` hands over. -/
theorem rcv_ry (h : Bool) (s : Fin 3) (c : D) : rcvPay m ρ (.ry h s) c = iprop(Cy h (slot 3 128 512 s.val) (sh (Ty m ρ h s.val (dy (!h) c)) (R0 (xc c) (yc c + ks h (s.val + 1))) (C0 h)) c
      ∗ jY (F := F) h (Blk (xc c) (yc c + ks h (s.val + 1)) h) (s.val + 1) c) := rfl
/-- What an arrival of the reduction ring along `z` hands over. -/
theorem rcv_rz (h : Bool) (s : Fin 3) (c : D) : rcvPay m ρ (.rz h s) c = iprop(Cz h (slot 3 32 512 s.val) (sh (Tz m ρ h s.val (dz (!h) c)) (K0 (xc c) (yc c + sg h) (zc c + ks h (s.val + 1))) (C0 h)) c
      ∗ jZ (F := F) h (Chk (xc c) (yc c + sg h) (zc c + ks h (s.val + 1)) h) (s.val + 1) c) := rfl
/-- What an arrival of the gather along `z` hands over. -/
theorem rcv_gz (h : Bool) (t : Fin 3) (c : D) : rcvPay m ρ (.gz h t) c = iprop(O (Chk (xc c) (yc c + sg h) (zc c + ks h t.val) h) fullShare (fin m ρ) c
      ∗ jZ (F := F) (!h) (Chk (xc c) (yc c + sg h) (zc c + ks h t.val) h) (2 - t.val) c) := rfl
/-- What an arrival of the gather along `y` hands over. -/
theorem rcv_gy (h : Bool) (t : Fin 3) (c : D) : rcvPay m ρ (.gy h t) c = iprop(O (Blk (xc c) (yc c + ks h t.val) h) fullShare (fin m ρ) c
      ∗ jY (F := F) (!h) (Blk (xc c) (yc c + ks h t.val) h) (2 - t.val) c) := rfl
/-- What an arrival of the gather along `x` hands over. -/
theorem rcv_gx (t : Fin 4) (c : D) : rcvPay m ρ (.gx t) c = O (Row (xc c + 1) (yc c + kg t)) fullShare (fin m ρ) c := rfl

/-- The places of copy `n` in the order of starts. -/
abbrev At (n : ℕ) (j : Xf) : Prop := ord.drop n = j :: ord.drop (n + 1) ∧ ord.take (n + 1) = ord.take n ++ [j]

/-- The start of a copy of the exchange along `x`. -/
theorem sd_rx {α : Type} {c x : D} {n : ℕ} (j : Fin 8) (hn : At n (.rx j)) (k : Fin 4) (h : Bool) (hk : k = kx j) (hh : h = rh j)
    {w : ℕ} {off offd : Fin 2 → ℕ} {inb inbd} (hx : x = tg (.rx j) c) (hoff : off = ![R0 (xc c + 1) (yc c + k), C0 h])
    (hoffd : offd = ![128 * (yc c + k).val, C0 h]) {hsc} {h1 h2 h3}
    {kk : PUnit → Prog (TpuEff nD τ sig (Elt F) Λ₀ .tc) α} {Q : α → sProp 𝕄} :
    St m ρ K 5 n w 0 c ⊢ iprop(O (Blk (xc c + 1) (yc c + k) h) fullShare (Pl m ρ c) c
      -∗ C4any (box 512 1024 (128 * (yc c + k).val) 128 (C0 h) 512) (xp c) -∗ (St m ρ K 5 (n + 1) w 0 c -∗ WP c (kk ⟨⟩) Q)
      -∗ WP c (.op (.enqueueDma (oSl off 128 512 inb) (.remote (Dev.tc x : Thread nD τ) (cSl offd 128 512 inbd) (.dma (dS (false, .rx j))) hsc) (.dma (dS (true, .rx j))) h1 h2 h3) kk) Q) := by
  subst hk hh
  have hg : sh (sh (Pl m ρ c) (512 * (xc c + 1).val) 0) (128 * (yc c + kx j).val) (C0 (rh j)) = sh (Pl m ρ c) (R0 (xc c + 1) (yc c + kx j)) (C0 (rh j)) := by
    funext r col
    show Pl m ρ c _ _ = Pl m ρ c _ _
    unfold R0
    rw [Nat.zero_add, Nat.add_assoc]
  have hp : iprop((C4 (box 512 1024 (128 * (yc c + kx j).val) 128 (C0 (rh j)) 512) (sh (Pl m ρ c) (512 * (xc c + 1).val) 0) (xp c) ∗ emp) ∗ O (Blk (xc c + 1) (yc c + kx j) (rh j)) fullShare (Pl m ρ c) c)
      ⊢ rcvPay m ρ (.rx j) (xp c) := by
    rw [rcv_rx, xc_xp, yc_xp, xp_xp]
    iintro ⟨⟨HB, -⟩, HO⟩
    isplitl [HB]; · iexact HB
    unfold Oany
    iexists _
    iexact HO
  iintro HS HO HA Hk
  iapply (sendA n (.rx j) hn.1 hn.2 hx hoff (lands_c hoffd) (R := iprop(emp)) rfl hg rfl hp) $$ HS [HO] [HA] [] [Hk]
  · iexact HO
  · iexact HA
  · iempintro
  · iexact Hk

/-- The start of a copy of the reduction ring along `y`. -/
theorem sd_ry {α : Type} {c x : D} {n : ℕ} (h : Bool) (s : Fin 3) (hn : At n (.ry h s)) (k : Fin 4) (hk : k = ks h s.val)
    {w : ℕ} {off : Fin 2 → ℕ} {inb} {dst : Memref sig .tc .vmem S128x512 .f32} (hx : x = tg (.ry h s) c) (hoff : off = ![R0 (xc c) (yc c + k), C0 h])
    (hL : Lands (F := F) (nr := 128) (nc := 512) dst 0 0 (Cyany h (slot 3 128 512 s.val)) (Cy h (slot 3 128 512 s.val))) {hsc} {h1 h2 h3}
    {kk : PUnit → Prog (TpuEff nD τ sig (Elt F) Λ₀ .tc) α} {Q : α → sProp 𝕄} :
    St m ρ K 5 n w 0 c ⊢ iprop(O (Blk (xc c) (yc c + k) h) fullShare (Ty m ρ h s.val c) c
      -∗ Cyany h (slot 3 128 512 s.val) (dy h c) -∗ jY h (Blk (xc c) (yc c + k) h) s.val c -∗ (St m ρ K 5 (n + 1) w 0 c -∗ WP c (kk ⟨⟩) Q)
      -∗ WP c (.op (.enqueueDma (oSl off 128 512 inb) (.remote (Dev.tc x : Thread nD τ) dst (.dma (dS (false, .ry h s))) hsc) (.dma (dS (true, .ry h s))) h1 h2 h3) kk) Q) := by
  subst hk
  have hg : sh (sh (Ty m ρ h s.val c) (R0 (xc c) (yc c + ks h s.val)) (C0 h)) 0 0 = sh (Ty m ρ h s.val c) (R0 (xc c) (yc c + ks h s.val)) (C0 h) := by
    funext r col
    show Ty m ρ h s.val c _ _ = Ty m ρ h s.val c _ _
    rw [Nat.zero_add, Nat.zero_add]
  have hp : iprop((Cy h (slot 3 128 512 s.val) (sh (Ty m ρ h s.val c) (R0 (xc c) (yc c + ks h s.val)) (C0 h)) (dy h c) ∗ jY h (Blk (xc c) (yc c + ks h s.val) h) s.val c) ∗ O (Blk (xc c) (yc c + ks h s.val) h) fullShare (Ty m ρ h s.val c) c)
      ⊢ rcvPay m ρ (.ry h s) (dy h c) := by
    rw [rcv_ry]
    rw [jY_succ, xc_dy, yc_dy, dy_forth, ks_step]
    iintro ⟨⟨HB, HR⟩, HO⟩
    isplitl [HB]; · iexact HB
    isplitl [HO]
    · unfold Oany
      iexists _
      iexact HO
    iexact HR
  iintro HS HO HA HR Hk
  iapply (sendA n (.ry h s) hn.1 hn.2 hx hoff hL rfl hg rfl hp) $$ HS [HO] [HA] [HR] [Hk]
  · iexact HO
  · iexact HA
  · iexact HR
  · iexact Hk

/-- The start of a copy of the reduction ring along `z`. -/
theorem sd_rz {α : Type} {c x : D} {n : ℕ} (h : Bool) (s : Fin 3) (hn : At n (.rz h s)) (b k : Fin 4) (hb : b = sg h) (hk : k = ks h s.val)
    {w : ℕ} {off : Fin 2 → ℕ} {inb} {dst : Memref sig .tc .vmem S32x512 .f32} (hx : x = tg (.rz h s) c) (hoff : off = ![K0 (xc c) (yc c + b) (zc c + k), C0 h])
    (hL : Lands (F := F) (nr := 32) (nc := 512) dst 0 0 (Czany h (slot 3 32 512 s.val)) (Cz h (slot 3 32 512 s.val))) {hsc} {h1 h2 h3}
    {kk : PUnit → Prog (TpuEff nD τ sig (Elt F) Λ₀ .tc) α} {Q : α → sProp 𝕄} :
    St m ρ K 5 n w 0 c ⊢ iprop(O (Chk (xc c) (yc c + b) (zc c + k) h) fullShare (Tz m ρ h s.val c) c
      -∗ Czany h (slot 3 32 512 s.val) (dz h c) -∗ jZ h (Chk (xc c) (yc c + b) (zc c + k) h) s.val c -∗ (St m ρ K 5 (n + 1) w 0 c -∗ WP c (kk ⟨⟩) Q)
      -∗ WP c (.op (.enqueueDma (oSl off 32 512 inb) (.remote (Dev.tc x : Thread nD τ) dst (.dma (dS (false, .rz h s))) hsc) (.dma (dS (true, .rz h s))) h1 h2 h3) kk) Q) := by
  subst hb hk
  have hg : sh (sh (Tz m ρ h s.val c) (K0 (xc c) (yc c + sg h) (zc c + ks h s.val)) (C0 h)) 0 0 = sh (Tz m ρ h s.val c) (K0 (xc c) (yc c + sg h) (zc c + ks h s.val)) (C0 h) := by
    funext r col
    show Tz m ρ h s.val c _ _ = Tz m ρ h s.val c _ _
    rw [Nat.zero_add, Nat.zero_add]
  have hp : iprop((Cz h (slot 3 32 512 s.val) (sh (Tz m ρ h s.val c) (K0 (xc c) (yc c + sg h) (zc c + ks h s.val)) (C0 h)) (dz h c) ∗ jZ h (Chk (xc c) (yc c + sg h) (zc c + ks h s.val) h) s.val c) ∗ O (Chk (xc c) (yc c + sg h) (zc c + ks h s.val) h) fullShare (Tz m ρ h s.val c) c)
      ⊢ rcvPay m ρ (.rz h s) (dz h c) := by
    rw [rcv_rz]
    rw [jZ_succ, xc_dz, yc_dz, zc_dz, dz_forth, ks_step]
    iintro ⟨⟨HB, HR⟩, HO⟩
    isplitl [HB]; · iexact HB
    isplitl [HO]
    · unfold Oany
      iexists _
      iexact HO
    iexact HR
  iintro HS HO HA HR Hk
  iapply (sendA n (.rz h s) hn.1 hn.2 hx hoff hL rfl hg rfl hp) $$ HS [HO] [HA] [HR] [Hk]
  · iexact HO
  · iexact HA
  · iexact HR
  · iexact Hk

/-- The devices ahead: the next one, and those after it. -/
theorem jZ_next (h : Bool) (S) (t : Fin 3) (c : D) : jZ (F := F) (!h) S (3 - t.val) c = iprop(Oany S (dz h c) ∗ jZ (!h) S (2 - t.val) (dz h c)) := by
  rw [show 3 - t.val = (2 - t.val) + 1 by omega]
  show iprop(Oany S (dz (!!h) c) ∗ jZ (!h) S (2 - t.val) (dz (!!h) c)) = _
  rw [Bool.not_not]
/-- The regions of the devices ahead along `y`: the next one's and those after it. -/
theorem jY_next (h : Bool) (S) (t : Fin 3) (c : D) : jY (F := F) (!h) S (3 - t.val) c = iprop(Oany S (dy h c) ∗ jY (!h) S (2 - t.val) (dy h c)) := by
  rw [show 3 - t.val = (2 - t.val) + 1 by omega]
  show iprop(Oany S (dy (!!h) c) ∗ jY (!h) S (2 - t.val) (dy (!!h) c)) = _
  rw [Bool.not_not]

/-- The start of a copy of the gather along `z`. -/
theorem sd_gz {α : Type} {c x : D} {n : ℕ} (h : Bool) (t : Fin 3) (hn : At n (.gz h t)) (b k : Fin 4) (hb : b = sg h) (hk : k = ks h (t.val + 3))
    {w : ℕ} {off : Fin 2 → ℕ} {inb inb'} (hx : x = tg (.gz h t) c) (hoff : off = ![K0 (xc c) (yc c + b) (zc c + k), C0 h]) {hsc} {h1 h2 h3}
    {kk : PUnit → Prog (TpuEff nD τ sig (Elt F) Λ₀ .tc) α} {Q : α → sProp 𝕄} :
    St m ρ K 5 n w 0 c ⊢ iprop(O (Chk (xc c) (yc c + b) (zc c + k) h) qz (fin m ρ) c
      -∗ jZ (!h) (Chk (xc c) (yc c + b) (zc c + k) h) (3 - t.val) c -∗ (St m ρ K 5 (n + 1) w 0 c -∗ WP c (kk ⟨⟩) Q)
      -∗ WP c (.op (.enqueueDma (oSl off 32 512 inb) (.remote (Dev.tc x : Thread nD τ) (oSl off 32 512 inb') (.dma (dS (false, .gz h t))) hsc) (.dma (dS (true, .gz h t))) h1 h2 h3) kk) Q) := by
  subst hb hk
  have hp : iprop(O (Chk (xc c) (yc c + sg h) (zc c + ks h (t.val + 3)) h) fullShare (fin m ρ) (dz h c) ∗ jZ (!h) (Chk (xc c) (yc c + sg h) (zc c + ks h (t.val + 3)) h) (2 - t.val) (dz h c)) ⊢ rcvPay m ρ (.gz h t) (dz h c) := by
    rw [rcv_gz, xc_dz, yc_dz, zc_dz, ks_gath]
  have hs : O (Chk (xc c) (yc c + sg h) (zc c + ks h (t.val + 3)) h) qz (fin m ρ) c ⊢ sndPay m ρ (.gz h t) c := BI.Entails.refl _
  rw [jZ_next]
  iintro HS HO ⟨HA, HR⟩ Hk
  iapply (sendB n (.gz h t) hn.1 hn.2 hx hoff rfl hs hp) $$ HS [HO] [HA] [HR] [Hk]
  · iexact HO
  · iexact HA
  · iexact HR
  · iexact Hk

/-- The start of a copy of the gather along `y`. -/
theorem sd_gy {α : Type} {c x : D} {n : ℕ} (h : Bool) (t : Fin 3) (hn : At n (.gy h t)) (k : Fin 4) (hk : k = ks h (t.val + 3))
    {w : ℕ} {off : Fin 2 → ℕ} {inb inb'} (hx : x = tg (.gy h t) c) (hoff : off = ![R0 (xc c) (yc c + k), C0 h]) {hsc} {h1 h2 h3}
    {kk : PUnit → Prog (TpuEff nD τ sig (Elt F) Λ₀ .tc) α} {Q : α → sProp 𝕄} :
    St m ρ K 5 n w 0 c ⊢ iprop(O (Blk (xc c) (yc c + k) h) qy (fin m ρ) c
      -∗ jY (!h) (Blk (xc c) (yc c + k) h) (3 - t.val) c -∗ (St m ρ K 5 (n + 1) w 0 c -∗ WP c (kk ⟨⟩) Q)
      -∗ WP c (.op (.enqueueDma (oSl off 128 512 inb) (.remote (Dev.tc x : Thread nD τ) (oSl off 128 512 inb') (.dma (dS (false, .gy h t))) hsc) (.dma (dS (true, .gy h t))) h1 h2 h3) kk) Q) := by
  subst hk
  have hp : iprop(O (Blk (xc c) (yc c + ks h (t.val + 3)) h) fullShare (fin m ρ) (dy h c) ∗ jY (!h) (Blk (xc c) (yc c + ks h (t.val + 3)) h) (2 - t.val) (dy h c)) ⊢ rcvPay m ρ (.gy h t) (dy h c) := by
    rw [rcv_gy, xc_dy, yc_dy, ks_gath]
  have hs : O (Blk (xc c) (yc c + ks h (t.val + 3)) h) qy (fin m ρ) c ⊢ sndPay m ρ (.gy h t) c := BI.Entails.refl _
  rw [jY_next]
  iintro HS HO ⟨HA, HR⟩ Hk
  iapply (sendB n (.gy h t) hn.1 hn.2 hx hoff rfl hs hp) $$ HS [HO] [HA] [HR] [Hk]
  · iexact HO
  · iexact HA
  · iexact HR
  · iexact Hk

/-- The start of a copy of the gather along `x`. -/
theorem sd_gx {α : Type} {c x : D} {n : ℕ} (t : Fin 4) (hn : At n (.gx t)) (k : Fin 4) (hk : k = kg t)
    {w : ℕ} {off : Fin 2 → ℕ} {inb inb'} (hx : x = tg (.gx t) c) (hoff : off = ![R0 (xc c) (yc c + k), 0]) {hsc} {h1 h2 h3}
    {kk : PUnit → Prog (TpuEff nD τ sig (Elt F) Λ₀ .tc) α} {Q : α → sProp 𝕄} :
    St m ρ K 5 n w 0 c ⊢ iprop(O (Row (xc c) (yc c + k)) qx (fin m ρ) c
      -∗ Oany (Row (xc c) (yc c + k)) (xp c) -∗ (St m ρ K 5 (n + 1) w 0 c -∗ WP c (kk ⟨⟩) Q)
      -∗ WP c (.op (.enqueueDma (oSl off 128 1024 inb) (.remote (Dev.tc x : Thread nD τ) (oSl off 128 1024 inb') (.dma (dS (false, .gx t))) hsc) (.dma (dS (true, .gx t))) h1 h2 h3) kk) Q) := by
  subst hk
  have hp : iprop(O (Row (xc c) (yc c + kg t)) fullShare (fin m ρ) (xp c) ∗ emp) ⊢ rcvPay m ρ (.gx t) (xp c) := by
    rw [rcv_gx, xc_xp, yc_xp, x_two]
    iintro ⟨H, -⟩
    iexact H
  have hs : O (Row (xc c) (yc c + kg t)) qx (fin m ρ) c ⊢ sndPay m ρ (.gx t) c := BI.Entails.refl _
  iintro HS HO HA Hk
  iapply (sendB n (.gx t) hn.1 hn.2 hx hoff rfl hs hp) $$ HS [HO] [HA] [] [Hk]
  · iexact HO
  · iexact HA
  · iempintro
  · iexact Hk

/-! ### Arrivals and departures, by kind -/

/-- The `w`-th arrival waited for is copy `j`'s. -/
abbrev Wt (w : ℕ) (j : Xf) : Prop := wrd.drop w = j :: wrd.drop (w + 1) ∧ wrd.take (w + 1) = wrd.take w ++ [j]
/-- All copies from the `n`-th start on come after copy `j`. -/
abbrev Lt (n : ℕ) (j : Xf) : Prop := ∀ i ∈ ord.drop n, pl j < pl i
/-- The `s`-th departure waited for is copy `j`'s. -/
abbrev Sn (s : ℕ) (j : Xf) : Prop := (ord.take 36).drop s = j :: (ord.take 36).drop (s + 1) ∧ ord.take (s + 1) = ord.take s ++ [j]

section Waits
variable {α : Type} {c : D} {w n s : ℕ} {sp sp' : Space}

/-- The wait for an arrival of the exchange along `x`. -/
theorem wt_rx (j : Fin 8) (hw : Wt w (.rx j)) (hl : Lt n (.rx j)) (k : Fin 4) (h : Bool) (hk : k = kx j) (hh : h = rh j)
    {src : Memref sig .tc sp S128x512 .f32} {dst : Memref sig .tc sp' S128x512 .f32} {h1 h2} {kk : PUnit → Prog (TpuEff nD τ sig (Elt F) Λ₀ .tc) α} {Q : α → sProp 𝕄} :
    St m ρ K 5 n w s c ⊢ iprop((St m ρ K 5 n (w + 1) s c
        -∗ C4 (box 512 1024 (128 * (yc c + k).val) 128 (C0 h) 512) (sh (Pl m ρ (xp c)) (512 * (xc c).val) 0) c -∗ Oany (Blk (xc c) (yc c + k) h) (xp c) -∗ WP c (kk ⟨⟩) Q)
      -∗ WP c (.op (.waitDma2 (dS (true, .rx j)) src dst h1 h2) kk) Q) := by
  subst hk hh
  iintro HS Hk
  iapply (st_rcv w (.rx j) hw.1 hw.2 hl rfl (dst := dst) rfl) $$ HS
  rw [rcv_rx]
  iintro ⟨HS, HC, HO⟩
  iapply Hk $$ HS HC HO

/-- The wait for an arrival of the reduction ring along `y`. -/
theorem wt_ry (h : Bool) (i : Fin 3) (hw : Wt w (.ry h i)) (hl : Lt n (.ry h i)) (k : Fin 4) (hk : k = ks h (i.val + 1))
    {src : Memref sig .tc sp S128x512 .f32} {dst : Memref sig .tc sp' S128x512 .f32} {h1 h2} {kk : PUnit → Prog (TpuEff nD τ sig (Elt F) Λ₀ .tc) α} {Q : α → sProp 𝕄} :
    St m ρ K 5 n w s c ⊢ iprop((St m ρ K 5 n (w + 1) s c
        -∗ Cy h (slot 3 128 512 i.val) (sh (Ty m ρ h i.val (dy (!h) c)) (R0 (xc c) (yc c + k)) (C0 h)) c -∗ jY h (Blk (xc c) (yc c + k) h) (i.val + 1) c -∗ WP c (kk ⟨⟩) Q)
      -∗ WP c (.op (.waitDma2 (dS (true, .ry h i)) src dst h1 h2) kk) Q) := by
  subst hk
  iintro HS Hk
  iapply (st_rcv w (.ry h i) hw.1 hw.2 hl rfl (dst := dst) rfl) $$ HS
  rw [rcv_ry]
  iintro ⟨HS, HC, HO⟩
  iapply Hk $$ HS HC HO

/-- The wait for an arrival of the reduction ring along `z`. -/
theorem wt_rz (h : Bool) (i : Fin 3) (hw : Wt w (.rz h i)) (hl : Lt n (.rz h i)) (b k : Fin 4) (hb : b = sg h) (hk : k = ks h (i.val + 1))
    {src : Memref sig .tc sp S32x512 .f32} {dst : Memref sig .tc sp' S32x512 .f32} {h1 h2} {kk : PUnit → Prog (TpuEff nD τ sig (Elt F) Λ₀ .tc) α} {Q : α → sProp 𝕄} :
    St m ρ K 5 n w s c ⊢ iprop((St m ρ K 5 n (w + 1) s c
        -∗ Cz h (slot 3 32 512 i.val) (sh (Tz m ρ h i.val (dz (!h) c)) (K0 (xc c) (yc c + b) (zc c + k)) (C0 h)) c -∗ jZ h (Chk (xc c) (yc c + b) (zc c + k) h) (i.val + 1) c -∗ WP c (kk ⟨⟩) Q)
      -∗ WP c (.op (.waitDma2 (dS (true, .rz h i)) src dst h1 h2) kk) Q) := by
  subst hb hk
  iintro HS Hk
  iapply (st_rcv w (.rz h i) hw.1 hw.2 hl rfl (dst := dst) rfl) $$ HS
  rw [rcv_rz]
  iintro ⟨HS, HC, HO⟩
  iapply Hk $$ HS HC HO

/-- The wait for an arrival of the gather along `z`. -/
theorem wt_gz (h : Bool) (t : Fin 3) (hw : Wt w (.gz h t)) (hl : Lt n (.gz h t)) (b k : Fin 4) (hb : b = sg h) (hk : k = ks h t.val)
    {src : Memref sig .tc sp S32x512 .f32} {dst : Memref sig .tc sp' S32x512 .f32} {h1 h2} {kk : PUnit → Prog (TpuEff nD τ sig (Elt F) Λ₀ .tc) α} {Q : α → sProp 𝕄} :
    St m ρ K 5 n w s c ⊢ iprop((St m ρ K 5 n (w + 1) s c
        -∗ O (Chk (xc c) (yc c + b) (zc c + k) h) fullShare (fin m ρ) c -∗ jZ (!h) (Chk (xc c) (yc c + b) (zc c + k) h) (2 - t.val) c -∗ WP c (kk ⟨⟩) Q)
      -∗ WP c (.op (.waitDma2 (dS (true, .gz h t)) src dst h1 h2) kk) Q) := by
  subst hb hk
  iintro HS Hk
  iapply (st_rcv w (.gz h t) hw.1 hw.2 hl rfl (dst := dst) rfl) $$ HS
  rw [rcv_gz]
  iintro ⟨HS, HC, HO⟩
  iapply Hk $$ HS HC HO

/-- The wait for an arrival of the gather along `y`. -/
theorem wt_gy (h : Bool) (t : Fin 3) (hw : Wt w (.gy h t)) (hl : Lt n (.gy h t)) (k : Fin 4) (hk : k = ks h t.val)
    {src : Memref sig .tc sp S128x512 .f32} {dst : Memref sig .tc sp' S128x512 .f32} {h1 h2} {kk : PUnit → Prog (TpuEff nD τ sig (Elt F) Λ₀ .tc) α} {Q : α → sProp 𝕄} :
    St m ρ K 5 n w s c ⊢ iprop((St m ρ K 5 n (w + 1) s c
        -∗ O (Blk (xc c) (yc c + k) h) fullShare (fin m ρ) c -∗ jY (!h) (Blk (xc c) (yc c + k) h) (2 - t.val) c -∗ WP c (kk ⟨⟩) Q)
      -∗ WP c (.op (.waitDma2 (dS (true, .gy h t)) src dst h1 h2) kk) Q) := by
  subst hk
  iintro HS Hk
  iapply (st_rcv w (.gy h t) hw.1 hw.2 hl rfl (dst := dst) rfl) $$ HS
  rw [rcv_gy]
  iintro ⟨HS, HC, HO⟩
  iapply Hk $$ HS HC HO

/-- The wait for an arrival of the gather along `x`. -/
theorem wt_gx (t : Fin 4) (hw : Wt w (.gx t)) (hl : Lt n (.gx t)) (k : Fin 4) (hk : k = kg t)
    {src : Memref sig .tc sp S128x1024 .f32} {dst : Memref sig .tc sp' S128x1024 .f32} {h1 h2} {kk : PUnit → Prog (TpuEff nD τ sig (Elt F) Λ₀ .tc) α} {Q : α → sProp 𝕄} :
    St m ρ K 5 n w s c ⊢ iprop((St m ρ K 5 n (w + 1) s c
        -∗ O (Row (xc c + 1) (yc c + k)) fullShare (fin m ρ) c -∗ WP c (kk ⟨⟩) Q)
      -∗ WP c (.op (.waitDma2 (dS (true, .gx t)) src dst h1 h2) kk) Q) := by
  subst hk
  iintro HS Hk
  iapply (st_rcv w (.gx t) hw.1 hw.2 hl rfl (dst := dst) rfl) $$ HS
  rw [rcv_gx]
  iintro ⟨HS, HC⟩
  iapply Hk $$ HS HC

/-- The departure of a copy whose source went along. -/
theorem dp_r (j : Xf) (hs : Sn s j) (he : sndPay m ρ j c = iprop(emp)) {sh' : Shape} {e' : EltTy} (hN : tileCredit sh' e' = N j)
    {sh₀ : Shape} {e₀ : EltTy} {src : Memref sig .tc sp sh₀ e₀} {dst : Memref sig .tc sp' sh' e'} {h1 h2} {kk : PUnit → Prog (TpuEff nD τ sig (Elt F) Λ₀ .tc) α} {Q : α → sProp 𝕄} :
    St m ρ K 5 36 w s c ⊢ iprop((St m ρ K 5 36 w (s + 1) c -∗ WP c (kk ⟨⟩) Q)
      -∗ WP c (.op (.waitDma2 (dS (false, j)) src dst h1 h2) kk) Q) := by
  iintro HS Hk
  iapply (st_snd s j hs.1 hs.2 rfl (dst := dst) hN) $$ HS
  iintro ⟨HS, -⟩
  iapply Hk $$ HS

/-- The departure of a copy whose source comes back. -/
theorem dp_g (j : Xf) (hs : Sn s j) {S q} (he : sndPay m ρ j c = O S q (fin m ρ) c) {sh' : Shape} {e' : EltTy} (hN : tileCredit sh' e' = N j)
    {sh₀ : Shape} {e₀ : EltTy} {src : Memref sig .tc sp sh₀ e₀} {dst : Memref sig .tc sp' sh' e'} {h1 h2} {kk : PUnit → Prog (TpuEff nD τ sig (Elt F) Λ₀ .tc) α} {Q : α → sProp 𝕄} :
    St m ρ K 5 36 w s c ⊢ iprop((St m ρ K 5 36 w (s + 1) c -∗ O S q (fin m ρ) c -∗ WP c (kk ⟨⟩) Q)
      -∗ WP c (.op (.waitDma2 (dS (false, j)) src dst h1 h2) kk) Q) := by
  iintro HS Hk
  iapply (st_snd s j hs.1 hs.2 rfl (dst := dst) hN) $$ HS
  rw [he]
  iintro ⟨HS, HO⟩
  iapply Hk $$ HS HO

end Waits

/-! ### Additions and block products -/

section Adds
variable {α : Type} {c : D}

/-- The addition of a piece that came in by the exchange along `x`. -/
theorem add_rx {g g' : ℕ → ℕ → F .f32} (k : Fin 4) (h : Bool) {off off' : Fin 2 → ℕ} {inb inb' inb'' inb3} {hl hl' hl''} {hx hm}
    {kk : PUnit → Prog (TpuEff nD τ sig (Elt F) Λ₀ .tc) α} {Q : α → sProp 𝕄} {pay : Vec F S128x512 .f32 → Vec F S128x512 .f32 → Vec F S128x512 .f32}
    (hoff : off = ![R0 (xc c) (yc c + k), C0 h]) (hoff' : off' = ![128 * (yc c + k).val, C0 h])
    (hpay : ∀ u v, pay u v = addf u v)
    (hg : g' = padd g (Pl m ρ (xp c))) :
    O (Blk (xc c) (yc c + k) h) fullShare g c ⊢ iprop(C4 (box 512 1024 (128 * (yc c + k).val) 128 (C0 h) 512) (sh (Pl m ρ (xp c)) (512 * (xc c).val) 0) c
      -∗ (O (Blk (xc c) (yc c + k) h) fullShare g' c -∗ C4any (box 512 1024 (128 * (yc c + k).val) 128 (C0 h) 512) c -∗ WP c (kk ⟨⟩) Q)
      -∗ WP c (.op (.load (Memref.whole cc0_stg3_0) (Rect.unit (s := S1024x1024) off S128x512.size inb).toLoadRect hl) fun u =>
          .op (.load (Memref.whole cc0_scratch0) (Rect.unit (s := S512x1024) off' S128x512.size inb').toLoadRect hl') fun v =>
          .op (.load (Memref.whole cc0_stg3_0) (Rect.unit (s := S1024x1024) off S128x512.size inb'').toLoadRect hl'') fun _ =>
          .op (.store (Memref.whole cc0_stg3_0) (Rect.unit (s := S1024x1024) off S128x512.size inb3) (pay u v) Finset.univ hx hm) kk) Q) := by
  subst hg
  have hw : pay (vec2 128 512 (sh g (R0 (xc c) (yc c + k)) (C0 h))) (vec2 128 512 (sh (sh (Pl m ρ (xp c)) (512 * (xc c).val) 0) (128 * (yc c + k).val) (C0 h)))
      = vec2 128 512 (sh (padd g (Pl m ρ (xp c))) (R0 (xc c) (yc c + k)) (C0 h)) := by
    rw [hpay, add_vec2]
    congr 1
    funext r col
    show FloatOps.addf _ _ = FloatOps.addf _ _
    congr 1
    show Pl m ρ (xp c) _ _ = Pl m ρ (xp c) _ _
    unfold R0
    rw [Nat.zero_add, Nat.add_assoc]
  unfold Blk
  iintro HO HC Hk
  iapply (ld_o hoff (Finset.Subset.refl _)) $$ HO
  iintro HO
  iapply (ld_c4 hoff' (Finset.Subset.refl _)) $$ HC
  iintro HC
  iapply (ld_o hoff (Finset.Subset.refl _)) $$ HO
  iintro HO
  iapply (st_o hoff hw) $$ HO
  iintro HO
  iapply Hk $$ HO
  unfold C4any C4
  iexists _
  iexact HC

/-- The addition of a slot that came in by the ring along `y`, left half. -/
theorem add_y0 {g g' : ℕ → ℕ → F .f32} (n : ℕ) (k : Fin 4) {s : ℕ} {off : Fin 2 → ℕ} {inb inb' inb'' inb3} {hl hl' hl''} {hx hm}
    {kk : PUnit → Prog (TpuEff nD τ sig (Elt F) Λ₀ .tc) α} {Q : α → sProp 𝕄} {pay : Vec F S128x512 .f32 → Vec F S1x128x512 .f32 → Vec F S128x512 .f32}
    (hoff : off = ![R0 (xc c) (yc c + k), C0 false]) (hpay : ∀ u v, pay u v = addf u (shapeCast S128x512 v shapeCasts_S1x128x512_S128x512))
    (hg : g' = padd g (Ty m ρ false n (dy true c))) :
    O (Blk (xc c) (yc c + k) false) fullShare g c ⊢ iprop(Cy false (slot 3 128 512 s) (sh (Ty m ρ false n (dy true c)) (R0 (xc c) (yc c + k)) (C0 false)) c
      -∗ (O (Blk (xc c) (yc c + k) false) fullShare g' c -∗ Cyany false (slot 3 128 512 s) c -∗ WP c (kk ⟨⟩) Q)
      -∗ WP c (.op (.load (Memref.whole cc0_stg3_0) (Rect.unit (s := S1024x1024) off S128x512.size inb).toLoadRect hl) fun u =>
          .op (.load (Memref.whole cc0_scratch1) (Rect.unit (s := S3x128x512) ![s, 0, 0] S1x128x512.size inb').toLoadRect hl') fun v =>
          .op (.load (Memref.whole cc0_stg3_0) (Rect.unit (s := S1024x1024) off S128x512.size inb'').toLoadRect hl'') fun _ =>
          .op (.store (Memref.whole cc0_stg3_0) (Rect.unit (s := S1024x1024) off S128x512.size inb3) (pay u v) Finset.univ hx hm) kk) Q) := by
  subst hg
  unfold Blk
  have hw : pay (vec2 128 512 (sh g (R0 (xc c) (yc c + k)) (C0 false))) (vec3 128 512 (sh (Ty m ρ false n (dy true c)) (R0 (xc c) (yc c + k)) (C0 false)))
      = vec2 128 512 (sh (padd g (Ty m ρ false n (dy true c))) (R0 (xc c) (yc c + k)) (C0 false)) := by
    rw [hpay, cast_vec3]
    rfl
  iintro HO HC Hk
  iapply (ld_o hoff (Finset.Subset.refl _)) $$ HO
  iintro HO
  iapply ld_y0 $$ HC
  iintro HC
  iapply (ld_o hoff (Finset.Subset.refl _)) $$ HO
  iintro HO
  iapply (st_o hoff hw) $$ HO
  iintro HO
  iapply Hk $$ HO
  unfold Cyany Cy
  iexists _
  iexact HC

/-- The addition of a slot that came in by the ring along `y`, right half. -/
theorem add_y1 {g g' : ℕ → ℕ → F .f32} (n : ℕ) (k : Fin 4) {s : ℕ} {off : Fin 2 → ℕ} {inb inb' inb'' inb3} {hl hl' hl''} {hx hm}
    {kk : PUnit → Prog (TpuEff nD τ sig (Elt F) Λ₀ .tc) α} {Q : α → sProp 𝕄} {pay : Vec F S128x512 .f32 → Vec F S1x128x512 .f32 → Vec F S128x512 .f32}
    (hoff : off = ![R0 (xc c) (yc c + k), C0 true]) (hpay : ∀ u v, pay u v = addf u (shapeCast S128x512 v shapeCasts_S1x128x512_S128x512))
    (hg : g' = padd g (Ty m ρ true n (dy false c))) :
    O (Blk (xc c) (yc c + k) true) fullShare g c ⊢ iprop(Cy true (slot 3 128 512 s) (sh (Ty m ρ true n (dy false c)) (R0 (xc c) (yc c + k)) (C0 true)) c
      -∗ (O (Blk (xc c) (yc c + k) true) fullShare g' c -∗ Cyany true (slot 3 128 512 s) c -∗ WP c (kk ⟨⟩) Q)
      -∗ WP c (.op (.load (Memref.whole cc0_stg3_0) (Rect.unit (s := S1024x1024) off S128x512.size inb).toLoadRect hl) fun u =>
          .op (.load (Memref.whole cc0_scratch2) (Rect.unit (s := S3x128x512) ![s, 0, 0] S1x128x512.size inb').toLoadRect hl') fun v =>
          .op (.load (Memref.whole cc0_stg3_0) (Rect.unit (s := S1024x1024) off S128x512.size inb'').toLoadRect hl'') fun _ =>
          .op (.store (Memref.whole cc0_stg3_0) (Rect.unit (s := S1024x1024) off S128x512.size inb3) (pay u v) Finset.univ hx hm) kk) Q) := by
  subst hg
  unfold Blk
  have hw : pay (vec2 128 512 (sh g (R0 (xc c) (yc c + k)) (C0 true))) (vec3 128 512 (sh (Ty m ρ true n (dy false c)) (R0 (xc c) (yc c + k)) (C0 true)))
      = vec2 128 512 (sh (padd g (Ty m ρ true n (dy false c))) (R0 (xc c) (yc c + k)) (C0 true)) := by
    rw [hpay, cast_vec3]
    rfl
  iintro HO HC Hk
  iapply (ld_o hoff (Finset.Subset.refl _)) $$ HO
  iintro HO
  iapply ld_y1 $$ HC
  iintro HC
  iapply (ld_o hoff (Finset.Subset.refl _)) $$ HO
  iintro HO
  iapply (st_o hoff hw) $$ HO
  iintro HO
  iapply Hk $$ HO
  unfold Cyany Cy
  iexists _
  iexact HC

/-- The addition of a slot that came in by the ring along `z`, left half. -/
theorem add_z0 (n : ℕ) (b k : Fin 4) {s : ℕ} {off : Fin 2 → ℕ} {inb inb' inb'' inb3} {hl hl' hl''} {hx hm}
    {kk : PUnit → Prog (TpuEff nD τ sig (Elt F) Λ₀ .tc) α} {Q : α → sProp 𝕄} {pay : Vec F S32x512 .f32 → Vec F S1x32x512 .f32 → Vec F S32x512 .f32}
    (hoff : off = ![K0 (xc c) (yc c + b) (zc c + k), C0 false]) (hpay : ∀ u v, pay u v = addf u (shapeCast S32x512 v shapeCasts_S1x32x512_S32x512)) :
    O (Chk (xc c) (yc c + b) (zc c + k) false) fullShare (Tq m ρ false c) c ⊢ iprop(Cz false (slot 3 32 512 s) (sh (Tz m ρ false n (dz true c)) (K0 (xc c) (yc c + b) (zc c + k)) (C0 false)) c
      -∗ (O (Chk (xc c) (yc c + b) (zc c + k) false) fullShare (Tz m ρ false (n + 1) c) c -∗ Czany false (slot 3 32 512 s) c -∗ WP c (kk ⟨⟩) Q)
      -∗ WP c (.op (.load (Memref.whole cc0_stg3_0) (Rect.unit (s := S1024x1024) off S32x512.size inb).toLoadRect hl) fun u =>
          .op (.load (Memref.whole cc0_scratch3) (Rect.unit (s := S3x32x512) ![s, 0, 0] S1x32x512.size inb').toLoadRect hl') fun v =>
          .op (.load (Memref.whole cc0_stg3_0) (Rect.unit (s := S1024x1024) off S32x512.size inb'').toLoadRect hl'') fun _ =>
          .op (.store (Memref.whole cc0_stg3_0) (Rect.unit (s := S1024x1024) off S32x512.size inb3) (pay u v) Finset.univ hx hm) kk) Q) := by
  unfold Chk
  have hw : pay (vec2 32 512 (sh (Tq m ρ false c) (K0 (xc c) (yc c + b) (zc c + k)) (C0 false))) (vec3 32 512 (sh (Tz m ρ false n (dz true c)) (K0 (xc c) (yc c + b) (zc c + k)) (C0 false)))
      = vec2 32 512 (sh (Tz m ρ false (n + 1) c) (K0 (xc c) (yc c + b) (zc c + k)) (C0 false)) := by
    rw [hpay, cast_vec3]
    rfl
  iintro HO HC Hk
  iapply (ld_o hoff (Finset.Subset.refl _)) $$ HO
  iintro HO
  iapply ld_z0 $$ HC
  iintro HC
  iapply (ld_o hoff (Finset.Subset.refl _)) $$ HO
  iintro HO
  iapply (st_o hoff hw) $$ HO
  iintro HO
  iapply Hk $$ HO
  unfold Czany Cz
  iexists _
  iexact HC

/-- The addition of a slot that came in by the ring along `z`, right half. -/
theorem add_z1 (n : ℕ) (b k : Fin 4) {s : ℕ} {off : Fin 2 → ℕ} {inb inb' inb'' inb3} {hl hl' hl''} {hx hm}
    {kk : PUnit → Prog (TpuEff nD τ sig (Elt F) Λ₀ .tc) α} {Q : α → sProp 𝕄} {pay : Vec F S32x512 .f32 → Vec F S1x32x512 .f32 → Vec F S32x512 .f32}
    (hoff : off = ![K0 (xc c) (yc c + b) (zc c + k), C0 true]) (hpay : ∀ u v, pay u v = addf u (shapeCast S32x512 v shapeCasts_S1x32x512_S32x512)) :
    O (Chk (xc c) (yc c + b) (zc c + k) true) fullShare (Tq m ρ true c) c ⊢ iprop(Cz true (slot 3 32 512 s) (sh (Tz m ρ true n (dz false c)) (K0 (xc c) (yc c + b) (zc c + k)) (C0 true)) c
      -∗ (O (Chk (xc c) (yc c + b) (zc c + k) true) fullShare (Tz m ρ true (n + 1) c) c -∗ Czany true (slot 3 32 512 s) c -∗ WP c (kk ⟨⟩) Q)
      -∗ WP c (.op (.load (Memref.whole cc0_stg3_0) (Rect.unit (s := S1024x1024) off S32x512.size inb).toLoadRect hl) fun u =>
          .op (.load (Memref.whole cc0_scratch4) (Rect.unit (s := S3x32x512) ![s, 0, 0] S1x32x512.size inb').toLoadRect hl') fun v =>
          .op (.load (Memref.whole cc0_stg3_0) (Rect.unit (s := S1024x1024) off S32x512.size inb'').toLoadRect hl'') fun _ =>
          .op (.store (Memref.whole cc0_stg3_0) (Rect.unit (s := S1024x1024) off S32x512.size inb3) (pay u v) Finset.univ hx hm) kk) Q) := by
  unfold Chk
  have hw : pay (vec2 32 512 (sh (Tq m ρ true c) (K0 (xc c) (yc c + b) (zc c + k)) (C0 true))) (vec3 32 512 (sh (Tz m ρ true n (dz false c)) (K0 (xc c) (yc c + b) (zc c + k)) (C0 true)))
      = vec2 32 512 (sh (Tz m ρ true (n + 1) c) (K0 (xc c) (yc c + b) (zc c + k)) (C0 true)) := by
    rw [hpay, cast_vec3]
    rfl
  iintro HO HC Hk
  iapply (ld_o hoff (Finset.Subset.refl _)) $$ HO
  iintro HO
  iapply ld_z1 $$ HC
  iintro HC
  iapply (ld_o hoff (Finset.Subset.refl _)) $$ HO
  iintro HO
  iapply (st_o hoff hw) $$ HO
  iintro HO
  iapply Hk $$ HO
  unfold Czany Cz
  iexists _
  iexact HC

/-- A block product stored over a block of whole rows. -/
theorem put_o (x : Fin 2) (b : Fin 4) {off : Fin 2 → ℕ} {inb inb'} {hl} {hx hm} {w : Vec F S128x1024 .f32}
    {kk : PUnit → Prog (TpuEff nD τ sig (Elt F) Λ₀ .tc) α} {Q : α → sProp 𝕄}
    (hoff : off = ![R0 x b, 0]) (hw : w = mlp (xrows m ρ c (R0 x b)) (w1stg m ρ c) (w2stg m ρ c)) :
    Oany (Row x b) c ⊢ iprop((O (Row x b) fullShare (Pl m ρ c) c -∗ WP c (kk ⟨⟩) Q)
      -∗ WP c (.op (.load (Memref.whole cc0_stg3_0) (Rect.unit (s := S1024x1024) off S128x1024.size inb).toLoadRect hl) fun _ =>
          .op (.store (Memref.whole cc0_stg3_0) (Rect.unit (s := S1024x1024) off S128x1024.size inb') w Finset.univ hx hm) kk) Q) := by
  have hw' : w = vec2 128 1024 (sh (Pl m ρ c) (R0 x b) 0) := by
    rw [hw, show R0 x b = 128 * (4 * x.val + b.val) by unfold R0; omega]
    exact mlp_vec2 m ρ c _
  unfold Oany Row
  iintro ⟨%g, HO⟩ Hk
  iapply (ld_o hoff (Finset.Subset.refl _)) $$ HO
  iintro HO
  iapply (st_o hoff hw') $$ HO
  iintro HO
  iapply Hk $$ HO
end Adds

end Cert.AllReduce

end
-- ==== Proof.Split.lean ====
module

public import proofs.«01_k».proof.Proof.Rules

/-!
Cutting the buffers into blocks, chunks, boxes and slots, and joining them again.
-/

@[expose] public section

set_option maxRecDepth 20000

noncomputable section

namespace Cert.AllReduce

open Cert.KernelIdeal Cert.KernelIdeal.Gen
open Idealize.ShloMosaic
open Idealize.ShloMosaic.TcCoe
open Idealize.ShloMosaic.RefSig (tileCredit tileCredit_pos)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg} {K : D × CI → ℕ}
/-! ### Cutting and joining element sets -/

section Tiles
variable {ℓ : Loc nD τ sig} {q : PosShare TreeShare} {g : Buf (Elt F) ℓ}

/-- A product over four. -/
theorem sep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
/-- A product over three. -/
theorem sep_fin3 (Φ : Fin 3 → sProp 𝕄) : bigSep Finset.univ Φ = iprop(Φ 0 ∗ Φ 1 ∗ Φ 2) :=
  bigSep_univ_eq_bigSepL [0, 1, 2] (by decide) (by decide) Φ
/-- A product over the two halves. -/
theorem sep_bool (Φ : Bool → sProp 𝕄) : bigSep Finset.univ Φ = iprop(Φ false ∗ Φ true) :=
  bigSep_univ_eq_bigSepL [false, true] (by decide) (by decide) Φ

/-- A set cut by a label. -/
theorem tile {T : Type} [Fintype T] [DecidableEq T] {S : Finset (Idx ℓ)} {f : T → Finset (Idx ℓ)} (lab : Idx ℓ → T)
    (h : ∀ k i, i ∈ f k ↔ i ∈ S ∧ lab i = k) : (ℓ ↦[S]{q} g : sProp 𝕄) = bigSep Finset.univ fun k => ℓ ↦[f k]{q} g := by
  rw [← pointsTo_biUnion Finset.univ f (fun t _ t' _ hne => Finset.disjoint_left.mpr fun i hi hi' => hne (((h t i).mp hi).2.symm.trans ((h t' i).mp hi').2))]
  congr 1
  ext i
  rw [Finset.mem_biUnion]
  exact ⟨fun hi => ⟨lab i, Finset.mem_univ _, (h _ i).mpr ⟨hi, rfl⟩⟩, fun ⟨k, _, hk⟩ => ((h k i).mp hk).1⟩

/-- Two disjoint sets with contents of their own, as one. -/
theorem any_union {I J : Finset (Idx ℓ)} (hd : Disjoint I J) :
    iprop((∃ g : Buf (Elt F) ℓ, ℓ ↦[I]{fullShare} g) ∗ ∃ g : Buf (Elt F) ℓ, ℓ ↦[J]{fullShare} g) ⊢ (iprop(∃ g : Buf (Elt F) ℓ, ℓ ↦[I ∪ J]{fullShare} g) : sProp 𝕄) := by
  iintro ⟨⟨%g, H1⟩, %g', H2⟩
  iexists _
  iapply (pointsTo_join hd) $$ [H1 H2]
  isplitl [H1]; · iexact H1
  iexact H2

/-- A set cut by a label, the pieces held with contents of their own, as one. -/
theorem join_bool {S : Finset (Idx ℓ)} {f : Bool → Finset (Idx ℓ)} (lab : Idx ℓ → Bool) (h : ∀ k i, i ∈ f k ↔ i ∈ S ∧ lab i = k) :
    iprop((∃ g : Buf (Elt F) ℓ, ℓ ↦[f false]{fullShare} g) ∗ ∃ g : Buf (Elt F) ℓ, ℓ ↦[f true]{fullShare} g) ⊢ (iprop(∃ g : Buf (Elt F) ℓ, ℓ ↦[S]{fullShare} g) : sProp 𝕄) := by
  have hS : S = f false ∪ f true := by
    ext i
    rw [Finset.mem_union, h, h]
    cases lab i <;> simp
  rw [hS]
  exact any_union (Finset.disjoint_left.mpr fun i hi hi' => absurd (((h _ i).mp hi).2.symm.trans ((h _ i).mp hi').2) (by decide))

/-- Three parts of a region, each at arbitrary contents, joined. -/
theorem join_fin3 {S : Finset (Idx ℓ)} {f : Fin 3 → Finset (Idx ℓ)} (lab : Idx ℓ → Fin 3) (h : ∀ k i, i ∈ f k ↔ i ∈ S ∧ lab i = k) :
    iprop((∃ g : Buf (Elt F) ℓ, ℓ ↦[f 0]{fullShare} g) ∗ (∃ g : Buf (Elt F) ℓ, ℓ ↦[f 1]{fullShare} g) ∗ ∃ g : Buf (Elt F) ℓ, ℓ ↦[f 2]{fullShare} g)
      ⊢ (iprop(∃ g : Buf (Elt F) ℓ, ℓ ↦[S]{fullShare} g) : sProp 𝕄) := by
  have hd : ∀ a b : Fin 3, a ≠ b → Disjoint (f a) (f b) := fun a b hne => Finset.disjoint_left.mpr fun i hi hi' => hne (((h _ i).mp hi).2.symm.trans ((h _ i).mp hi').2)
  have hS : S = f 0 ∪ (f 1 ∪ f 2) := by
    ext i
    rw [Finset.mem_union, Finset.mem_union, h, h, h]
    have : lab i = 0 ∨ lab i = 1 ∨ lab i = 2 := by revert i; intro i; generalize lab i = k; revert k; decide
    tauto
  rw [hS]
  iintro ⟨H0, H1, H2⟩
  iapply (any_union (Finset.disjoint_union_right.mpr ⟨hd _ _ (by decide), hd _ _ (by decide)⟩))
  isplitl [H0]; · iexact H0
  iapply (any_union (hd _ _ (by decide)))
  isplitl [H1]; · iexact H1
  iexact H2

/-- Four parts of a region, each at arbitrary contents, joined. -/
theorem join_fin4 {S : Finset (Idx ℓ)} {f : Fin 4 → Finset (Idx ℓ)} (lab : Idx ℓ → Fin 4) (h : ∀ k i, i ∈ f k ↔ i ∈ S ∧ lab i = k) :
    iprop((∃ g : Buf (Elt F) ℓ, ℓ ↦[f 0]{fullShare} g) ∗ (∃ g : Buf (Elt F) ℓ, ℓ ↦[f 1]{fullShare} g) ∗ (∃ g : Buf (Elt F) ℓ, ℓ ↦[f 2]{fullShare} g) ∗ ∃ g : Buf (Elt F) ℓ, ℓ ↦[f 3]{fullShare} g)
      ⊢ (iprop(∃ g : Buf (Elt F) ℓ, ℓ ↦[S]{fullShare} g) : sProp 𝕄) := by
  have hd : ∀ a b : Fin 4, a ≠ b → Disjoint (f a) (f b) := fun a b hne => Finset.disjoint_left.mpr fun i hi hi' => hne (((h _ i).mp hi).2.symm.trans ((h _ i).mp hi').2)
  have hS : S = (f 0 ∪ f 1) ∪ (f 2 ∪ f 3) := by
    ext i
    rw [Finset.mem_union, Finset.mem_union, Finset.mem_union, h, h, h, h]
    have : lab i = 0 ∨ lab i = 1 ∨ lab i = 2 ∨ lab i = 3 := by revert i; intro i; generalize lab i = k; revert k; decide
    tauto
  rw [hS]
  iintro ⟨H0, H1, H2, H3⟩
  iapply (any_union (Finset.disjoint_union_left.mpr ⟨Finset.disjoint_union_right.mpr ⟨hd _ _ (by decide), hd _ _ (by decide)⟩, Finset.disjoint_union_right.mpr ⟨hd _ _ (by decide), hd _ _ (by decide)⟩⟩))
  isplitl [H0 H1]
  · iapply (any_union (hd _ _ (by decide)))
    isplitl [H0]; · iexact H0
    iexact H1
  iapply (any_union (hd _ _ (by decide)))
  isplitl [H2]; · iexact H2
  iexact H3
end Tiles

/-! ### The blocks of the result buffer -/

/-- Half of the rows. -/
abbrev Xh (x : Fin 2) : Finset S1024x1024.Idx := box 1024 1024 (512 * x.val) 512 0 1024

/-- A difference on the ring of two. -/
theorem sub2 : ∀ a b k : Fin 2, a - b = k ↔ a = b + k := by decide
/-- A difference on the ring of four. -/
theorem sub4 : ∀ a b k : Fin 4, a - b = k ↔ a = b + k := by decide

/-- Which half of the rows an element is in. -/
theorem mem_half (x y : Fin 2) (i : S1024x1024.Idx) : i ∈ Xh (x + y) ↔ i ∈ (Finset.univ : Finset S1024x1024.Idx) ∧ (Fin.ofNat 2 ((i 0).val / 512) - x) = y := by
  have h0 : (i 0).val < 1024 := (i 0).isLt
  have h1 : (i 1).val < 1024 := (i 1).isLt
  have e : (Fin.ofNat 2 ((i 0).val / 512) - x) = y ↔ Fin.ofNat 2 ((i 0).val / 512) = x + y := sub2 _ _ _
  rw [e, mem_box, Fin.ext_iff]
  generalize x + y = z
  have := z.isLt
  show _ ↔ _ ∧ (i 0).val / 512 % 2 = z.val
  simp only [Finset.mem_univ, true_and]
  omega

/-- Which block of rows an element of a half is in. -/
theorem mem_row (x : Fin 2) (y k : Fin 4) (i : S1024x1024.Idx) : i ∈ Row x (y + k) ↔ i ∈ Xh x ∧ (Fin.ofNat 4 ((i 0).val / 128) - y) = k := by
  have h1 : (i 1).val < 1024 := (i 1).isLt
  have e : (Fin.ofNat 4 ((i 0).val / 128) - y) = k ↔ Fin.ofNat 4 ((i 0).val / 128) = y + k := sub4 _ _ _
  unfold Row
  rw [e, mem_box, mem_box, Fin.ext_iff]
  generalize y + k = z
  have := z.isLt
  have := x.isLt
  unfold R0
  show _ ↔ _ ∧ (i 0).val / 128 % 4 = z.val
  omega

/-- Which half of the columns an element of a block is in. -/
theorem mem_blk (x : Fin 2) (b : Fin 4) (h : Bool) (i : S1024x1024.Idx) : i ∈ Blk x b h ↔ i ∈ Row x b ∧ decide (512 ≤ (i 1).val) = h := by
  have h1 : (i 1).val < 1024 := (i 1).isLt
  unfold Row Blk
  rw [mem_box, mem_box]
  cases h
  · simp only [C0, Bool.false_eq_true, if_false, decide_eq_false_iff_not]; omega
  · simp only [C0, if_true, decide_eq_true_eq]; omega

/-- Which chunk an element of a block is in. -/
theorem mem_chk (x : Fin 2) (b z k : Fin 4) (h : Bool) (i : S1024x1024.Idx) : i ∈ Chk x b (z + k) h ↔ i ∈ Blk x b h ∧ (Fin.ofNat 4 ((i 0).val / 32) - z) = k := by
  have e : (Fin.ofNat 4 ((i 0).val / 32) - z) = k ↔ Fin.ofNat 4 ((i 0).val / 32) = z + k := sub4 _ _ _
  unfold Chk Blk
  rw [e, mem_box, mem_box, Fin.ext_iff]
  generalize z + k = w
  have := w.isLt
  have := x.isLt
  have := b.isLt
  unfold R0 K0
  show _ ↔ _ ∧ (i 0).val / 32 % 4 = w.val
  omega

/-- Which block and half of the landing buffer along `x` an element is in. -/
theorem mem_box8 (y k : Fin 4) (h : Bool) (i : S512x1024.Idx) :
    i ∈ box 512 1024 (128 * (y + k).val) 128 (C0 h) 512 ↔ i ∈ box 512 1024 (128 * (y + k).val) 128 0 1024 ∧ decide (512 ≤ (i 1).val) = h := by
  have h1 : (i 1).val < 1024 := (i 1).isLt
  rw [mem_box, mem_box]
  cases h
  · simp only [C0, Bool.false_eq_true, if_false, decide_eq_false_iff_not]; omega
  · simp only [C0, if_true, decide_eq_true_eq]; omega

/-- Which block of rows of the landing buffer along `x` an element is in. -/
theorem mem_box4 (y k : Fin 4) (i : S512x1024.Idx) :
    i ∈ box 512 1024 (128 * (y + k).val) 128 0 1024 ↔ i ∈ (Finset.univ : Finset S512x1024.Idx) ∧ (Fin.ofNat 4 ((i 0).val / 128) - y) = k := by
  have h0 : (i 0).val < 512 := (i 0).isLt
  have h1 : (i 1).val < 1024 := (i 1).isLt
  have e : (Fin.ofNat 4 ((i 0).val / 128) - y) = k ↔ Fin.ofNat 4 ((i 0).val / 128) = y + k := sub4 _ _ _
  rw [e, mem_box, Fin.ext_iff]
  generalize y + k = z
  have := z.isLt
  show _ ↔ _ ∧ (i 0).val / 128 % 4 = z.val
  simp only [Finset.mem_univ, true_and]
  omega

/-- Which slot an element is in. -/
theorem mem_slot3 {b d : ℕ} (s : Fin 3) (i : (⟨3, ![3, b, d]⟩ : Shape).Idx) :
    i ∈ slot 3 b d s.val ↔ i ∈ (Finset.univ : Finset (⟨3, ![3, b, d]⟩ : Shape).Idx) ∧ (⟨(i 0).val, (i 0).isLt⟩ : Fin 3) = s := by
  rw [mem_slot]
  exact ⟨fun h => ⟨Finset.mem_univ _, Fin.ext h⟩, fun h => congrArg Fin.val h.2⟩

section Buffers
variable {q : PosShare TreeShare} {g : ℕ → ℕ → F .f32} {c : D}

/-- A half of the rows is four blocks. -/
theorem o_rows (x : Fin 2) (y : Fin 4) : O (Xh x) q g c = iprop(O (Row x (y + 0)) q g c ∗ O (Row x (y + 1)) q g c ∗ O (Row x (y + 2)) q g c ∗ O (Row x (y + 3)) q g c) :=
  (tile (ℓ := (c : Thread nD τ).loc cc0_stg3_0) (S := Xh x) (f := fun k => Row x (y + k)) _ (mem_row x y)).trans (sep_fin4 (fun k => O (Row x (y + k)) q g c))

/-- A block of rows is its left and its right half. -/
theorem o_blks (x : Fin 2) (b : Fin 4) : O (Row x b) q g c = iprop(O (Blk x b false) q g c ∗ O (Blk x b true) q g c) :=
  (tile (ℓ := (c : Thread nD τ).loc cc0_stg3_0) (S := Row x b) (f := fun h => Blk x b h) _ (mem_blk x b)).trans (sep_bool (fun h => O (Blk x b h) q g c))

/-- A block in a half of the columns is four chunks. -/
theorem o_chks (x : Fin 2) (b : Fin 4) (h : Bool) (z : Fin 4) :
    O (Blk x b h) q g c = iprop(O (Chk x b (z + 0) h) q g c ∗ O (Chk x b (z + 1) h) q g c ∗ O (Chk x b (z + 2) h) q g c ∗ O (Chk x b (z + 3) h) q g c) :=
  (tile (ℓ := (c : Thread nD τ).loc cc0_stg3_0) (S := Blk x b h) (f := fun k => Chk x b (z + k) h) _ (fun k => mem_chk x b z k h)).trans (sep_fin4 (fun k => O (Chk x b (z + k) h) q g c))

/-- The result buffer is its two halves of rows. -/
theorem o_halves (x : Fin 2) : O Finset.univ q g c = iprop(O (Xh (x + 0)) q g c ∗ O (Xh (x + 1)) q g c) :=
  (tile (ℓ := (c : Thread nD τ).loc cc0_stg3_0) (S := Finset.univ) (f := fun k => Xh (x + k)) _ (mem_half x)).trans (BI.bigSep_fin_two (fun k => O (Xh (x + k)) q g c))

end Buffers

section Shares
/-- Adding and subtracting on the ring of four. -/
theorem add4_sub : ∀ x y : Fin 4, x + y - y = x := by decide
/-- Adding zero on the ring of two. -/
theorem two_zero : ∀ x : Fin 2, x + 0 = x := by decide
variable {q : PosShare TreeShare} {g : ℕ → ℕ → F .f32} {c : D}

/-- A share is its two parts. -/
theorem o_share (S : Finset S1024x1024.Idx) : O S q g c = iprop(O S q.left g c ∗ O S q.right g c) := by
  unfold O
  exact BI.Entails.antisymm (pointsTo_share (PosShare.mem_left_op_right q)).1 (pointsTo_share (PosShare.mem_left_op_right q)).2

/-- A finished piece in its three shares. -/
theorem o_shares (S : Finset S1024x1024.Idx) : O S fullShare g c = iprop(O S qz g c ∗ O S qy g c ∗ O S qx g c) := by
  rw [o_share S, o_share (q := fullShare.right) S]

/-- A set cut by a label, its contents forgotten. -/
theorem any_bool {ℓ : Loc nD τ sig} {S : Finset (Idx ℓ)} {f : Bool → Finset (Idx ℓ)} (lab : Idx ℓ → Bool) (h : ∀ k i, i ∈ f k ↔ i ∈ S ∧ lab i = k) :
    (iprop(∃ g : Buf (Elt F) ℓ, ℓ ↦[S]{fullShare} g) : sProp 𝕄) ⊢ iprop((∃ g : Buf (Elt F) ℓ, ℓ ↦[f false]{fullShare} g) ∗ ∃ g : Buf (Elt F) ℓ, ℓ ↦[f true]{fullShare} g) := by
  iintro ⟨%g, H⟩
  ihave H' := (BIBase.Entails.of_eq ((tile (q := fullShare) (g := g) lab h).trans (sep_bool _))) $$ H
  icases H' with ⟨H0, H1⟩
  isplitl [H0]; · iexists g; iexact H0
  iexists g; iexact H1

/-- A region at arbitrary contents cut into three parts. -/
theorem any_fin3 {ℓ : Loc nD τ sig} {S : Finset (Idx ℓ)} {f : Fin 3 → Finset (Idx ℓ)} (lab : Idx ℓ → Fin 3) (h : ∀ k i, i ∈ f k ↔ i ∈ S ∧ lab i = k) :
    (iprop(∃ g : Buf (Elt F) ℓ, ℓ ↦[S]{fullShare} g) : sProp 𝕄)
      ⊢ iprop((∃ g : Buf (Elt F) ℓ, ℓ ↦[f 0]{fullShare} g) ∗ (∃ g : Buf (Elt F) ℓ, ℓ ↦[f 1]{fullShare} g) ∗ ∃ g : Buf (Elt F) ℓ, ℓ ↦[f 2]{fullShare} g) := by
  iintro ⟨%g, H⟩
  ihave H' := (BIBase.Entails.of_eq ((tile (q := fullShare) (g := g) lab h).trans (sep_fin3 _))) $$ H
  icases H' with ⟨H0, H1, H2⟩
  isplitl [H0]; · iexists g; iexact H0
  isplitl [H1]; · iexists g; iexact H1
  iexists g; iexact H2

/-- A region at arbitrary contents cut into four parts. -/
theorem any_fin4 {ℓ : Loc nD τ sig} {S : Finset (Idx ℓ)} {f : Fin 4 → Finset (Idx ℓ)} (lab : Idx ℓ → Fin 4) (h : ∀ k i, i ∈ f k ↔ i ∈ S ∧ lab i = k) :
    (iprop(∃ g : Buf (Elt F) ℓ, ℓ ↦[S]{fullShare} g) : sProp 𝕄)
      ⊢ iprop((∃ g : Buf (Elt F) ℓ, ℓ ↦[f 0]{fullShare} g) ∗ (∃ g : Buf (Elt F) ℓ, ℓ ↦[f 1]{fullShare} g) ∗ (∃ g : Buf (Elt F) ℓ, ℓ ↦[f 2]{fullShare} g) ∗ ∃ g : Buf (Elt F) ℓ, ℓ ↦[f 3]{fullShare} g) := by
  iintro ⟨%g, H⟩
  ihave H' := (BIBase.Entails.of_eq ((tile (q := fullShare) (g := g) lab h).trans (sep_fin4 _))) $$ H
  icases H' with ⟨H0, H1, H2, H3⟩
  isplitl [H0]; · iexists g; iexact H0
  isplitl [H1]; · iexists g; iexact H1
  isplitl [H2]; · iexists g; iexact H2
  iexists g; iexact H3

/-- The result buffer in its eight blocks of rows: those of the other half, and those of this device's half. -/
theorem oany_rows : Oany (F := F) Finset.univ c ⊢ iprop((Oany (Row (xc c + 1) (yc c + 0)) c ∗ Oany (Row (xc c + 1) (yc c + 1)) c ∗ Oany (Row (xc c + 1) (yc c + 2)) c ∗ Oany (Row (xc c + 1) (yc c + 3)) c)
    ∗ Oany (Row (xc c) (yc c + 0)) c ∗ Oany (Row (xc c) (yc c + 1)) c ∗ Oany (Row (xc c) (yc c + 2)) c ∗ Oany (Row (xc c) (yc c + 3)) c) := by
  have hr : ∀ (x : Fin 2) (g : ℕ → ℕ → F .f32), O (Xh x) fullShare g c ⊢ iprop(Oany (Row x (yc c + 0)) c ∗ Oany (Row x (yc c + 1)) c ∗ Oany (Row x (yc c + 2)) c ∗ Oany (Row x (yc c + 3)) c) := by
    intro x g
    rw [o_rows x (yc c)]
    unfold Oany
    iintro ⟨H0, H1, H2, H3⟩
    isplitl [H0]; · iexists _; iexact H0
    isplitl [H1]; · iexists _; iexact H1
    isplitl [H2]; · iexists _; iexact H2
    iexists _; iexact H3
  have hu : ∀ g : ℕ → ℕ → F .f32, O Finset.univ fullShare g c ⊢ iprop(O (Xh (xc c)) fullShare g c ∗ O (Xh (xc c + 1)) fullShare g c) := fun g => BIBase.Entails.of_eq (by rw [o_halves (xc c), two_zero])
  have hO : Oany (F := F) Finset.univ c ⊢ iprop(∃ g : ℕ → ℕ → F .f32, O Finset.univ fullShare g c) := .rfl
  iintro H
  ihave H := hO $$ H
  icases H with ⟨%g, H⟩
  ihave H := (hu g) $$ H
  icases H with ⟨H0, H1⟩
  isplitl [H1]; · iapply (hr _ g) $$ H1
  iapply (hr _ g) $$ H0

/-- A region at contents by row and column is the region at some contents. -/
theorem oany_any {S : Finset S1024x1024.Idx} : Oany (F := F) S c ⊢ iprop(∃ f : Buf (Elt F) ((c : Thread nD τ).loc cc0_stg3_0), ((c : Thread nD τ).loc cc0_stg3_0) ↦[S]{fullShare} f) := by
  unfold Oany O
  iintro ⟨%g, H⟩
  iexists _
  iexact H

/-- The two halves of a block of whole rows, as one. -/
theorem oany_row (x : Fin 2) (b : Fin 4) : iprop(Oany (F := F) (Blk x b false) c ∗ Oany (Blk x b true) c) ⊢ Oany (Row x b) c := by
  have hj := join_bool (F := F) (ℓ := (c : Thread nD τ).loc cc0_stg3_0) (S := Row x b) (f := fun h => Blk x b h) _ (mem_blk x b)
  iintro ⟨H1, H2⟩
  ihave H1' := oany_any $$ H1
  ihave H2' := oany_any $$ H2
  ihave H := hj $$ [H1' H2']
  · isplitl [H1']; · iexact H1'
    iexact H2'
  icases H with ⟨%f, H⟩
  iapply (oany_of f) $$ H

/-- The landing buffer of the exchange along `x` in its eight boxes. -/
theorem c4_boxes (y : Fin 4) : C4any (F := F) Finset.univ c ⊢ iprop((C4any (box 512 1024 (128 * (y + 0).val) 128 (C0 false) 512) c ∗ C4any (box 512 1024 (128 * (y + 0).val) 128 (C0 true) 512) c)
    ∗ (C4any (box 512 1024 (128 * (y + 1).val) 128 (C0 false) 512) c ∗ C4any (box 512 1024 (128 * (y + 1).val) 128 (C0 true) 512) c)
    ∗ (C4any (box 512 1024 (128 * (y + 2).val) 128 (C0 false) 512) c ∗ C4any (box 512 1024 (128 * (y + 2).val) 128 (C0 true) 512) c)
    ∗ (C4any (box 512 1024 (128 * (y + 3).val) 128 (C0 false) 512) c ∗ C4any (box 512 1024 (128 * (y + 3).val) 128 (C0 true) 512) c)) := by
  unfold C4any
  have hj := fun k : Fin 4 => any_bool (F := F) (ℓ := (c : Thread nD τ).loc cc0_scratch0) (S := box 512 1024 (128 * (y + k).val) 128 0 1024) (f := fun h => box 512 1024 (128 * (y + k).val) 128 (C0 h) 512) _ (mem_box8 y k)
  have hu := any_fin4 (F := F) (ℓ := (c : Thread nD τ).loc cc0_scratch0) (S := Finset.univ) (f := fun k => box 512 1024 (128 * (y + k).val) 128 0 1024) _ (mem_box4 y)
  iintro H
  ihave H := hu $$ H
  icases H with ⟨H0, H1, H2, H3⟩
  isplitl [H0]; · iapply (hj 0) $$ H0
  isplitl [H1]; · iapply (hj 1) $$ H1
  isplitl [H2]; · iapply (hj 2) $$ H2
  iapply (hj 3) $$ H3

/-- The landing buffer along `x` joined from its eight pieces. -/
theorem c4_join (y : Fin 4) : iprop((C4any (F := F) (box 512 1024 (128 * (y + 0).val) 128 (C0 false) 512) c ∗ C4any (box 512 1024 (128 * (y + 0).val) 128 (C0 true) 512) c)
    ∗ (C4any (box 512 1024 (128 * (y + 1).val) 128 (C0 false) 512) c ∗ C4any (box 512 1024 (128 * (y + 1).val) 128 (C0 true) 512) c)
    ∗ (C4any (box 512 1024 (128 * (y + 2).val) 128 (C0 false) 512) c ∗ C4any (box 512 1024 (128 * (y + 2).val) 128 (C0 true) 512) c)
    ∗ (C4any (box 512 1024 (128 * (y + 3).val) 128 (C0 false) 512) c ∗ C4any (box 512 1024 (128 * (y + 3).val) 128 (C0 true) 512) c)) ⊢ C4any (F := F) Finset.univ c := by
  unfold C4any
  have hj := fun k : Fin 4 => join_bool (F := F) (ℓ := (c : Thread nD τ).loc cc0_scratch0) (S := box 512 1024 (128 * (y + k).val) 128 0 1024) (f := fun h => box 512 1024 (128 * (y + k).val) 128 (C0 h) 512) _ (mem_box8 y k)
  have hu := join_fin4 (F := F) (ℓ := (c : Thread nD τ).loc cc0_scratch0) (S := Finset.univ) (f := fun k => box 512 1024 (128 * (y + k).val) 128 0 1024) _ (mem_box4 y)
  iintro ⟨H0, H1, H2, H3⟩
  iapply hu
  isplitl [H0]; · iapply (hj 0) $$ H0
  isplitl [H1]; · iapply (hj 1) $$ H1
  isplitl [H2]; · iapply (hj 2) $$ H2
  iapply (hj 3) $$ H3

/-- The landing buffers of the rings in their three slots. -/
theorem cy_slots (h : Bool) : Cyany (F := F) h Finset.univ c ⊢ iprop(Cyany h (slot 3 128 512 0) c ∗ Cyany h (slot 3 128 512 1) c ∗ Cyany h (slot 3 128 512 2) c) := by
  cases h
  · exact any_fin3 (F := F) (ℓ := (c : Thread nD τ).loc cc0_scratch1) (S := Finset.univ) (f := fun s : Fin 3 => slot 3 128 512 s.val) _ mem_slot3
  · exact any_fin3 (F := F) (ℓ := (c : Thread nD τ).loc cc0_scratch2) (S := Finset.univ) (f := fun s : Fin 3 => slot 3 128 512 s.val) _ mem_slot3

/-- A landing buffer of the ring along `y` joined from its slots. -/
theorem cy_join (h : Bool) : iprop(Cyany (F := F) h (slot 3 128 512 0) c ∗ Cyany h (slot 3 128 512 1) c ∗ Cyany h (slot 3 128 512 2) c) ⊢ Cyany (F := F) h Finset.univ c := by
  cases h
  · exact join_fin3 (F := F) (ℓ := (c : Thread nD τ).loc cc0_scratch1) (S := Finset.univ) (f := fun s : Fin 3 => slot 3 128 512 s.val) _ mem_slot3
  · exact join_fin3 (F := F) (ℓ := (c : Thread nD τ).loc cc0_scratch2) (S := Finset.univ) (f := fun s : Fin 3 => slot 3 128 512 s.val) _ mem_slot3

/-- A landing buffer of the ring along `z` cut into its slots. -/
theorem cz_slots (h : Bool) : Czany (F := F) h Finset.univ c ⊢ iprop(Czany h (slot 3 32 512 0) c ∗ Czany h (slot 3 32 512 1) c ∗ Czany h (slot 3 32 512 2) c) := by
  cases h
  · exact any_fin3 (F := F) (ℓ := (c : Thread nD τ).loc cc0_scratch3) (S := Finset.univ) (f := fun s : Fin 3 => slot 3 32 512 s.val) _ mem_slot3
  · exact any_fin3 (F := F) (ℓ := (c : Thread nD τ).loc cc0_scratch4) (S := Finset.univ) (f := fun s : Fin 3 => slot 3 32 512 s.val) _ mem_slot3

/-- A landing buffer of the ring along `z` joined from its slots. -/
theorem cz_join (h : Bool) : iprop(Czany (F := F) h (slot 3 32 512 0) c ∗ Czany h (slot 3 32 512 1) c ∗ Czany h (slot 3 32 512 2) c) ⊢ Czany (F := F) h Finset.univ c := by
  cases h
  · exact join_fin3 (F := F) (ℓ := (c : Thread nD τ).loc cc0_scratch3) (S := Finset.univ) (f := fun s : Fin 3 => slot 3 32 512 s.val) _ mem_slot3
  · exact join_fin3 (F := F) (ℓ := (c : Thread nD τ).loc cc0_scratch4) (S := Finset.univ) (f := fun s : Fin 3 => slot 3 32 512 s.val) _ mem_slot3

/-! ### The three other devices of a ring, seen the other way round -/

/-- The three other devices of a ring along `z`, listed in the other direction. -/
theorem jZ_turn (h : Bool) (S : Finset S1024x1024.Idx) : jZ (F := F) h S 3 c ⊢ jZ (!h) S 3 c := by
  simp only [jZ, Bool.not_not]
  rw [dz_four h c, dz_four (!h) c, Bool.not_not, dz_two h c]
  iintro ⟨H1, H2, H3, -⟩
  isplitl [H3]; · iexact H3
  isplitl [H2]; · iexact H2
  isplitl [H1]; · iexact H1
  iempintro

/-- The three other devices of a ring along `y`, listed in the other direction. -/
theorem jY_turn (h : Bool) (S : Finset S1024x1024.Idx) : jY (F := F) h S 3 c ⊢ jY (!h) S 3 c := by
  simp only [jY, Bool.not_not]
  rw [dy_four h c, dy_four (!h) c, Bool.not_not, dy_two h c]
  iintro ⟨H1, H2, H3, -⟩
  isplitl [H3]; · iexact H3
  isplitl [H2]; · iexact H2
  isplitl [H1]; · iexact H1
  iempintro

/-- On its own chunk a device holds the total. -/
theorem fin_owner (h : Bool) (S : PosShare TreeShare) :
    O (Chk (xc c) (yc c + sg h) (zc c + sg h) h) S (Tz m ρ h 3 c) c = O (Chk (xc c) (yc c + sg h) (zc c + sg h) h) S (fin m ρ) c := by
  unfold O
  refine pointsTo_congr fun i hi => ?_
  show Tz m ρ h 3 c (i 0).val (i 1).val = fin m ρ (i 0).val (i 1).val
  have hc := hi
  rw [mem_chk] at hc
  obtain ⟨hb, hz⟩ := hc
  rw [sub4] at hz
  rw [mem_blk] at hb
  obtain ⟨hr, hh⟩ := hb
  rw [mem_row] at hr
  obtain ⟨hx, hy⟩ := hr
  rw [sub4] at hy
  rw [mem_box] at hx
  have ho : owner (i 0).val (i 1).val = c := by
    unfold owner
    rw [hh, hz, hy]
    have hx' : Fin.ofNat 2 ((i 0).val / 512) = xc c := by
      have := (xc c).isLt
      rw [Fin.ext_iff]
      show (i 0).val / 512 % 2 = _
      omega
    dsimp only
    rw [hx', add4_sub, add4_sub]
    exact dv_coord c
  unfold fin
  rw [ho, hh]

/-- The result buffer from its blocks: this device's half in three shares, the other half whole. -/
theorem out_join :
    iprop((O (Row (xc c) (yc c + 0)) fullShare g c ∗ O (Row (xc c) (yc c + 1)) fullShare g c ∗ O (Row (xc c) (yc c + 2)) fullShare g c ∗ O (Row (xc c) (yc c + 3)) fullShare g c)
      ∗ (O (Row (xc c + 1) (yc c + 0)) fullShare g c ∗ O (Row (xc c + 1) (yc c + 1)) fullShare g c ∗ O (Row (xc c + 1) (yc c + 2)) fullShare g c ∗ O (Row (xc c + 1) (yc c + 3)) fullShare g c))
      ⊢ O Finset.univ fullShare g c := by
  rw [o_halves (xc c), two_zero, o_rows (xc c) (yc c), o_rows (xc c + 1) (yc c)]

/-- A block of this device's rows from its shares. -/
theorem row_join (x : Fin 2) (b : Fin 4) :
    iprop((O (Blk x b false) qz g c ∗ O (Blk x b true) qz g c) ∗ (O (Blk x b false) qy g c ∗ O (Blk x b true) qy g c) ∗ O (Row x b) qx g c) ⊢ O (Row x b) fullShare g c := by
  rw [o_shares (Row x b), o_blks (q := qz) x b, o_blks (q := qy) x b]
end Shares

/-! ### The rules with the regions as the parts use them -/

section Variants
variable {α : Type} {c : D} {w n s : ℕ} {sp sp' : Space}

/-- A block product stored over a block of whole rows, which is then held in its two halves. -/
theorem put_b (x : Fin 2) (b : Fin 4) {off : Fin 2 → ℕ} {inb inb'} {hl} {hx hm} {w : Vec F S128x1024 .f32}
    {kk : PUnit → Prog (TpuEff nD τ sig (Elt F) Λ₀ .tc) α} {Q : α → sProp 𝕄}
    (hoff : off = ![R0 x b, 0]) (hw : w = mlp (xrows m ρ c (R0 x b)) (w1stg m ρ c) (w2stg m ρ c)) :
    Oany (Row x b) c ⊢ iprop((O (Blk x b false) fullShare (Pl m ρ c) c -∗ O (Blk x b true) fullShare (Pl m ρ c) c -∗ WP c (kk ⟨⟩) Q)
      -∗ WP c (.op (.load (Memref.whole cc0_stg3_0) (Rect.unit (s := S1024x1024) off S128x1024.size inb).toLoadRect hl) fun _ =>
          .op (.store (Memref.whole cc0_stg3_0) (Rect.unit (s := S1024x1024) off S128x1024.size inb') w Finset.univ hx hm) kk) Q) := by
  iintro HO Hk
  iapply (put_o x b hoff hw) $$ HO
  rw [o_blks x b]
  iintro ⟨H1, H2⟩
  iapply Hk $$ H1 H2

/-- A finished chunk comes in: one share goes on along `z`, the rest is kept. -/
theorem wt_gz' (h : Bool) (t : Fin 3) (hw : Wt w (.gz h t)) (hl : Lt n (.gz h t)) (b k : Fin 4) (hb : b = sg h) (hk : k = ks h t.val)
    {src : Memref sig .tc sp S32x512 .f32} {dst : Memref sig .tc sp' S32x512 .f32} {h1 h2} {kk : PUnit → Prog (TpuEff nD τ sig (Elt F) Λ₀ .tc) α} {Q : α → sProp 𝕄} :
    St m ρ K 5 n w s c ⊢ iprop((St m ρ K 5 n (w + 1) s c
        -∗ O (Chk (xc c) (yc c + b) (zc c + k) h) qz (fin m ρ) c -∗ O (Chk (xc c) (yc c + b) (zc c + k) h) fullShare.right (fin m ρ) c
        -∗ jZ (!h) (Chk (xc c) (yc c + b) (zc c + k) h) (2 - t.val) c -∗ WP c (kk ⟨⟩) Q)
      -∗ WP c (.op (.waitDma2 (dS (true, .gz h t)) src dst h1 h2) kk) Q) := by
  iintro HS Hk
  iapply (wt_gz h t hw hl b k hb hk) $$ HS
  rw [o_share (q := fullShare) (g := fin m ρ) (Chk (xc c) (yc c + b) (zc c + k) h)]
  iintro HS ⟨H1, H2⟩ HJ
  iapply Hk $$ HS H1 H2 HJ

/-- A finished block comes in, and is held in its three shares. -/
theorem wt_gy' (h : Bool) (t : Fin 3) (hw : Wt w (.gy h t)) (hl : Lt n (.gy h t)) (k : Fin 4) (hk : k = ks h t.val)
    {src : Memref sig .tc sp S128x512 .f32} {dst : Memref sig .tc sp' S128x512 .f32} {h1 h2} {kk : PUnit → Prog (TpuEff nD τ sig (Elt F) Λ₀ .tc) α} {Q : α → sProp 𝕄} :
    St m ρ K 5 n w s c ⊢ iprop((St m ρ K 5 n (w + 1) s c
        -∗ O (Blk (xc c) (yc c + k) h) qz (fin m ρ) c -∗ O (Blk (xc c) (yc c + k) h) qy (fin m ρ) c -∗ O (Blk (xc c) (yc c + k) h) qx (fin m ρ) c
        -∗ jY (!h) (Blk (xc c) (yc c + k) h) (2 - t.val) c -∗ WP c (kk ⟨⟩) Q)
      -∗ WP c (.op (.waitDma2 (dS (true, .gy h t)) src dst h1 h2) kk) Q) := by
  iintro HS Hk
  iapply (wt_gy h t hw hl k hk) $$ HS
  rw [o_shares]
  iintro HS ⟨H1, H2, H3⟩ HJ
  iapply Hk $$ HS H1 H2 H3 HJ

/-- Whole rows sent along `x`, from their two halves. -/
theorem sd_gx' {x : D} (t : Fin 4) (hn : At n (.gx t)) (k : Fin 4) (hk : k = kg t)
    {off : Fin 2 → ℕ} {inb inb'} (hx : x = tg (.gx t) c) (hoff : off = ![R0 (xc c) (yc c + k), 0]) {hsc} {h1 h2 h3}
    {kk : PUnit → Prog (TpuEff nD τ sig (Elt F) Λ₀ .tc) α} {Q : α → sProp 𝕄} :
    St m ρ K 5 n w 0 c ⊢ iprop(O (Blk (xc c) (yc c + k) false) qx (fin m ρ) c -∗ O (Blk (xc c) (yc c + k) true) qx (fin m ρ) c
      -∗ Oany (Blk (xc c) (yc c + k) false) (xp c) -∗ Oany (Blk (xc c) (yc c + k) true) (xp c) -∗ (St m ρ K 5 (n + 1) w 0 c -∗ WP c (kk ⟨⟩) Q)
      -∗ WP c (.op (.enqueueDma (oSl off 128 1024 inb) (.remote (Dev.tc x : Thread nD τ) (oSl off 128 1024 inb') (.dma (dS (false, .gx t))) hsc) (.dma (dS (true, .gx t))) h1 h2 h3) kk) Q) := by
  iintro HS H1 H2 H3 H4 Hk
  iapply (sd_gx t hn k hk hx hoff) $$ HS [H1 H2] [H3 H4] [Hk]
  · iapply (BIBase.Entails.of_eq (o_blks (xc c) (yc c + k)).symm)
    isplitl [H1]; · iexact H1
    iexact H2
  · iapply (oany_row (xc c) (yc c + k))
    isplitl [H3]; · iexact H3
    iexact H4
  · iexact Hk

/-- The device's own chunk, finished: one share goes along `z`. -/
theorem own_chunk (h : Bool) (b k : Fin 4) (hb : b = sg h) (hk : k = sg h) :
    O (Chk (xc c) (yc c + b) (zc c + k) h) fullShare (Tz m ρ h 3 c) c
      ⊢ iprop(O (Chk (xc c) (yc c + b) (zc c + k) h) qz (fin m ρ) c ∗ O (Chk (xc c) (yc c + b) (zc c + k) h) fullShare.right (fin m ρ) c) := by
  subst hb hk
  rw [fin_owner, o_share]

/-- A block summed over the ring along `y`, in its four chunks. -/
theorem cut_chunks (h : Bool) (b : Fin 4) :
    O (Blk (xc c) (yc c + b) h) fullShare (Tq m ρ h c) c
      ⊢ iprop(O (Chk (xc c) (yc c + b) (zc c + 0) h) fullShare (Tz m ρ h 0 c) c ∗ O (Chk (xc c) (yc c + b) (zc c + 1) h) fullShare (Tz m ρ h 0 c) c
        ∗ O (Chk (xc c) (yc c + b) (zc c + 2) h) fullShare (Tz m ρ h 0 c) c ∗ O (Chk (xc c) (yc c + b) (zc c + 3) h) fullShare (Tz m ρ h 0 c) c) := by
  have e : Tz m ρ h 0 c = Tq m ρ h c := rfl
  rw [e, o_chks (xc c) (yc c + b) h (zc c)]

/-- The four finished chunks of a block as one, in the shares for the gathers along `y` and `x`. -/
theorem join_chunks (h : Bool) (b : Fin 4) :
    iprop(O (Chk (xc c) (yc c + b) (zc c + 0) h) fullShare.right (fin m ρ) c ∗ O (Chk (xc c) (yc c + b) (zc c + 1) h) fullShare.right (fin m ρ) c
        ∗ O (Chk (xc c) (yc c + b) (zc c + 2) h) fullShare.right (fin m ρ) c ∗ O (Chk (xc c) (yc c + b) (zc c + 3) h) fullShare.right (fin m ρ) c)
      ⊢ iprop(O (Blk (xc c) (yc c + b) h) qy (fin m ρ) c ∗ O (Blk (xc c) (yc c + b) h) qx (fin m ρ) c) := by
  rw [← o_chks (xc c) (yc c + b) h (zc c), o_share]

/-- A block joined from its four chunks. -/
theorem join_chunks_z (h : Bool) (b : Fin 4) :
    iprop(O (Chk (xc c) (yc c + b) (zc c + 0) h) qz (fin m ρ) c ∗ O (Chk (xc c) (yc c + b) (zc c + 1) h) qz (fin m ρ) c
        ∗ O (Chk (xc c) (yc c + b) (zc c + 2) h) qz (fin m ρ) c ∗ O (Chk (xc c) (yc c + b) (zc c + 3) h) qz (fin m ρ) c)
      ⊢ O (Blk (xc c) (yc c + b) h) qz (fin m ρ) c := by
  rw [← o_chks (xc c) (yc c + b) h (zc c)]
end Variants

end Cert.AllReduce

end
-- ==== Proof.Parts.lean ====
module

public import proofs.«01_k».proof.Proof.Split

/-!
The body part by part: what each part finds and what it leaves.
-/

@[expose] public section

set_option maxRecDepth 20000

noncomputable section

namespace Cert.AllReduce

open Cert.KernelIdeal Cert.KernelIdeal.Gen
open Idealize.ShloMosaic
open Idealize.ShloMosaic.TcCoe
open Idealize.ShloMosaic.RefSig (tileCredit tileCredit_pos)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg} {K : D × CI → ℕ}
/-- A part of the body at the buffers it runs over. -/
abbrev at0 {α : Type 1} (f : (arg0 : Memref sig .tc .vmem S1024x1024 .f32) → arg0.IsWhole → (arg1 : Memref sig .tc .vmem S1024x2048 .f32) → arg1.IsWhole →
    (arg2 : Memref sig .tc .vmem S2048x1024 .f32) → arg2.IsWhole → (arg3 : Memref sig .tc .vmem S1024x1024 .f32) → arg3.IsWhole → (arg4 : Memref sig .tc .vmem S512x1024 .f32) → arg4.IsWhole →
    (arg5 : Memref sig .tc .vmem S3x128x512 .f32) → arg5.IsWhole → (arg6 : Memref sig .tc .vmem S3x128x512 .f32) → arg6.IsWhole → (arg7 : Memref sig .tc .vmem S3x32x512 .f32) → arg7.IsWhole →
    (arg8 : Memref sig .tc .vmem S3x32x512 .f32) → arg8.IsWhole → DmaSems sig S8 → DmaSems sig S8 → DmaSems sig S3 → DmaSems sig S3 → DmaSems sig S3 → DmaSems sig S3 → DmaSems sig S3 → DmaSems sig S3 →
    DmaSems sig S3 → DmaSems sig S3 → DmaSems sig S3 → DmaSems sig S3 → DmaSems sig S3 → DmaSems sig S3 → DmaSems sig S3 → DmaSems sig S3 → DmaSems sig S3 → DmaSems sig S3 → DmaSems sig S4 → DmaSems sig S4 → α) : α :=
  f (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _)
    (Memref.whole cc0_scratch4) (Memref.isWhole_whole _) cc0_scratch5 cc0_scratch6 cc0_scratch7 cc0_scratch8 cc0_scratch9 cc0_scratch10 cc0_scratch11 cc0_scratch12 cc0_scratch13 cc0_scratch14 cc0_scratch15 cc0_scratch16
    cc0_scratch17 cc0_scratch18 cc0_scratch19 cc0_scratch20 cc0_scratch21 cc0_scratch22 cc0_scratch23 cc0_scratch24

section Regions
variable (m : (ℓ : Loc nD τ sig) → Buf (Elt F) ℓ) (ρ : Dev nD → PrngReg) (c : D)

/-- A landing box of the exchange along `x`. -/
abbrev A4 (k : Fin 4) (h : Bool) (c' : D) : sProp 𝕄 := C4any (F := F) (box 512 1024 (128 * (yc c + k).val) 128 (C0 h) 512) c'
/-- A block of this device's half of the rows. -/
abbrev B (k : Fin 4) (h : Bool) (q : PosShare TreeShare) (g : ℕ → ℕ → F .f32) : sProp 𝕄 := O (Blk (xc c) (yc c + k) h) q g c
/-- A block of the other half. -/
abbrev B' (k : Fin 4) (h : Bool) (q : PosShare TreeShare) (g : ℕ → ℕ → F .f32) : sProp 𝕄 := O (Blk (xc c + 1) (yc c + k) h) q g c
/-- A chunk of a block. -/
abbrev Ck (b k : Fin 4) (h : Bool) (q : PosShare TreeShare) (g : ℕ → ℕ → F .f32) : sProp 𝕄 := O (Chk (xc c) (yc c + b) (zc c + k) h) q g c
/-- A slot of a landing buffer for the ring along `y`, and one for the ring along `z`. -/
abbrev Sl (h : Bool) (s : ℕ) (c' : D) : sProp 𝕄 := Cyany (F := F) h (slot 3 128 512 s) c'
/-- A slot of a landing buffer of the ring along `z` at arbitrary contents. -/
abbrev Sz (h : Bool) (s : ℕ) (c' : D) : sProp 𝕄 := Czany (F := F) h (slot 3 32 512 s) c'
/-- The same block on the next `n` devices of the ring, against direction `g`. -/
abbrev JY (g : Bool) (k : Fin 4) (h : Bool) (n : ℕ) : sProp 𝕄 := jY (F := F) g (Blk (xc c) (yc c + k) h) n c
/-- A chunk in the result buffers of the `n` devices before along `z`. -/
abbrev JZ (g : Bool) (b k : Fin 4) (h : Bool) (n : ℕ) : sProp 𝕄 := jZ (F := F) g (Chk (xc c) (yc c + b) (zc c + k) h) n c
/-- The same block on the partner along `x`. -/
abbrev OB (k : Fin 4) (h : Bool) : sProp 𝕄 := Oany (F := F) (Blk (xc c) (yc c + k) h) (xp c)
/-- What came in along `x`, along `y` and along `z`. -/
abbrev CX (k : Fin 4) (h : Bool) : sProp 𝕄 := C4 (box 512 1024 (128 * (yc c + k).val) 128 (C0 h) 512) (sh (Pl m ρ (xp c)) (512 * (xc c).val) 0) c
/-- What slot `i` of the ring along `y` holds when its copy has come in. -/
abbrev CY (k : Fin 4) (h : Bool) (i : ℕ) : sProp 𝕄 := Cy h (slot 3 128 512 i) (sh (Ty m ρ h i (dy (!h) c)) (R0 (xc c) (yc c + k)) (C0 h)) c
/-- What slot `i` of the ring along `z` holds when its copy has come in. -/
abbrev CZ (b k : Fin 4) (h : Bool) (i : ℕ) : sProp 𝕄 := Cz h (slot 3 32 512 i) (sh (Tz m ρ h i (dz (!h) c)) (K0 (xc c) (yc c + b) (zc c + k)) (C0 h)) c
end Regions

/-- A program that returns at once. -/
theorem ret_wp {α : Type} {c : D} (a : α) {Q : α → sProp 𝕄} : Q a ⊢ WP c (.ret a) Q := le_wp_ret _ _ _ a Q

/-- What the five barrier duties hand over. -/
theorem bar_0 (c : D) : barPay (F := F) 0 c = C4any Finset.univ (xp c) := rfl
/-- A barrier duty hands over a neighbour's landing buffer of the ring along `y`, left half. -/
theorem bar_1 (c : D) : barPay (F := F) 1 c = Cyany false Finset.univ (dy false c) := rfl
/-- A barrier duty hands over a neighbour's landing buffer of the ring along `y`, right half. -/
theorem bar_2 (c : D) : barPay (F := F) 2 c = Cyany true Finset.univ (dy true c) := rfl
/-- A barrier duty hands over a neighbour's landing buffer of the ring along `z`, left half. -/
theorem bar_3 (c : D) : barPay (F := F) 3 c = Czany false Finset.univ (dz false c) := rfl
/-- A barrier duty hands over a neighbour's landing buffer of the ring along `z`, right half. -/
theorem bar_4 (c : D) : barPay (F := F) 4 c = Czany true Finset.univ (dz true c) := rfl

/-- Part 1 asks for the device and computes words. -/
theorem part1_spec {c : D} {Q : (Σ' (d0 : Dev nD) (v2 : BitVec 32) (v19 : BitVec 32) (v37 : BitVec 32) (v38 : BitVec 32), BitVec 32) → sProp 𝕄} :
    iprop(∀ a b d e f, Q ⟨c, a, b, d, e, f⟩) ⊢ WP c (at0 (k0_part1 (F := F))) Q := by
  iintro Hk
  unfold at0
  rw [k0_part1_eq_skeleton]
  unfold k0_part1_skel
  simp only [Prog.lift, Prog.bind_op, Prog.bind_ret, Prog.pure_eq_ret, wp_deviceId]
  iapply ret_wp
  iapply Hk

/-- Part 2 computes words and takes the barrier semaphore. -/
theorem part2_spec {c : D} (v2 v19 v37 v38 v39 : BitVec 32) {Q : (Σ' (v45 : BitVec 32) (v55 : BitVec 32) (v65 : BitVec 32) (v67 : BitVec 32) (v69 : BitVec 32) (v70 : BitVec 32) (v72 : BitVec 32), Sems sig S_) → sProp 𝕄} :
    iprop(∀ a b d e f g h, Q ⟨a, b, d, e, f, g, h, (SemArray.scalar (sig.barrier 0 rfl) : Sems sig S_)⟩) ⊢ WP c (at0 (k0_part2 (F := F)) v2 v19 v37 v38 v39) Q := by
  iintro Hk
  unfold at0
  rw [k0_part2_eq_skeleton]
  unfold k0_part2_skel
  simp only [Prog.lift, Prog.bind_op, Prog.bind_ret, Prog.pure_eq_ret]
  iapply ret_wp
  iapply Hk

/-- Part 3 signals neighbour 1 of the barrier; signals neighbour 2 of the barrier; signals neighbour 3 of the barrier; signals neighbour 4 of the barrier; signals neighbour 5 of the barrier. -/
theorem part3_spec {c : D} (v37 v45 v55 v65 v67 v69 v72 : BitVec 32) {Q : (Σ' (v85 : BitVec 32) (v87 : BitVec 32) (v89 : BitVec 32) (v91 : BitVec 32) (v99 : FVec F S128x2048 .f32), Vec F S2048x1024 .f32) → sProp 𝕄} :
    St m ρ K 0 0 0 0 c ⊢ iprop(barPay (F := F) 0 (bt 0 c) -∗ barPay (F := F) 2 (bt 2 c) -∗ barPay (F := F) 1 (bt 1 c) -∗ barPay (F := F) 4 (bt 4 c) -∗ barPay (F := F) 3 (bt 3 c) -∗ XW m ρ c
      -∗ (∀ a b e d, St m ρ K 5 0 0 0 c -∗ XW m ρ c -∗ Q ⟨a, b, e, d, (k0_pay1 (xrows m ρ c (R0 (xc c + 1) (yc c + 0))) (w1stg m ρ c)), (w2stg m ρ c)⟩)
      -∗ WP c (at0 (k0_part3 (F := F)) c v37 v45 v55 v65 v67 v69 v72 (SemArray.scalar (sig.barrier 0 rfl) : Sems sig S_)) Q) := by
  iintro HS Hpay0 Hpay2 Hpay1 Hpay4 Hpay3 HXW Hk
  unfold at0
  rw [k0_part3_eq_skeleton]
  unfold k0_part3_skel
  simp only [semSignalWord, semWaitWord, Prog.lift, Prog.bind_op, Prog.bind_ret, Prog.pure_eq_ret, wp_deviceId]
  iapply (st_sig 0 0 rfl (dev1_eq c)) $$ [HS Hpay0]
  · isplitl [HS]
    · iexact HS
    iexact Hpay0
  iintro HS
  iapply (st_sig 1 2 rfl (dev2_eq c)) $$ [HS Hpay2]
  · isplitl [HS]
    · iexact HS
    iexact Hpay2
  iintro HS
  iapply (st_sig 2 1 rfl (dev3_eq c)) $$ [HS Hpay1]
  · isplitl [HS]
    · iexact HS
    iexact Hpay1
  iintro HS
  iapply (st_sig 3 4 rfl (dev4_eq c)) $$ [HS Hpay4]
  · isplitl [HS]
    · iexact HS
    iexact Hpay4
  iintro HS
  iapply (st_sig 4 3 rfl (dev5_eq c)) $$ [HS Hpay3]
  · isplitl [HS]
    · iexact HS
    iexact Hpay3
  iintro HS
  iapply (ld_x m ρ (r0 := R0 (xc c + 1) (yc c + 0)) (off1_eq c)) $$ [HXW]
  · iexact HXW
  iintro HXW
  iapply (ld_w1 m ρ) $$ [HXW]
  · iexact HXW
  iintro HXW
  iapply (ld_w2 m ρ) $$ [HXW]
  · iexact HXW
  iintro HXW
  iapply ret_wp
  iapply Hk $$ HS [HXW]
  · iexact HXW

/-- Part 4 stores block 0 of the other half of the rows; waits for the five neighbours; starts copy 0 of the exchange along `x`; starts copy 1 of the exchange along `x`. -/
theorem part4_spec {c : D} (v37 v45 v72 v85 v91 : BitVec 32) {Q : (Σ' (v128 : BitVec 32) (v131 : FVec F S128x1024 .f32), Vec F S1024x2048 .f32) → sProp 𝕄} :
    St m ρ K 5 0 0 0 c ⊢ iprop(Oany (F := F) (Row (xc c + 1) (yc c + 0)) c -∗ cred (tallyAt (barCell c) () 5) -∗ atPos ER (barCell c) 0 ∅ 0 -∗ XW m ρ c
      -∗ (∀ a, St m ρ K 5 2 0 0 c -∗ semVal (barCell c) 0 -∗ barPay (F := F) 1 c -∗ barPay (F := F) 2 c -∗ barPay (F := F) 3 c -∗ barPay (F := F) 4 c -∗ A4 (F := F) c 1 false (xp c) -∗ A4 (F := F) c 1 true (xp c) -∗ A4 (F := F) c 2 false (xp c) -∗ A4 (F := F) c 2 true (xp c) -∗ A4 (F := F) c 3 false (xp c) -∗ A4 (F := F) c 3 true (xp c) -∗ XW m ρ c -∗ Q ⟨a, (k0_pay3 (xrows m ρ c (R0 (xc c + 1) (yc c + 3)))), (w1stg m ρ c)⟩)
      -∗ WP c (at0 (k0_part4 (F := F)) c v37 v45 v72 (SemArray.scalar (sig.barrier 0 rfl) : Sems sig S_) v85 v91 (k0_pay1 (xrows m ρ c (R0 (xc c + 1) (yc c + 0))) (w1stg m ρ c)) (w2stg m ρ c)) Q) := by
  iintro HS Hr00 Hcr Hat HXW Hk
  unfold at0
  rw [k0_part4_eq_skeleton]
  unfold k0_part4_skel
  simp only [semSignalWord, semWaitWord, Prog.lift, Prog.bind_op, Prog.bind_ret, Prog.pure_eq_ret, wp_deviceId, sem5 0 (by decide), sem5 1 (by decide), sem6 0 (by decide), sem6 1 (by decide)]
  iapply (put_b (m := m) (ρ := ρ) (xc c + 1) (yc c + 0) (off1_eq c) rfl) $$ [Hr00]
  · iexact Hr00
  iintro Hp0f Hp0t
  iapply st_bar $$ [HS Hcr Hat]
  · isplitl [HS]
    · iexact HS
    isplitl [Hcr]
    · iexact Hcr
    iexact Hat
  iintro ⟨HS, Hsv, Hx, Hq1, Hq2, Hq3, Hq4⟩
  ihave Hx := (BIBase.Entails.of_eq (bar_0 c)) $$ Hx
  ihave Hx := (c4_boxes (F := F) (c := xp c) (yc c)) $$ [Hx]
  · iexact Hx
  icases Hx with ⟨⟨Hax0f, Hax0t⟩, ⟨Hax1f, Hax1t⟩, ⟨Hax2f, Hax2t⟩, ⟨Hax3f, Hax3t⟩⟩
  iapply (sd_rx 0 ⟨rfl, rfl⟩ 0 false rfl rfl (dev6_eq c) (off3_eq c) (off2_eq c)) $$ HS [Hp0f] [Hax0f]
  · iexact Hp0f
  · iexact Hax0f
  iintro HS
  iapply (sd_rx 1 ⟨rfl, rfl⟩ 0 true rfl rfl (dev7_eq c) (off5_eq c) (off4_eq c)) $$ HS [Hp0t] [Hax0t]
  · iexact Hp0t
  · iexact Hax0t
  iintro HS
  iapply (ld_x m ρ (r0 := R0 (xc c + 1) (yc c + 3)) (off6_eq 2 c)) $$ [HXW]
  · iexact HXW
  iintro HXW
  iapply (ld_w1 m ρ) $$ [HXW]
  · iexact HXW
  iintro HXW
  iapply ret_wp
  iapply Hk $$ HS [Hsv] [Hq1] [Hq2] [Hq3] [Hq4] [Hax1f] [Hax1t] [Hax2f] [Hax2t] [Hax3f] [Hax3t] [HXW]
  · iexact Hsv
  · iexact Hq1
  · iexact Hq2
  · iexact Hq3
  · iexact Hq4
  · iexact Hax1f
  · iexact Hax1t
  · iexact Hax2f
  · iexact Hax2t
  · iexact Hax3f
  · iexact Hax3t
  · iexact HXW

/-- Part 5 stores block 3 of the other half of the rows; starts copy 2 of the exchange along `x`. -/
theorem part5_spec {c : D} (v45 v72 v85 v87 v128 : BitVec 32) {Q : (FVec F S128x1024 .f32) → sProp 𝕄} :
    St m ρ K 5 2 0 0 c ⊢ iprop(XW m ρ c -∗ Oany (F := F) (Row (xc c + 1) (yc c + 3)) c -∗ A4 (F := F) c 3 false (xp c)
      -∗ (St m ρ K 5 3 0 0 c -∗ B' c 3 true fullShare (Pl m ρ c) -∗ XW m ρ c -∗ Q (k0_pay5 (xrows m ρ c (R0 (xc c + 1) (yc c + 1))) (w1stg m ρ c) (w2stg m ρ c)))
      -∗ WP c (at0 (k0_part5 (F := F)) c v45 v72 v85 v87 v128 (k0_pay3 (xrows m ρ c (R0 (xc c + 1) (yc c + 3)))) (w1stg m ρ c)) Q) := by
  iintro HS HXW Hr03 Hax3f Hk
  unfold at0
  rw [k0_part5_eq_skeleton]
  unfold k0_part5_skel
  simp only [semSignalWord, semWaitWord, Prog.lift, Prog.bind_op, Prog.bind_ret, Prog.pure_eq_ret, wp_deviceId, sem5 2 (by decide), sem6 2 (by decide)]
  iapply (ld_w2 m ρ) $$ [HXW]
  · iexact HXW
  iintro HXW
  iapply (put_b (m := m) (ρ := ρ) (xc c + 1) (yc c + 3) (off6_eq 2 c) rfl) $$ [Hr03]
  · iexact Hr03
  iintro Hp3f Hp3t
  iapply (sd_rx 2 ⟨rfl, rfl⟩ 3 false rfl rfl (dev8_eq c) (off8_eq 2 c) (off7_eq 2 c)) $$ HS [Hp3f] [Hax3f]
  · iexact Hp3f
  · iexact Hax3f
  iintro HS
  iapply (ld_x m ρ (r0 := R0 (xc c + 1) (yc c + 1)) (off6_eq 0 c)) $$ [HXW]
  · iexact HXW
  iintro HXW
  iapply (ld_w1 m ρ) $$ [HXW]
  · iexact HXW
  iintro HXW
  iapply (ld_w2 m ρ) $$ [HXW]
  · iexact HXW
  iintro HXW
  iapply ret_wp
  iapply Hk $$ HS [Hp3t] [HXW]
  · iexact Hp3t
  · iexact HXW

/-- Part 6 stores block 1 of the other half of the rows; starts copy 3 of the exchange along `x`; stores block 2 of the other half of the rows. -/
theorem part6_spec {c : D} (v45 v72 v87 v89 : BitVec 32) {Q : PUnit → sProp 𝕄} :
    St m ρ K 5 3 0 0 c ⊢ iprop(Oany (F := F) (Row (xc c + 1) (yc c + 1)) c -∗ A4 (F := F) c 1 true (xp c) -∗ XW m ρ c -∗ Oany (F := F) (Row (xc c + 1) (yc c + 2)) c
      -∗ (St m ρ K 5 4 0 0 c -∗ B' c 1 false fullShare (Pl m ρ c) -∗ XW m ρ c -∗ B' c 2 false fullShare (Pl m ρ c) -∗ B' c 2 true fullShare (Pl m ρ c) -∗ Q ⟨⟩)
      -∗ WP c (at0 (k0_part6 (F := F)) c v45 v72 v87 v89 (k0_pay5 (xrows m ρ c (R0 (xc c + 1) (yc c + 1))) (w1stg m ρ c) (w2stg m ρ c))) Q) := by
  iintro HS Hr01 Hax1t HXW Hr02 Hk
  unfold at0
  rw [k0_part6_eq_skeleton]
  unfold k0_part6_skel
  simp only [semSignalWord, semWaitWord, Prog.lift, Prog.bind_op, Prog.bind_ret, Prog.pure_eq_ret, wp_deviceId, sem5 3 (by decide), sem6 3 (by decide)]
  iapply (put_b (m := m) (ρ := ρ) (xc c + 1) (yc c + 1) (off6_eq 0 c) rfl) $$ [Hr01]
  · iexact Hr01
  iintro Hp1f Hp1t
  iapply (sd_rx 3 ⟨rfl, rfl⟩ 1 true rfl rfl (dev9_eq c) (off10_eq 0 c) (off9_eq 0 c)) $$ HS [Hp1t] [Hax1t]
  · iexact Hp1t
  · iexact Hax1t
  iintro HS
  iapply (ld_x m ρ (r0 := R0 (xc c + 1) (yc c + 2)) (off6_eq 1 c)) $$ [HXW]
  · iexact HXW
  iintro HXW
  iapply (ld_w1 m ρ) $$ [HXW]
  · iexact HXW
  iintro HXW
  iapply (ld_w2 m ρ) $$ [HXW]
  · iexact HXW
  iintro HXW
  iapply (put_b (m := m) (ρ := ρ) (xc c + 1) (yc c + 2) (off6_eq 1 c) rfl) $$ [Hr02]
  · iexact Hr02
  iintro Hp2f Hp2t
  iapply ret_wp
  iapply Hk $$ HS [Hp1f] [HXW] [Hp2f] [Hp2t]
  · iexact Hp1f
  · iexact HXW
  · iexact Hp2f
  · iexact Hp2t

/-- Part 7 starts copy 4 of the exchange along `x`; starts copy 5 of the exchange along `x`; starts copy 6 of the exchange along `x`. -/
theorem part7_spec {c : D} (v45 v72 v85 v87 v89 : BitVec 32) {Q : PUnit → sProp 𝕄} :
    St m ρ K 5 4 0 0 c ⊢ iprop(B' c 2 false fullShare (Pl m ρ c) -∗ A4 (F := F) c 2 false (xp c) -∗ B' c 2 true fullShare (Pl m ρ c) -∗ A4 (F := F) c 2 true (xp c) -∗ B' c 1 false fullShare (Pl m ρ c) -∗ A4 (F := F) c 1 false (xp c)
      -∗ (St m ρ K 5 7 0 0 c -∗ Q ⟨⟩)
      -∗ WP c (at0 (k0_part7 (F := F)) c v45 v72 v85 v87 v89) Q) := by
  iintro HS Hp2f Hax2f Hp2t Hax2t Hp1f Hax1f Hk
  unfold at0
  rw [k0_part7_eq_skeleton]
  unfold k0_part7_skel
  simp only [semSignalWord, semWaitWord, Prog.lift, Prog.bind_op, Prog.bind_ret, Prog.pure_eq_ret, wp_deviceId, sem5 4 (by decide), sem5 5 (by decide), sem5 6 (by decide), sem6 4 (by decide), sem6 5 (by decide), sem6 6 (by decide)]
  iapply (sd_rx 4 ⟨rfl, rfl⟩ 2 false rfl rfl (dev10_eq c) (off8_eq 1 c) (off7_eq 1 c)) $$ HS [Hp2f] [Hax2f]
  · iexact Hp2f
  · iexact Hax2f
  iintro HS
  iapply (sd_rx 5 ⟨rfl, rfl⟩ 2 true rfl rfl (dev11_eq c) (off10_eq 1 c) (off9_eq 1 c)) $$ HS [Hp2t] [Hax2t]
  · iexact Hp2t
  · iexact Hax2t
  iintro HS
  iapply (sd_rx 6 ⟨rfl, rfl⟩ 1 false rfl rfl (dev12_eq c) (off8_eq 0 c) (off7_eq 0 c)) $$ HS [Hp1f] [Hax1f]
  · iexact Hp1f
  · iexact Hax1f
  iintro HS
  iapply ret_wp
  iapply Hk $$ HS

/-- Part 8 starts copy 7 of the exchange along `x`. -/
theorem part8_spec {c : D} (v37 v70 : BitVec 32) {Q : (BitVec 32) → sProp 𝕄} :
    St m ρ K 5 7 0 0 c ⊢ iprop(B' c 3 true fullShare (Pl m ρ c) -∗ A4 (F := F) c 3 true (xp c)
      -∗ (∀ r, St m ρ K 5 8 0 0 c -∗ Q r)
      -∗ WP c (at0 (k0_part8 (F := F)) c v37 v70) Q) := by
  iintro HS Hp3t Hax3t Hk
  unfold at0
  rw [k0_part8_eq_skeleton]
  unfold k0_part8_skel
  simp only [semSignalWord, semWaitWord, Prog.lift, Prog.bind_op, Prog.bind_ret, Prog.pure_eq_ret, wp_deviceId, sem5 7 (by decide), sem6 7 (by decide)]
  iapply (sd_rx 7 ⟨rfl, rfl⟩ 3 true rfl rfl (dev13_eq c) (off10_eq 2 c) (off9_eq 2 c)) $$ HS [Hp3t] [Hax3t]
  · iexact Hp3t
  · iexact Hax3t
  iintro HS
  iapply ret_wp
  iapply Hk $$ HS

/-- Part 9 stores block 0 of its own half of the rows; waits for copy 0 of the exchange along `x`; adds what came in along `x` to block 0, left half. -/
theorem part9_spec {c : D} (v37 v45 v70 v266 : BitVec 32) {Q : PUnit → sProp 𝕄} :
    St m ρ K 5 8 0 0 c ⊢ iprop(XW m ρ c -∗ Oany (F := F) (Row (xc c) (yc c + 0)) c
      -∗ (St m ρ K 5 8 1 0 c -∗ XW m ρ c -∗ B c 0 true fullShare (Pl m ρ c) -∗ OB (F := F) c 0 false -∗ B c 0 false fullShare (Sx m ρ c) -∗ A4 (F := F) c 0 false c -∗ Q ⟨⟩)
      -∗ WP c (at0 (k0_part9 (F := F)) c v37 v45 v70 v266) Q) := by
  iintro HS HXW Hr10 Hk
  unfold at0
  rw [k0_part9_eq_skeleton]
  unfold k0_part9_skel
  simp only [semSignalWord, semWaitWord, Prog.lift, Prog.bind_op, Prog.bind_ret, Prog.pure_eq_ret, wp_deviceId, sem6 0 (by decide)]
  iapply (ld_x m ρ (r0 := R0 (xc c) (yc c + 0)) (off11_eq c)) $$ [HXW]
  · iexact HXW
  iintro HXW
  iapply (ld_w1 m ρ) $$ [HXW]
  · iexact HXW
  iintro HXW
  iapply (ld_w2 m ρ) $$ [HXW]
  · iexact HXW
  iintro HXW
  iapply (put_b (m := m) (ρ := ρ) (xc c) (yc c + 0) (off11_eq c) rfl) $$ [Hr10]
  · iexact Hr10
  iintro Hb0f Hb0t
  iapply (wt_rx 0 ⟨rfl, rfl⟩ (by decide +kernel) 0 false rfl rfl) $$ HS
  iintro HS Hcx0f Hox0f
  iapply (add_rx (g := Pl m ρ c) (g' := Sx m ρ c) 0 false (off12_eq c) (off13_eq c) (fun u v => congrArg (addf · v) (shapeCast_self u _)) rfl) $$ [Hb0f] [Hcx0f]
  · iexact Hb0f
  · iexact Hcx0f
  iintro Hb0f Ha0f
  iapply ret_wp
  iapply Hk $$ HS [HXW] [Hb0t] [Hox0f] [Hb0f] [Ha0f]
  · iexact HXW
  · iexact Hb0t
  · iexact Hox0f
  · iexact Hb0f
  · iexact Ha0f

/-- Part 10 waits for copy 1 of the exchange along `x`; adds what came in along `x` to block 0, right half; starts step 0 of the reduction ring along `y`, left half; starts step 0 of the reduction ring along `y`, right half. -/
theorem part10_spec {c : D} (v37 v55 v65 v70 v85 : BitVec 32) {Q : (BitVec 32) → sProp 𝕄} :
    St m ρ K 5 8 1 0 c ⊢ iprop(B c 0 true fullShare (Pl m ρ c) -∗ B c 0 false fullShare (Sx m ρ c) -∗ Sl (F := F) false 0 (dy false c) -∗ Sl (F := F) true 0 (dy true c)
      -∗ (∀ r, St m ρ K 5 10 2 0 c -∗ OB (F := F) c 0 true -∗ A4 (F := F) c 0 true c -∗ Q r)
      -∗ WP c (at0 (k0_part10 (F := F)) c v37 v55 v65 v70 v85) Q) := by
  iintro HS Hb0t Hb0f Hlyf0 Hlyt0 Hk
  unfold at0
  rw [k0_part10_eq_skeleton]
  unfold k0_part10_skel
  simp only [semSignalWord, semWaitWord, Prog.lift, Prog.bind_op, Prog.bind_ret, Prog.pure_eq_ret, wp_deviceId, sem6 1 (by decide), sem7 0 (by decide), sem8 0 (by decide), sem9 0 (by decide), sem10 0 (by decide)]
  iapply (wt_rx 1 ⟨rfl, rfl⟩ (by decide +kernel) 0 true rfl rfl) $$ HS
  iintro HS Hcx0t Hox0t
  iapply (add_rx (g := Pl m ρ c) (g' := Sx m ρ c) 0 true (off14_eq c) (off15_eq c) (fun u v => congrArg (addf · v) (shapeCast_self u _)) rfl) $$ [Hb0t] [Hcx0t]
  · iexact Hb0t
  · iexact Hcx0t
  iintro Hb0t Ha0t
  iapply (sd_ry false 0 ⟨rfl, rfl⟩ 0 rfl (dev14_eq c) (off16_eq 0 c) lands_y0) $$ HS [Hb0f] [Hlyf0] []
  · iexact Hb0f
  · iexact Hlyf0
  · iempintro
  iintro HS
  iapply (sd_ry true 0 ⟨rfl, rfl⟩ 0 rfl (dev15_eq c) (off17_eq 0 c) lands_y1) $$ HS [Hb0t] [Hlyt0] []
  · iexact Hb0t
  · iexact Hlyt0
  · iempintro
  iintro HS
  iapply ret_wp
  iapply Hk $$ HS [Hox0t] [Ha0t]
  · iexact Hox0t
  · iexact Ha0t

/-- Part 11 stores block 3 of its own half of the rows; waits for copy 2 of the exchange along `x`; adds what came in along `x` to block 3, left half. -/
theorem part11_spec {c : D} (v45 v55 v70 v85 v332 : BitVec 32) {Q : (Σ' (v364 : BitVec 32), BitVec 32) → sProp 𝕄} :
    St m ρ K 5 10 2 0 c ⊢ iprop(XW m ρ c -∗ Oany (F := F) (Row (xc c) (yc c + 3)) c
      -∗ (∀ a b, St m ρ K 5 10 3 0 c -∗ XW m ρ c -∗ B c 3 true fullShare (Pl m ρ c) -∗ OB (F := F) c 3 false -∗ B c 3 false fullShare (Sx m ρ c) -∗ A4 (F := F) c 3 false c -∗ Q ⟨a, b⟩)
      -∗ WP c (at0 (k0_part11 (F := F)) c v45 v55 v70 v85 v332) Q) := by
  iintro HS HXW Hr13 Hk
  unfold at0
  rw [k0_part11_eq_skeleton]
  unfold k0_part11_skel
  simp only [semSignalWord, semWaitWord, Prog.lift, Prog.bind_op, Prog.bind_ret, Prog.pure_eq_ret, wp_deviceId, sem6 2 (by decide)]
  iapply (ld_x m ρ (r0 := R0 (xc c) (yc c + 3)) (off18_eq 2 c)) $$ [HXW]
  · iexact HXW
  iintro HXW
  iapply (ld_w1 m ρ) $$ [HXW]
  · iexact HXW
  iintro HXW
  iapply (ld_w2 m ρ) $$ [HXW]
  · iexact HXW
  iintro HXW
  iapply (put_b (m := m) (ρ := ρ) (xc c) (yc c + 3) (off18_eq 2 c) rfl) $$ [Hr13]
  · iexact Hr13
  iintro Hb3f Hb3t
  iapply (wt_rx 2 ⟨rfl, rfl⟩ (by decide +kernel) 3 false rfl rfl) $$ HS
  iintro HS Hcx3f Hox3f
  iapply (add_rx (g := Pl m ρ c) (g' := Sx m ρ c) 3 false (off19_eq 2 c) (off20_eq 2 c) (fun u v => congrArg (addf · v) (shapeCast_self u _)) rfl) $$ [Hb3f] [Hcx3f]
  · iexact Hb3f
  · iexact Hcx3f
  iintro Hb3f Ha3f
  iapply ret_wp
  iapply Hk $$ HS [HXW] [Hb3t] [Hox3f] [Hb3f] [Ha3f]
  · iexact HXW
  · iexact Hb3t
  · iexact Hox3f
  · iexact Hb3f
  · iexact Ha3f

/-- Part 12 waits for step 0 of the reduction ring along `y`, left half; adds what came in by step 0 of the ring along `y`, left half; starts step 1 of the reduction ring along `y`, left half. -/
theorem part12_spec {c : D} (v37 v55 v70 v87 v364 c0_i32_248 : BitVec 32) {Q : (Σ' (v395 : BitVec 32), FVec F S128x1024 .f32) → sProp 𝕄} :
    St m ρ K 5 10 3 0 c ⊢ iprop(B c 3 false fullShare (Sx m ρ c) -∗ Sl (F := F) false 1 (dy false c) -∗ XW m ρ c
      -∗ (∀ a, St m ρ K 5 11 4 0 c -∗ Sl (F := F) false 0 c -∗ XW m ρ c -∗ Q ⟨a, (k0_pay13 (xrows m ρ c (R0 (xc c) (yc c + 1))))⟩)
      -∗ WP c (at0 (k0_part12 (F := F)) c v37 v55 v70 v87 v364 c0_i32_248) Q) := by
  iintro HS Hb3f Hlyf1 HXW Hk
  unfold at0
  rw [k0_part12_eq_skeleton]
  unfold k0_part12_skel
  simp only [semSignalWord, semWaitWord, Prog.lift, Prog.bind_op, Prog.bind_ret, Prog.pure_eq_ret, wp_deviceId, sem7 1 (by decide), sem8 0 (by decide), sem8 1 (by decide)]
  iapply (wt_ry false 0 ⟨rfl, rfl⟩ (by decide +kernel) 3 rfl) $$ HS
  iintro HS Hcyf0 Hjy3f
  iapply (add_y0 (g := Sx m ρ c) (g' := Ty m ρ false 1 c) 0 3 (off21_eq 0 c) (fun u v => congrArg (addf · _) (shapeCast_self u _)) rfl) $$ [Hb3f] [Hcyf0]
  · iexact Hb3f
  · iexact Hcyf0
  iintro Hb3f Hsyf0
  iapply (sd_ry false 1 ⟨rfl, rfl⟩ 3 rfl (dev16_eq c) (off16_eq 1 c) lands_y0) $$ HS [Hb3f] [Hlyf1] [Hjy3f]
  · iexact Hb3f
  · iexact Hlyf1
  · iexact Hjy3f
  iintro HS
  iapply (ld_x m ρ (r0 := R0 (xc c) (yc c + 1)) (off18_eq 0 c)) $$ [HXW]
  · iexact HXW
  iintro HXW
  iapply ret_wp
  iapply Hk $$ HS [Hsyf0] [HXW]
  · iexact Hsyf0
  · iexact HXW

/-- Part 13 stores block 1 of its own half of the rows; waits for copy 3 of the exchange along `x`; adds what came in along `x` to block 1, right half. -/
theorem part13_spec {c : D} (v45 v65 v70 v87 v395 : BitVec 32) {Q : PUnit → sProp 𝕄} :
    St m ρ K 5 11 4 0 c ⊢ iprop(XW m ρ c -∗ Oany (F := F) (Row (xc c) (yc c + 1)) c
      -∗ (St m ρ K 5 11 5 0 c -∗ XW m ρ c -∗ B c 1 false fullShare (Pl m ρ c) -∗ OB (F := F) c 1 true -∗ B c 1 true fullShare (Sx m ρ c) -∗ A4 (F := F) c 1 true c -∗ Q ⟨⟩)
      -∗ WP c (at0 (k0_part13 (F := F)) c v45 v65 v70 v87 v395 (k0_pay13 (xrows m ρ c (R0 (xc c) (yc c + 1))))) Q) := by
  iintro HS HXW Hr11 Hk
  unfold at0
  rw [k0_part13_eq_skeleton]
  unfold k0_part13_skel
  simp only [semSignalWord, semWaitWord, Prog.lift, Prog.bind_op, Prog.bind_ret, Prog.pure_eq_ret, wp_deviceId, sem6 3 (by decide)]
  iapply (ld_w1 m ρ) $$ [HXW]
  · iexact HXW
  iintro HXW
  iapply (ld_w2 m ρ) $$ [HXW]
  · iexact HXW
  iintro HXW
  iapply (put_b (m := m) (ρ := ρ) (xc c) (yc c + 1) (off18_eq 0 c) rfl) $$ [Hr11]
  · iexact Hr11
  iintro Hb1f Hb1t
  iapply (wt_rx 3 ⟨rfl, rfl⟩ (by decide +kernel) 1 true rfl rfl) $$ HS
  iintro HS Hcx1t Hox1t
  iapply (add_rx (g := Pl m ρ c) (g' := Sx m ρ c) 1 true (off22_eq 0 c) (off23_eq 0 c) (fun u v => congrArg (addf · v) (shapeCast_self u _)) rfl) $$ [Hb1t] [Hcx1t]
  · iexact Hb1t
  · iexact Hcx1t
  iintro Hb1t Ha1t
  iapply ret_wp
  iapply Hk $$ HS [HXW] [Hb1f] [Hox1t] [Hb1t] [Ha1t]
  · iexact HXW
  · iexact Hb1f
  · iexact Hox1t
  · iexact Hb1t
  · iexact Ha1t

/-- Part 14 waits for step 0 of the reduction ring along `y`, right half; adds what came in by step 0 of the ring along `y`, right half; starts step 1 of the reduction ring along `y`, right half. -/
theorem part14_spec {c : D} (v37 v65 v70 v89 : BitVec 32) {Q : (Σ' (v456 : BitVec 32) (v462 : FVec F S128x2048 .f32), F .f32) → sProp 𝕄} :
    St m ρ K 5 11 5 0 c ⊢ iprop(B c 1 true fullShare (Sx m ρ c) -∗ Sl (F := F) true 1 (dy true c) -∗ XW m ρ c
      -∗ (∀ a, St m ρ K 5 12 6 0 c -∗ Sl (F := F) true 0 c -∗ XW m ρ c -∗ Q ⟨a, (k0_pay17 (xrows m ρ c (R0 (xc c) (yc c + 2))) (w1stg m ρ c)), (Scalar.ofBits .f32 0x00000000#32)⟩)
      -∗ WP c (at0 (k0_part14 (F := F)) c v37 v65 v70 v89) Q) := by
  iintro HS Hb1t Hlyt1 HXW Hk
  unfold at0
  rw [k0_part14_eq_skeleton]
  unfold k0_part14_skel
  simp only [semSignalWord, semWaitWord, Prog.lift, Prog.bind_op, Prog.bind_ret, Prog.pure_eq_ret, wp_deviceId, sem9 1 (by decide), sem10 0 (by decide), sem10 1 (by decide)]
  iapply (wt_ry true 0 ⟨rfl, rfl⟩ (by decide +kernel) 1 rfl) $$ HS
  iintro HS Hcyt0 Hjy1t
  iapply (add_y1 (g := Sx m ρ c) (g' := Ty m ρ true 1 c) 0 1 (off24_eq 0 c) (fun u v => congrArg (addf · _) (shapeCast_self u _)) rfl) $$ [Hb1t] [Hcyt0]
  · iexact Hb1t
  · iexact Hcyt0
  iintro Hb1t Hsyt0
  iapply (sd_ry true 1 ⟨rfl, rfl⟩ 1 rfl (dev17_eq c) (off17_eq 1 c) lands_y1) $$ HS [Hb1t] [Hlyt1] [Hjy1t]
  · iexact Hb1t
  · iexact Hlyt1
  · iexact Hjy1t
  iintro HS
  iapply (ld_x m ρ (r0 := R0 (xc c) (yc c + 2)) (off18_eq 1 c)) $$ [HXW]
  · iexact HXW
  iintro HXW
  iapply (ld_w1 m ρ) $$ [HXW]
  · iexact HXW
  iintro HXW
  iapply ret_wp
  iapply Hk $$ HS [Hsyt0] [HXW]
  · iexact Hsyt0
  · iexact HXW

/-- Part 15 stores block 2 of its own half of the rows; waits for copy 4 of the exchange along `x`; adds what came in along `x` to block 2, left half; waits for step 1 of the reduction ring along `y`, left half. -/
theorem part15_spec {c : D} (v37 v45 v55 v70 v89 v456 : BitVec 32) {Q : (BitVec 32) → sProp 𝕄} :
    St m ρ K 5 12 6 0 c ⊢ iprop(XW m ρ c -∗ Oany (F := F) (Row (xc c) (yc c + 2)) c
      -∗ (∀ r, St m ρ K 5 12 8 0 c -∗ XW m ρ c -∗ B c 2 true fullShare (Pl m ρ c) -∗ OB (F := F) c 2 false -∗ B c 2 false fullShare (Sx m ρ c) -∗ A4 (F := F) c 2 false c -∗ CY m ρ c 2 false 1 -∗ JY (F := F) c false 2 false 2 -∗ Q r)
      -∗ WP c (at0 (k0_part15 (F := F)) c v37 v45 v55 v70 v89 v456 (k0_pay17 (xrows m ρ c (R0 (xc c) (yc c + 2))) (w1stg m ρ c)) (Scalar.ofBits .f32 0x00000000#32)) Q) := by
  iintro HS HXW Hr12 Hk
  unfold at0
  rw [k0_part15_eq_skeleton]
  unfold k0_part15_skel
  simp only [semSignalWord, semWaitWord, Prog.lift, Prog.bind_op, Prog.bind_ret, Prog.pure_eq_ret, wp_deviceId, sem6 4 (by decide), sem8 1 (by decide)]
  iapply (ld_w2 m ρ) $$ [HXW]
  · iexact HXW
  iintro HXW
  iapply (put_b (m := m) (ρ := ρ) (xc c) (yc c + 2) (off18_eq 1 c) rfl) $$ [Hr12]
  · iexact Hr12
  iintro Hb2f Hb2t
  iapply (wt_rx 4 ⟨rfl, rfl⟩ (by decide +kernel) 2 false rfl rfl) $$ HS
  iintro HS Hcx2f Hox2f
  iapply (add_rx (g := Pl m ρ c) (g' := Sx m ρ c) 2 false (off19_eq 1 c) (off20_eq 1 c) (fun u v => congrArg (addf · v) (shapeCast_self u _)) rfl) $$ [Hb2f] [Hcx2f]
  · iexact Hb2f
  · iexact Hcx2f
  iintro Hb2f Ha2f
  iapply (wt_ry false 1 ⟨rfl, rfl⟩ (by decide +kernel) 2 rfl) $$ HS
  iintro HS Hcyf1 Hjy2f
  iapply ret_wp
  iapply Hk $$ HS [HXW] [Hb2t] [Hox2f] [Hb2f] [Ha2f] [Hcyf1] [Hjy2f]
  · iexact HXW
  · iexact Hb2t
  · iexact Hox2f
  · iexact Hb2f
  · iexact Ha2f
  · iexact Hcyf1
  · iexact Hjy2f

/-- Part 16 adds what came in by step 1 of the ring along `y`, left half; starts step 2 of the reduction ring along `y`, left half; waits for copy 5 of the exchange along `x`. -/
theorem part16_spec {c : D} (v45 v55 v70 v89 v494 : BitVec 32) {Q : (Σ' (v524 : BitVec 32), BitVec 32) → sProp 𝕄} :
    St m ρ K 5 12 8 0 c ⊢ iprop(B c 2 false fullShare (Sx m ρ c) -∗ CY m ρ c 2 false 1 -∗ Sl (F := F) false 2 (dy false c) -∗ JY (F := F) c false 2 false 2
      -∗ (∀ a b, St m ρ K 5 13 9 0 c -∗ Sl (F := F) false 1 c -∗ CX m ρ c 2 true -∗ OB (F := F) c 2 true -∗ Q ⟨a, b⟩)
      -∗ WP c (at0 (k0_part16 (F := F)) c v45 v55 v70 v89 v494) Q) := by
  iintro HS Hb2f Hcyf1 Hlyf2 Hjy2f Hk
  unfold at0
  rw [k0_part16_eq_skeleton]
  unfold k0_part16_skel
  simp only [semSignalWord, semWaitWord, Prog.lift, Prog.bind_op, Prog.bind_ret, Prog.pure_eq_ret, wp_deviceId, sem6 5 (by decide), sem7 2 (by decide), sem8 2 (by decide)]
  iapply (add_y0 (g := Sx m ρ c) (g' := Ty m ρ false 2 c) 1 2 (off21_eq 1 c) (fun u v => congrArg (addf · _) (shapeCast_self u _)) rfl) $$ [Hb2f] [Hcyf1]
  · iexact Hb2f
  · iexact Hcyf1
  iintro Hb2f Hsyf1
  iapply (sd_ry false 2 ⟨rfl, rfl⟩ 2 rfl (dev18_eq c) (off16_eq 2 c) lands_y0) $$ HS [Hb2f] [Hlyf2] [Hjy2f]
  · iexact Hb2f
  · iexact Hlyf2
  · iexact Hjy2f
  iintro HS
  iapply (wt_rx 5 ⟨rfl, rfl⟩ (by decide +kernel) 2 true rfl rfl) $$ HS
  iintro HS Hcx2t Hox2t
  iapply ret_wp
  iapply Hk $$ HS [Hsyf1] [Hcx2t] [Hox2t]
  · iexact Hsyf1
  · iexact Hcx2t
  · iexact Hox2t

/-- Part 17 adds what came in along `x` to block 2, right half; waits for step 1 of the reduction ring along `y`, right half; adds what came in by step 1 of the ring along `y`, right half. -/
theorem part17_spec {c : D} (v37 v65 v70 v524 v525 : BitVec 32) {Q : PUnit → sProp 𝕄} :
    St m ρ K 5 13 9 0 c ⊢ iprop(B c 2 true fullShare (Pl m ρ c) -∗ CX m ρ c 2 true
      -∗ (St m ρ K 5 13 10 0 c -∗ A4 (F := F) c 2 true c -∗ JY (F := F) c true 2 true 2 -∗ B c 2 true fullShare (Ty m ρ true 2 c) -∗ Sl (F := F) true 1 c -∗ Q ⟨⟩)
      -∗ WP c (at0 (k0_part17 (F := F)) c v37 v65 v70 v524 v525) Q) := by
  iintro HS Hb2t Hcx2t Hk
  unfold at0
  rw [k0_part17_eq_skeleton]
  unfold k0_part17_skel
  simp only [semSignalWord, semWaitWord, Prog.lift, Prog.bind_op, Prog.bind_ret, Prog.pure_eq_ret, wp_deviceId, sem10 1 (by decide)]
  iapply (add_rx (g := Pl m ρ c) (g' := Sx m ρ c) 2 true (off22_eq 1 c) (off23_eq 1 c) (fun u v => congrArg (addf · v) (shapeCast_self u _)) rfl) $$ [Hb2t] [Hcx2t]
  · iexact Hb2t
  · iexact Hcx2t
  iintro Hb2t Ha2t
  iapply (wt_ry true 1 ⟨rfl, rfl⟩ (by decide +kernel) 2 rfl) $$ HS
  iintro HS Hcyt1 Hjy2t
  iapply (add_y1 (g := Sx m ρ c) (g' := Ty m ρ true 2 c) 1 2 (off24_eq 1 c) (fun u v => congrArg (addf · _) (shapeCast_self u _)) rfl) $$ [Hb2t] [Hcyt1]
  · iexact Hb2t
  · iexact Hcyt1
  iintro Hb2t Hsyt1
  iapply ret_wp
  iapply Hk $$ HS [Ha2t] [Hjy2t] [Hb2t] [Hsyt1]
  · iexact Ha2t
  · iexact Hjy2t
  · iexact Hb2t
  · iexact Hsyt1

/-- Part 18 starts step 2 of the reduction ring along `y`, right half; waits for step 2 of the reduction ring along `y`, left half; adds what came in by step 2 of the ring along `y`, left half. -/
theorem part18_spec {c : D} (v37 v45 v55 v70 : BitVec 32) {Q : PUnit → sProp 𝕄} :
    St m ρ K 5 13 10 0 c ⊢ iprop(B c 2 true fullShare (Ty m ρ true 2 c) -∗ Sl (F := F) true 2 (dy true c) -∗ JY (F := F) c true 2 true 2 -∗ B c 1 false fullShare (Pl m ρ c)
      -∗ (St m ρ K 5 14 11 0 c -∗ JY (F := F) c false 1 false 3 -∗ B c 1 false fullShare (padd (Pl m ρ c) (Ty m ρ false 2 (dy true c))) -∗ Sl (F := F) false 2 c -∗ Q ⟨⟩)
      -∗ WP c (at0 (k0_part18 (F := F)) c v37 v45 v55 v70) Q) := by
  iintro HS Hb2t Hlyt2 Hjy2t Hb1f Hk
  unfold at0
  rw [k0_part18_eq_skeleton]
  unfold k0_part18_skel
  simp only [semSignalWord, semWaitWord, Prog.lift, Prog.bind_op, Prog.bind_ret, Prog.pure_eq_ret, wp_deviceId, sem8 2 (by decide), sem9 2 (by decide), sem10 2 (by decide)]
  iapply (sd_ry true 2 ⟨rfl, rfl⟩ 2 rfl (dev19_eq c) (off17_eq 2 c) lands_y1) $$ HS [Hb2t] [Hlyt2] [Hjy2t]
  · iexact Hb2t
  · iexact Hlyt2
  · iexact Hjy2t
  iintro HS
  iapply (wt_ry false 2 ⟨rfl, rfl⟩ (by decide +kernel) 1 rfl) $$ HS
  iintro HS Hcyf2 Hjy1f
  iapply (add_y0 (g := Pl m ρ c) (g' := padd (Pl m ρ c) (Ty m ρ false 2 (dy true c))) 2 1 (off21_eq 2 c) (fun u v => congrArg (addf · _) (shapeCast_self u _)) rfl) $$ [Hb1f] [Hcyf2]
  · iexact Hb1f
  · iexact Hcyf2
  iintro Hb1f Hsyf2
  iapply ret_wp
  iapply Hk $$ HS [Hjy1f] [Hb1f] [Hsyf2]
  · iexact Hjy1f
  · iexact Hb1f
  · iexact Hsyf2

/-- Part 19 waits for copy 6 of the exchange along `x`; adds what came in along `x` to block 1, left half; waits for step 2 of the reduction ring along `y`, right half; adds what came in by step 2 of the ring along `y`, right half. -/
theorem part19_spec {c : D} (v37 v65 v70 v87 : BitVec 32) {Q : PUnit → sProp 𝕄} :
    St m ρ K 5 14 11 0 c ⊢ iprop(B c 1 false fullShare (padd (Pl m ρ c) (Ty m ρ false 2 (dy true c))) -∗ B c 3 true fullShare (Pl m ρ c)
      -∗ (St m ρ K 5 14 13 0 c -∗ OB (F := F) c 1 false -∗ B c 1 false fullShare (Tq m ρ false c) -∗ A4 (F := F) c 1 false c -∗ JY (F := F) c true 3 true 3 -∗ B c 3 true fullShare (padd (Pl m ρ c) (Ty m ρ true 2 (dy false c))) -∗ Sl (F := F) true 2 c -∗ Q ⟨⟩)
      -∗ WP c (at0 (k0_part19 (F := F)) c v37 v65 v70 v87) Q) := by
  iintro HS Hb1f Hb3t Hk
  unfold at0
  rw [k0_part19_eq_skeleton]
  unfold k0_part19_skel
  simp only [semSignalWord, semWaitWord, Prog.lift, Prog.bind_op, Prog.bind_ret, Prog.pure_eq_ret, wp_deviceId, sem6 6 (by decide), sem10 2 (by decide)]
  iapply (wt_rx 6 ⟨rfl, rfl⟩ (by decide +kernel) 1 false rfl rfl) $$ HS
  iintro HS Hcx1f Hox1f
  iapply (add_rx (g := padd (Pl m ρ c) (Ty m ρ false 2 (dy true c))) (g' := Tq m ρ false c) 1 false (off19_eq 0 c) (off20_eq 0 c) (fun u v => congrArg (addf · v) (shapeCast_self u _)) rfl) $$ [Hb1f] [Hcx1f]
  · iexact Hb1f
  · iexact Hcx1f
  iintro Hb1f Ha1f
  iapply (wt_ry true 2 ⟨rfl, rfl⟩ (by decide +kernel) 3 rfl) $$ HS
  iintro HS Hcyt2 Hjy3t
  iapply (add_y1 (g := Pl m ρ c) (g' := padd (Pl m ρ c) (Ty m ρ true 2 (dy false c))) 2 3 (off24_eq 2 c) (fun u v => congrArg (addf · _) (shapeCast_self u _)) rfl) $$ [Hb3t] [Hcyt2]
  · iexact Hb3t
  · iexact Hcyt2
  iintro Hb3t Hsyt2
  iapply ret_wp
  iapply Hk $$ HS [Hox1f] [Hb1f] [Ha1f] [Hjy3t] [Hb3t] [Hsyt2]
  · iexact Hox1f
  · iexact Hb1f
  · iexact Ha1f
  · iexact Hjy3t
  · iexact Hb3t
  · iexact Hsyt2

/-- Part 20 waits for copy 7 of the exchange along `x`; adds what came in along `x` to block 3, right half. -/
theorem part20_spec {c : D} (v19 v37 v45 v70 v85 : BitVec 32) {Q : (Σ' (v641 : BitVec 32), BitVec 32) → sProp 𝕄} :
    St m ρ K 5 14 13 0 c ⊢ iprop(B c 3 true fullShare (padd (Pl m ρ c) (Ty m ρ true 2 (dy false c)))
      -∗ (∀ a b, St m ρ K 5 14 14 0 c -∗ OB (F := F) c 3 true -∗ B c 3 true fullShare (Tq m ρ true c) -∗ A4 (F := F) c 3 true c -∗ Q ⟨a, b⟩)
      -∗ WP c (at0 (k0_part20 (F := F)) c v19 v37 v45 v70 v85) Q) := by
  iintro HS Hb3t Hk
  unfold at0
  rw [k0_part20_eq_skeleton]
  unfold k0_part20_skel
  simp only [semSignalWord, semWaitWord, Prog.lift, Prog.bind_op, Prog.bind_ret, Prog.pure_eq_ret, wp_deviceId, sem6 7 (by decide)]
  iapply (wt_rx 7 ⟨rfl, rfl⟩ (by decide +kernel) 3 true rfl rfl) $$ HS
  iintro HS Hcx3t Hox3t
  iapply (add_rx (g := padd (Pl m ρ c) (Ty m ρ true 2 (dy false c))) (g' := Tq m ρ true c) 3 true (off22_eq 2 c) (off23_eq 2 c) (fun u v => congrArg (addf · v) (shapeCast_self u _)) rfl) $$ [Hb3t] [Hcx3t]
  · iexact Hb3t
  · iexact Hcx3t
  iintro Hb3t Ha3t
  iapply ret_wp
  iapply Hk $$ HS [Hox3t] [Hb3t] [Ha3t]
  · iexact Hox3t
  · iexact Hb3t
  · iexact Ha3t

/-- Part 21 starts step 0 of the reduction ring along `z`, left half. -/
theorem part21_spec {c : D} (v19 v67 v69 v641 v645 : BitVec 32) {Q : PUnit → sProp 𝕄} :
    St m ρ K 5 14 14 0 c ⊢ iprop(Ck c 1 0 false fullShare (Tz m ρ false 0 c) -∗ Sz (F := F) false 0 (dz false c)
      -∗ (St m ρ K 5 15 14 0 c -∗ Q ⟨⟩)
      -∗ WP c (at0 (k0_part21 (F := F)) c v19 v67 v69 v641 v645) Q) := by
  iintro HS Hc0f Hlzf0 Hk
  unfold at0
  rw [k0_part21_eq_skeleton]
  unfold k0_part21_skel
  simp only [semSignalWord, semWaitWord, Prog.lift, Prog.bind_op, Prog.bind_ret, Prog.pure_eq_ret, wp_deviceId, sem11 0 (by decide), sem12 0 (by decide)]
  iapply (sd_rz false 0 ⟨rfl, rfl⟩ 1 0 rfl rfl (dev20_eq c) (off25_eq 0 c) lands_z0) $$ HS [Hc0f] [Hlzf0] []
  · iexact Hc0f
  · iexact Hlzf0
  · iempintro
  iintro HS
  iapply ret_wp
  iapply Hk $$ HS

/-- Part 22 starts step 0 of the reduction ring along `z`, right half; waits for step 0 of the reduction ring along `z`, left half; adds what came in by step 0 of the ring along `z`, left half. -/
theorem part22_spec {c : D} (v19 v67 v641 : BitVec 32) {Q : PUnit → sProp 𝕄} :
    St m ρ K 5 15 14 0 c ⊢ iprop(Ck c 3 0 true fullShare (Tz m ρ true 0 c) -∗ Sz (F := F) true 0 (dz true c) -∗ Ck c 1 3 false fullShare (Tz m ρ false 0 c)
      -∗ (St m ρ K 5 16 15 0 c -∗ JZ (F := F) c false 1 3 false 1 -∗ Ck c 1 3 false fullShare (Tz m ρ false 1 c) -∗ Sz (F := F) false 0 c -∗ Q ⟨⟩)
      -∗ WP c (at0 (k0_part22 (F := F)) c v19 v67 v641) Q) := by
  iintro HS Hc0t Hlzt0 Hc3f Hk
  unfold at0
  rw [k0_part22_eq_skeleton]
  unfold k0_part22_skel
  simp only [semSignalWord, semWaitWord, Prog.lift, Prog.bind_op, Prog.bind_ret, Prog.pure_eq_ret, wp_deviceId, sem12 0 (by decide), sem13 0 (by decide), sem14 0 (by decide)]
  iapply (sd_rz true 0 ⟨rfl, rfl⟩ 3 0 rfl rfl (dev21_eq c) (off26_eq 0 c) lands_z1) $$ HS [Hc0t] [Hlzt0] []
  · iexact Hc0t
  · iexact Hlzt0
  · iempintro
  iintro HS
  iapply (wt_rz false 0 ⟨rfl, rfl⟩ (by decide +kernel) 1 3 rfl rfl) $$ HS
  iintro HS Hczbf0 Hjz3f
  iapply (add_z0 0 1 3 (off27_eq 0 c) (fun u v => congrArg (addf · _) (shapeCast_self u _))) $$ [Hc3f] [Hczbf0]
  · iexact Hc3f
  · iexact Hczbf0
  iintro Hc3f Hszf0
  iapply ret_wp
  iapply Hk $$ HS [Hjz3f] [Hc3f] [Hszf0]
  · iexact Hjz3f
  · iexact Hc3f
  · iexact Hszf0

/-- Part 23 starts step 1 of the reduction ring along `z`, left half; waits for step 0 of the reduction ring along `z`, right half; adds what came in by step 0 of the ring along `z`, right half. -/
theorem part23_spec {c : D} (v19 v69 v645 : BitVec 32) {Q : PUnit → sProp 𝕄} :
    St m ρ K 5 16 15 0 c ⊢ iprop(Ck c 1 3 false fullShare (Tz m ρ false 1 c) -∗ Sz (F := F) false 1 (dz false c) -∗ JZ (F := F) c false 1 3 false 1 -∗ Ck c 3 1 true fullShare (Tz m ρ true 0 c)
      -∗ (St m ρ K 5 17 16 0 c -∗ JZ (F := F) c true 3 1 true 1 -∗ Ck c 3 1 true fullShare (Tz m ρ true 1 c) -∗ Sz (F := F) true 0 c -∗ Q ⟨⟩)
      -∗ WP c (at0 (k0_part23 (F := F)) c v19 v69 v645) Q) := by
  iintro HS Hc3f Hlzf1 Hjz3f Hc1t Hk
  unfold at0
  rw [k0_part23_eq_skeleton]
  unfold k0_part23_skel
  simp only [semSignalWord, semWaitWord, Prog.lift, Prog.bind_op, Prog.bind_ret, Prog.pure_eq_ret, wp_deviceId, sem11 1 (by decide), sem12 1 (by decide), sem14 0 (by decide)]
  iapply (sd_rz false 1 ⟨rfl, rfl⟩ 1 3 rfl rfl (dev22_eq c) (off25_eq 1 c) lands_z0) $$ HS [Hc3f] [Hlzf1] [Hjz3f]
  · iexact Hc3f
  · iexact Hlzf1
  · iexact Hjz3f
  iintro HS
  iapply (wt_rz true 0 ⟨rfl, rfl⟩ (by decide +kernel) 3 1 rfl rfl) $$ HS
  iintro HS Hczbt0 Hjz1t
  iapply (add_z1 0 3 1 (off28_eq 0 c) (fun u v => congrArg (addf · _) (shapeCast_self u _))) $$ [Hc1t] [Hczbt0]
  · iexact Hc1t
  · iexact Hczbt0
  iintro Hc1t Hszt0
  iapply ret_wp
  iapply Hk $$ HS [Hjz1t] [Hc1t] [Hszt0]
  · iexact Hjz1t
  · iexact Hc1t
  · iexact Hszt0

/-- Part 24 starts step 1 of the reduction ring along `z`, right half; waits for step 1 of the reduction ring along `z`, left half; adds what came in by step 1 of the ring along `z`, left half. -/
theorem part24_spec {c : D} (v19 v67 v641 : BitVec 32) {Q : PUnit → sProp 𝕄} :
    St m ρ K 5 17 16 0 c ⊢ iprop(Ck c 3 1 true fullShare (Tz m ρ true 1 c) -∗ Sz (F := F) true 1 (dz true c) -∗ JZ (F := F) c true 3 1 true 1 -∗ Ck c 1 2 false fullShare (Tz m ρ false 0 c)
      -∗ (St m ρ K 5 18 17 0 c -∗ JZ (F := F) c false 1 2 false 2 -∗ Ck c 1 2 false fullShare (Tz m ρ false 2 c) -∗ Sz (F := F) false 1 c -∗ Q ⟨⟩)
      -∗ WP c (at0 (k0_part24 (F := F)) c v19 v67 v641) Q) := by
  iintro HS Hc1t Hlzt1 Hjz1t Hc2f Hk
  unfold at0
  rw [k0_part24_eq_skeleton]
  unfold k0_part24_skel
  simp only [semSignalWord, semWaitWord, Prog.lift, Prog.bind_op, Prog.bind_ret, Prog.pure_eq_ret, wp_deviceId, sem12 1 (by decide), sem13 1 (by decide), sem14 1 (by decide)]
  iapply (sd_rz true 1 ⟨rfl, rfl⟩ 3 1 rfl rfl (dev23_eq c) (off26_eq 1 c) lands_z1) $$ HS [Hc1t] [Hlzt1] [Hjz1t]
  · iexact Hc1t
  · iexact Hlzt1
  · iexact Hjz1t
  iintro HS
  iapply (wt_rz false 1 ⟨rfl, rfl⟩ (by decide +kernel) 1 2 rfl rfl) $$ HS
  iintro HS Hczbf1 Hjz2f
  iapply (add_z0 1 1 2 (off27_eq 1 c) (fun u v => congrArg (addf · _) (shapeCast_self u _))) $$ [Hc2f] [Hczbf1]
  · iexact Hc2f
  · iexact Hczbf1
  iintro Hc2f Hszf1
  iapply ret_wp
  iapply Hk $$ HS [Hjz2f] [Hc2f] [Hszf1]
  · iexact Hjz2f
  · iexact Hc2f
  · iexact Hszf1

/-- Part 25 starts step 2 of the reduction ring along `z`, left half; waits for step 1 of the reduction ring along `z`, right half; adds what came in by step 1 of the ring along `z`, right half; starts step 2 of the reduction ring along `z`, right half. -/
theorem part25_spec {c : D} (v19 v69 v645 : BitVec 32) {Q : PUnit → sProp 𝕄} :
    St m ρ K 5 18 17 0 c ⊢ iprop(Ck c 1 2 false fullShare (Tz m ρ false 2 c) -∗ Sz (F := F) false 2 (dz false c) -∗ JZ (F := F) c false 1 2 false 2 -∗ Ck c 3 2 true fullShare (Tz m ρ true 0 c) -∗ Sz (F := F) true 2 (dz true c)
      -∗ (St m ρ K 5 20 18 0 c -∗ Sz (F := F) true 1 c -∗ Q ⟨⟩)
      -∗ WP c (at0 (k0_part25 (F := F)) c v19 v69 v645) Q) := by
  iintro HS Hc2f Hlzf2 Hjz2f Hc2t Hlzt2 Hk
  unfold at0
  rw [k0_part25_eq_skeleton]
  unfold k0_part25_skel
  simp only [semSignalWord, semWaitWord, Prog.lift, Prog.bind_op, Prog.bind_ret, Prog.pure_eq_ret, wp_deviceId, sem11 2 (by decide), sem12 2 (by decide), sem13 2 (by decide), sem14 1 (by decide), sem14 2 (by decide)]
  iapply (sd_rz false 2 ⟨rfl, rfl⟩ 1 2 rfl rfl (dev24_eq c) (off25_eq 2 c) lands_z0) $$ HS [Hc2f] [Hlzf2] [Hjz2f]
  · iexact Hc2f
  · iexact Hlzf2
  · iexact Hjz2f
  iintro HS
  iapply (wt_rz true 1 ⟨rfl, rfl⟩ (by decide +kernel) 3 2 rfl rfl) $$ HS
  iintro HS Hczbt1 Hjz2t
  iapply (add_z1 1 3 2 (off28_eq 1 c) (fun u v => congrArg (addf · _) (shapeCast_self u _))) $$ [Hc2t] [Hczbt1]
  · iexact Hc2t
  · iexact Hczbt1
  iintro Hc2t Hszt1
  iapply (sd_rz true 2 ⟨rfl, rfl⟩ 3 2 rfl rfl (dev25_eq c) (off26_eq 2 c) lands_z1) $$ HS [Hc2t] [Hlzt2] [Hjz2t]
  · iexact Hc2t
  · iexact Hlzt2
  · iexact Hjz2t
  iintro HS
  iapply ret_wp
  iapply Hk $$ HS [Hszt1]
  · iexact Hszt1

/-- Part 26 waits for step 2 of the reduction ring along `z`, left half; adds what came in by step 2 of the ring along `z`, left half; waits for step 2 of the reduction ring along `z`, right half. -/
theorem part26_spec {c : D} (v19 v67 v69 v641 : BitVec 32) {Q : (Σ' (v838 : BitVec 32), BitVec 32) → sProp 𝕄} :
    St m ρ K 5 20 18 0 c ⊢ iprop(Ck c 1 1 false fullShare (Tz m ρ false 0 c)
      -∗ (∀ a b, St m ρ K 5 20 20 0 c -∗ JZ (F := F) c false 1 1 false 3 -∗ Ck c 1 1 false fullShare (Tz m ρ false 3 c) -∗ Sz (F := F) false 2 c -∗ CZ m ρ c 3 3 true 2 -∗ JZ (F := F) c true 3 3 true 3 -∗ Q ⟨a, b⟩)
      -∗ WP c (at0 (k0_part26 (F := F)) c v19 v67 v69 v641) Q) := by
  iintro HS Hc1f Hk
  unfold at0
  rw [k0_part26_eq_skeleton]
  unfold k0_part26_skel
  simp only [semSignalWord, semWaitWord, Prog.lift, Prog.bind_op, Prog.bind_ret, Prog.pure_eq_ret, wp_deviceId, sem12 2 (by decide), sem14 2 (by decide)]
  iapply (wt_rz false 2 ⟨rfl, rfl⟩ (by decide +kernel) 1 1 rfl rfl) $$ HS
  iintro HS Hczbf2 Hjz1f
  iapply (add_z0 2 1 1 (off27_eq 2 c) (fun u v => congrArg (addf · _) (shapeCast_self u _))) $$ [Hc1f] [Hczbf2]
  · iexact Hc1f
  · iexact Hczbf2
  iintro Hc1f Hszf2
  iapply (wt_rz true 2 ⟨rfl, rfl⟩ (by decide +kernel) 3 3 rfl rfl) $$ HS
  iintro HS Hczbt2 Hjz3t
  iapply ret_wp
  iapply Hk $$ HS [Hjz1f] [Hc1f] [Hszf2] [Hczbt2] [Hjz3t]
  · iexact Hjz1f
  · iexact Hc1f
  · iexact Hszf2
  · iexact Hczbt2
  · iexact Hjz3t

/-- Part 27 adds what came in by step 2 of the ring along `z`, right half. -/
theorem part27_spec {c : D} (v19 v641 v645 v838 c4_i32_627 : BitVec 32) {Q : (Σ' (v871 : BitVec 32), BitVec 32) → sProp 𝕄} :
    St m ρ K 5 20 20 0 c ⊢ iprop(Ck c 3 3 true fullShare (Tz m ρ true 0 c) -∗ CZ m ρ c 3 3 true 2
      -∗ (∀ a b, St m ρ K 5 20 20 0 c -∗ Ck c 3 3 true fullShare (Tz m ρ true 3 c) -∗ Sz (F := F) true 2 c -∗ Q ⟨a, b⟩)
      -∗ WP c (at0 (k0_part27 (F := F)) c v19 v641 v645 v838 c4_i32_627) Q) := by
  iintro HS Hc3t Hczbt2 Hk
  unfold at0
  rw [k0_part27_eq_skeleton]
  unfold k0_part27_skel
  simp only [semSignalWord, semWaitWord, Prog.lift, Prog.bind_op, Prog.bind_ret, Prog.pure_eq_ret, wp_deviceId]
  iapply (add_z1 2 3 3 (off28_eq 2 c) (fun u v => congrArg (addf · _) (shapeCast_self u _))) $$ [Hc3t] [Hczbt2]
  · iexact Hc3t
  · iexact Hczbt2
  iintro Hc3t Hszt2
  iapply ret_wp
  iapply Hk $$ HS [Hc3t] [Hszt2]
  · iexact Hc3t
  · iexact Hszt2

/-- Part 28 starts step 0 of the gather along `z`, left half; starts step 0 of the gather along `z`, right half. -/
theorem part28_spec {c : D} (v19 v67 v69 v641 v645 v871 c32_i32_653 : BitVec 32) {Q : PUnit → sProp 𝕄} :
    St m ρ K 5 20 20 0 c ⊢ iprop(Ck c 1 1 false qz (fin m ρ) -∗ JZ (F := F) c true 1 1 false 3 -∗ Ck c 3 3 true qz (fin m ρ) -∗ JZ (F := F) c false 3 3 true 3
      -∗ (St m ρ K 5 22 20 0 c -∗ Q ⟨⟩)
      -∗ WP c (at0 (k0_part28 (F := F)) c v19 v67 v69 v641 v645 v871 c32_i32_653) Q) := by
  iintro HS Hcz1f Hjz1f Hcz3t Hjz3t Hk
  unfold at0
  rw [k0_part28_eq_skeleton]
  unfold k0_part28_skel
  simp only [semSignalWord, semWaitWord, Prog.lift, Prog.bind_op, Prog.bind_ret, Prog.pure_eq_ret, wp_deviceId, sem15 0 (by decide), sem16 0 (by decide), sem17 0 (by decide), sem18 0 (by decide)]
  iapply (sd_gz false 0 ⟨rfl, rfl⟩ 1 1 rfl rfl (dev26_eq c) (off29_eq 0 c)) $$ HS [Hcz1f] [Hjz1f]
  · iexact Hcz1f
  · iexact Hjz1f
  iintro HS
  iapply (sd_gz true 0 ⟨rfl, rfl⟩ 3 3 rfl rfl (dev27_eq c) (off30_eq 0 c)) $$ HS [Hcz3t] [Hjz3t]
  · iexact Hcz3t
  · iexact Hjz3t
  iintro HS
  iapply ret_wp
  iapply Hk $$ HS

/-- Part 29 waits for step 0 of the gather along `z`, left half; starts step 1 of the gather along `z`, left half; waits for step 0 of the gather along `z`, right half; starts step 1 of the gather along `z`, right half. -/
theorem part29_spec {c : D} (v67 v69 : BitVec 32) {Q : PUnit → sProp 𝕄} :
    St m ρ K 5 22 20 0 c ⊢ iprop((St m ρ K 5 24 22 0 c -∗ Ck c 1 0 false fullShare.right (fin m ρ) -∗ Ck c 3 0 true fullShare.right (fin m ρ) -∗ Q ⟨⟩)
      -∗ WP c (at0 (k0_part29 (F := F)) c v67 v69) Q) := by
  iintro HS  Hk
  unfold at0
  rw [k0_part29_eq_skeleton]
  unfold k0_part29_skel
  simp only [semSignalWord, semWaitWord, Prog.lift, Prog.bind_op, Prog.bind_ret, Prog.pure_eq_ret, wp_deviceId, sem15 1 (by decide), sem16 0 (by decide), sem16 1 (by decide), sem17 1 (by decide), sem18 0 (by decide), sem18 1 (by decide)]
  iapply (wt_gz' false 0 ⟨rfl, rfl⟩ (by decide +kernel) 1 0 rfl rfl) $$ HS
  iintro HS Hcz0f Hcr0f Hjz0f
  iapply (sd_gz false 1 ⟨rfl, rfl⟩ 1 0 rfl rfl (dev28_eq c) (off29_eq 1 c)) $$ HS [Hcz0f] [Hjz0f]
  · iexact Hcz0f
  · iexact Hjz0f
  iintro HS
  iapply (wt_gz' true 0 ⟨rfl, rfl⟩ (by decide +kernel) 3 0 rfl rfl) $$ HS
  iintro HS Hcz0t Hcr0t Hjz0t
  iapply (sd_gz true 1 ⟨rfl, rfl⟩ 3 0 rfl rfl (dev29_eq c) (off30_eq 1 c)) $$ HS [Hcz0t] [Hjz0t]
  · iexact Hcz0t
  · iexact Hjz0t
  iintro HS
  iapply ret_wp
  iapply Hk $$ HS [Hcr0f] [Hcr0t]
  · iexact Hcr0f
  · iexact Hcr0t

/-- Part 30 waits for step 1 of the gather along `z`, left half; starts step 2 of the gather along `z`, left half; waits for step 1 of the gather along `z`, right half; starts step 2 of the gather along `z`, right half; waits for step 2 of the gather along `z`, left half. -/
theorem part30_spec {c : D} (v67 v69 : BitVec 32) {Q : PUnit → sProp 𝕄} :
    St m ρ K 5 24 22 0 c ⊢ iprop((St m ρ K 5 26 25 0 c -∗ Ck c 1 3 false fullShare.right (fin m ρ) -∗ Ck c 3 1 true fullShare.right (fin m ρ) -∗ Ck c 1 2 false qz (fin m ρ) -∗ Ck c 1 2 false fullShare.right (fin m ρ) -∗ Q ⟨⟩)
      -∗ WP c (at0 (k0_part30 (F := F)) c v67 v69) Q) := by
  iintro HS  Hk
  unfold at0
  rw [k0_part30_eq_skeleton]
  unfold k0_part30_skel
  simp only [semSignalWord, semWaitWord, Prog.lift, Prog.bind_op, Prog.bind_ret, Prog.pure_eq_ret, wp_deviceId, sem15 2 (by decide), sem16 1 (by decide), sem16 2 (by decide), sem17 2 (by decide), sem18 1 (by decide), sem18 2 (by decide)]
  iapply (wt_gz' false 1 ⟨rfl, rfl⟩ (by decide +kernel) 1 3 rfl rfl) $$ HS
  iintro HS Hcz3f Hcr3f Hjz3f
  iapply (sd_gz false 2 ⟨rfl, rfl⟩ 1 3 rfl rfl (dev30_eq c) (off29_eq 2 c)) $$ HS [Hcz3f] [Hjz3f]
  · iexact Hcz3f
  · iexact Hjz3f
  iintro HS
  iapply (wt_gz' true 1 ⟨rfl, rfl⟩ (by decide +kernel) 3 1 rfl rfl) $$ HS
  iintro HS Hcz1t Hcr1t Hjz1t
  iapply (sd_gz true 2 ⟨rfl, rfl⟩ 3 1 rfl rfl (dev31_eq c) (off30_eq 2 c)) $$ HS [Hcz1t] [Hjz1t]
  · iexact Hcz1t
  · iexact Hjz1t
  iintro HS
  iapply (wt_gz' false 2 ⟨rfl, rfl⟩ (by decide +kernel) 1 2 rfl rfl) $$ HS
  iintro HS Hcz2f Hcr2f -
  iapply ret_wp
  iapply Hk $$ HS [Hcr3f] [Hcr1t] [Hcz2f] [Hcr2f]
  · iexact Hcr3f
  · iexact Hcr1t
  · iexact Hcz2f
  · iexact Hcr2f

/-- Part 31 waits for step 2 of the gather along `z`, right half; starts step 0 of the gather along `y`, left half. -/
theorem part31_spec {c : D} (v37 v55 v65 v69 v70 : BitVec 32) {Q : PUnit → sProp 𝕄} :
    St m ρ K 5 26 25 0 c ⊢ iprop(B c 1 false qy (fin m ρ) -∗ JY (F := F) c true 1 false 3
      -∗ (St m ρ K 5 27 26 0 c -∗ Ck c 3 2 true qz (fin m ρ) -∗ Ck c 3 2 true fullShare.right (fin m ρ) -∗ Q ⟨⟩)
      -∗ WP c (at0 (k0_part31 (F := F)) c v37 v55 v65 v69 v70) Q) := by
  iintro HS Hby1f Hjy1f Hk
  unfold at0
  rw [k0_part31_eq_skeleton]
  unfold k0_part31_skel
  simp only [semSignalWord, semWaitWord, Prog.lift, Prog.bind_op, Prog.bind_ret, Prog.pure_eq_ret, wp_deviceId, sem18 2 (by decide), sem19 0 (by decide), sem20 0 (by decide)]
  iapply (wt_gz' true 2 ⟨rfl, rfl⟩ (by decide +kernel) 3 2 rfl rfl) $$ HS
  iintro HS Hcz2t Hcr2t -
  iapply (sd_gy false 0 ⟨rfl, rfl⟩ 1 rfl (dev32_eq c) (off31_eq 0 c)) $$ HS [Hby1f] [Hjy1f]
  · iexact Hby1f
  · iexact Hjy1f
  iintro HS
  iapply ret_wp
  iapply Hk $$ HS [Hcz2t] [Hcr2t]
  · iexact Hcz2t
  · iexact Hcr2t

/-- Part 32 starts step 0 of the gather along `y`, right half; waits for step 0 of the gather along `y`, left half; waits for step 0 of the gather along `y`, right half; starts copy 0 of the gather along `x`. -/
theorem part32_spec {c : D} (v37 v45 v55 v65 v70 : BitVec 32) {Q : (BitVec 32) → sProp 𝕄} :
    St m ρ K 5 27 26 0 c ⊢ iprop(B c 3 true qy (fin m ρ) -∗ JY (F := F) c false 3 true 3 -∗ OB (F := F) c 0 false -∗ OB (F := F) c 0 true
      -∗ (∀ r, St m ρ K 5 29 28 0 c -∗ B c 0 false qz (fin m ρ) -∗ B c 0 false qy (fin m ρ) -∗ JY (F := F) c true 0 false 2 -∗ B c 0 true qz (fin m ρ) -∗ B c 0 true qy (fin m ρ) -∗ JY (F := F) c false 0 true 2 -∗ Q r)
      -∗ WP c (at0 (k0_part32 (F := F)) c v37 v45 v55 v65 v70) Q) := by
  iintro HS Hby3t Hjy3t Hox0f Hox0t Hk
  unfold at0
  rw [k0_part32_eq_skeleton]
  unfold k0_part32_skel
  simp only [semSignalWord, semWaitWord, Prog.lift, Prog.bind_op, Prog.bind_ret, Prog.pure_eq_ret, wp_deviceId, sem20 0 (by decide), sem21 0 (by decide), sem22 0 (by decide), sem23 0 (by decide), sem24 0 (by decide)]
  iapply (sd_gy true 0 ⟨rfl, rfl⟩ 3 rfl (dev33_eq c) (off32_eq 0 c)) $$ HS [Hby3t] [Hjy3t]
  · iexact Hby3t
  · iexact Hjy3t
  iintro HS
  iapply (wt_gy' false 0 ⟨rfl, rfl⟩ (by decide +kernel) 0 rfl) $$ HS
  iintro HS Hbz0f Hby0f Hbx0f Hjy0f
  iapply (wt_gy' true 0 ⟨rfl, rfl⟩ (by decide +kernel) 0 rfl) $$ HS
  iintro HS Hbz0t Hby0t Hbx0t Hjy0t
  iapply (sd_gx' 0 ⟨rfl, rfl⟩ 0 rfl (dev34_eq c) (off33_eq c)) $$ HS [Hbx0f] [Hbx0t] [Hox0f] [Hox0t]
  · iexact Hbx0f
  · iexact Hbx0t
  · iexact Hox0f
  · iexact Hox0t
  iintro HS
  iapply ret_wp
  iapply Hk $$ HS [Hbz0f] [Hby0f] [Hjy0f] [Hbz0t] [Hby0t] [Hjy0t]
  · iexact Hbz0f
  · iexact Hby0f
  · iexact Hjy0f
  · iexact Hbz0t
  · iexact Hby0t
  · iexact Hjy0t

/-- Part 33 starts step 1 of the gather along `y`, left half; starts step 1 of the gather along `y`, right half; waits for step 1 of the gather along `y`, left half. -/
theorem part33_spec {c : D} (v37 v55 v65 v70 c1_i32_782 : BitVec 32) {Q : PUnit → sProp 𝕄} :
    St m ρ K 5 29 28 0 c ⊢ iprop(B c 0 false qy (fin m ρ) -∗ JY (F := F) c true 0 false 2 -∗ B c 0 true qy (fin m ρ) -∗ JY (F := F) c false 0 true 2
      -∗ (St m ρ K 5 31 29 0 c -∗ B c 3 false qz (fin m ρ) -∗ B c 3 false qy (fin m ρ) -∗ B c 3 false qx (fin m ρ) -∗ JY (F := F) c true 3 false 1 -∗ Q ⟨⟩)
      -∗ WP c (at0 (k0_part33 (F := F)) c v37 v55 v65 v70 c1_i32_782) Q) := by
  iintro HS Hby0f Hjy0f Hby0t Hjy0t Hk
  unfold at0
  rw [k0_part33_eq_skeleton]
  unfold k0_part33_skel
  simp only [semSignalWord, semWaitWord, Prog.lift, Prog.bind_op, Prog.bind_ret, Prog.pure_eq_ret, wp_deviceId, sem19 1 (by decide), sem20 1 (by decide), sem21 1 (by decide), sem22 1 (by decide)]
  iapply (sd_gy false 1 ⟨rfl, rfl⟩ 0 rfl (dev35_eq c) (off31_eq 1 c)) $$ HS [Hby0f] [Hjy0f]
  · iexact Hby0f
  · iexact Hjy0f
  iintro HS
  iapply (sd_gy true 1 ⟨rfl, rfl⟩ 0 rfl (dev36_eq c) (off32_eq 1 c)) $$ HS [Hby0t] [Hjy0t]
  · iexact Hby0t
  · iexact Hjy0t
  iintro HS
  iapply (wt_gy' false 1 ⟨rfl, rfl⟩ (by decide +kernel) 3 rfl) $$ HS
  iintro HS Hbz3f Hby3f Hbx3f Hjy3f
  iapply ret_wp
  iapply Hk $$ HS [Hbz3f] [Hby3f] [Hbx3f] [Hjy3f]
  · iexact Hbz3f
  · iexact Hby3f
  · iexact Hbx3f
  · iexact Hjy3f

/-- Part 34 waits for step 1 of the gather along `y`, right half; starts copy 1 of the gather along `x`; starts copy 2 of the gather along `x`. -/
theorem part34_spec {c : D} (v37 v45 v70 : BitVec 32) {Q : PUnit → sProp 𝕄} :
    St m ρ K 5 31 29 0 c ⊢ iprop(B c 1 false qx (fin m ρ) -∗ OB (F := F) c 1 false -∗ OB (F := F) c 1 true -∗ B c 3 false qx (fin m ρ) -∗ B c 3 true qx (fin m ρ) -∗ OB (F := F) c 3 false -∗ OB (F := F) c 3 true
      -∗ (St m ρ K 5 33 30 0 c -∗ B c 1 true qz (fin m ρ) -∗ B c 1 true qy (fin m ρ) -∗ JY (F := F) c false 1 true 1 -∗ Q ⟨⟩)
      -∗ WP c (at0 (k0_part34 (F := F)) c v37 v45 v70) Q) := by
  iintro HS Hbx1f Hox1f Hox1t Hbx3f Hbx3t Hox3f Hox3t Hk
  unfold at0
  rw [k0_part34_eq_skeleton]
  unfold k0_part34_skel
  simp only [semSignalWord, semWaitWord, Prog.lift, Prog.bind_op, Prog.bind_ret, Prog.pure_eq_ret, wp_deviceId, sem22 1 (by decide), sem23 1 (by decide), sem23 2 (by decide), sem24 1 (by decide), sem24 2 (by decide)]
  iapply (wt_gy' true 1 ⟨rfl, rfl⟩ (by decide +kernel) 1 rfl) $$ HS
  iintro HS Hbz1t Hby1t Hbx1t Hjy1t
  iapply (sd_gx' 1 ⟨rfl, rfl⟩ 1 rfl (dev37_eq c) (off34_eq 0 c)) $$ HS [Hbx1f] [Hbx1t] [Hox1f] [Hox1t]
  · iexact Hbx1f
  · iexact Hbx1t
  · iexact Hox1f
  · iexact Hox1t
  iintro HS
  iapply (sd_gx' 2 ⟨rfl, rfl⟩ 3 rfl (dev38_eq c) (off34_eq 2 c)) $$ HS [Hbx3f] [Hbx3t] [Hox3f] [Hox3t]
  · iexact Hbx3f
  · iexact Hbx3t
  · iexact Hox3f
  · iexact Hox3t
  iintro HS
  iapply ret_wp
  iapply Hk $$ HS [Hbz1t] [Hby1t] [Hjy1t]
  · iexact Hbz1t
  · iexact Hby1t
  · iexact Hjy1t

/-- Part 35 starts step 2 of the gather along `y`, left half; starts step 2 of the gather along `y`, right half; waits for step 2 of the gather along `y`, left half; waits for step 2 of the gather along `y`, right half. -/
theorem part35_spec {c : D} (v55 v65 v70 v89 : BitVec 32) {Q : (BitVec 32) → sProp 𝕄} :
    St m ρ K 5 33 30 0 c ⊢ iprop(B c 3 false qy (fin m ρ) -∗ JY (F := F) c true 3 false 1 -∗ B c 1 true qy (fin m ρ) -∗ JY (F := F) c false 1 true 1
      -∗ (∀ r, St m ρ K 5 35 32 0 c -∗ B c 2 false qz (fin m ρ) -∗ B c 2 false qy (fin m ρ) -∗ B c 2 false qx (fin m ρ) -∗ B c 2 true qz (fin m ρ) -∗ B c 2 true qy (fin m ρ) -∗ B c 2 true qx (fin m ρ) -∗ Q r)
      -∗ WP c (at0 (k0_part35 (F := F)) c v55 v65 v70 v89) Q) := by
  iintro HS Hby3f Hjy3f Hby1t Hjy1t Hk
  unfold at0
  rw [k0_part35_eq_skeleton]
  unfold k0_part35_skel
  simp only [semSignalWord, semWaitWord, Prog.lift, Prog.bind_op, Prog.bind_ret, Prog.pure_eq_ret, wp_deviceId, sem19 2 (by decide), sem20 2 (by decide), sem21 2 (by decide), sem22 2 (by decide)]
  iapply (sd_gy false 2 ⟨rfl, rfl⟩ 3 rfl (dev39_eq c) (off31_eq 2 c)) $$ HS [Hby3f] [Hjy3f]
  · iexact Hby3f
  · iexact Hjy3f
  iintro HS
  iapply (sd_gy true 2 ⟨rfl, rfl⟩ 1 rfl (dev40_eq c) (off32_eq 2 c)) $$ HS [Hby1t] [Hjy1t]
  · iexact Hby1t
  · iexact Hjy1t
  iintro HS
  iapply (wt_gy' false 2 ⟨rfl, rfl⟩ (by decide +kernel) 2 rfl) $$ HS
  iintro HS Hbz2f Hby2f Hbx2f -
  iapply (wt_gy' true 2 ⟨rfl, rfl⟩ (by decide +kernel) 2 rfl) $$ HS
  iintro HS Hbz2t Hby2t Hbx2t -
  iapply ret_wp
  iapply Hk $$ HS [Hbz2f] [Hby2f] [Hbx2f] [Hbz2t] [Hby2t] [Hbx2t]
  · iexact Hbz2f
  · iexact Hby2f
  · iexact Hbx2f
  · iexact Hbz2t
  · iexact Hby2t
  · iexact Hbx2t

/-- Part 36 starts copy 3 of the gather along `x`; waits for copy 0 of the gather along `x`; waits for copy 1 of the gather along `x`; waits for copy 2 of the gather along `x`. -/
theorem part36_spec {c : D} (v45 c1_i32_860 : BitVec 32) {Q : PUnit → sProp 𝕄} :
    St m ρ K 5 35 32 0 c ⊢ iprop(B c 2 false qx (fin m ρ) -∗ B c 2 true qx (fin m ρ) -∗ OB (F := F) c 2 false -∗ OB (F := F) c 2 true
      -∗ (St m ρ K 5 36 35 0 c -∗ O (Row (xc c + 1) (yc c + 0)) fullShare (fin m ρ) c -∗ O (Row (xc c + 1) (yc c + 1)) fullShare (fin m ρ) c -∗ O (Row (xc c + 1) (yc c + 3)) fullShare (fin m ρ) c -∗ Q ⟨⟩)
      -∗ WP c (at0 (k0_part36 (F := F)) c v45 c1_i32_860) Q) := by
  iintro HS Hbx2f Hbx2t Hox2f Hox2t Hk
  unfold at0
  rw [k0_part36_eq_skeleton]
  unfold k0_part36_skel
  simp only [semSignalWord, semWaitWord, Prog.lift, Prog.bind_op, Prog.bind_ret, Prog.pure_eq_ret, wp_deviceId, sem23 3 (by decide), sem24 0 (by decide), sem24 1 (by decide), sem24 2 (by decide), sem24 3 (by decide)]
  iapply (sd_gx' 3 ⟨rfl, rfl⟩ 2 rfl (dev41_eq c) (off34_eq 1 c)) $$ HS [Hbx2f] [Hbx2t] [Hox2f] [Hox2t]
  · iexact Hbx2f
  · iexact Hbx2t
  · iexact Hox2f
  · iexact Hox2t
  iintro HS
  iapply (wt_gx 0 ⟨rfl, rfl⟩ (by decide +kernel) 0 rfl) $$ HS
  iintro HS Hrr0
  iapply (wt_gx 1 ⟨rfl, rfl⟩ (by decide +kernel) 1 rfl) $$ HS
  iintro HS Hrr1
  iapply (wt_gx 2 ⟨rfl, rfl⟩ (by decide +kernel) 3 rfl) $$ HS
  iintro HS Hrr3
  iapply ret_wp
  iapply Hk $$ HS [Hrr0] [Hrr1] [Hrr3]
  · iexact Hrr0
  · iexact Hrr1
  · iexact Hrr3

/-- Part 37 waits for copy 3 of the gather along `x`; waits for the departure of copy 0 of the exchange along `x`; waits for the departure of copy 1 of the exchange along `x`; waits for the departure of copy 2 of the exchange along `x`; waits for the departure of copy 3 of the exchange along `x`; waits for the departure of copy 4 of the exchange along `x`. -/
theorem part37_spec {c : D}  {Q : PUnit → sProp 𝕄} :
    St m ρ K 5 36 35 0 c ⊢ iprop((St m ρ K 5 36 36 5 c -∗ O (Row (xc c + 1) (yc c + 2)) fullShare (fin m ρ) c -∗ Q ⟨⟩)
      -∗ WP c (at0 (k0_part37 (F := F)) c) Q) := by
  iintro HS  Hk
  unfold at0
  rw [k0_part37_eq_skeleton]
  unfold k0_part37_skel
  simp only [semSignalWord, semWaitWord, Prog.lift, Prog.bind_op, Prog.bind_ret, Prog.pure_eq_ret, wp_deviceId, sem5 0 (by decide), sem5 1 (by decide), sem5 2 (by decide), sem5 3 (by decide), sem5 4 (by decide), sem24 3 (by decide)]
  iapply (wt_gx 3 ⟨rfl, rfl⟩ (by decide +kernel) 2 rfl) $$ HS
  iintro HS Hrr2
  iapply (dp_r (.rx 0) ⟨rfl, rfl⟩ rfl rfl) $$ HS
  iintro HS
  iapply (dp_r (.rx 1) ⟨rfl, rfl⟩ rfl rfl) $$ HS
  iintro HS
  iapply (dp_r (.rx 2) ⟨rfl, rfl⟩ rfl rfl) $$ HS
  iintro HS
  iapply (dp_r (.rx 3) ⟨rfl, rfl⟩ rfl rfl) $$ HS
  iintro HS
  iapply (dp_r (.rx 4) ⟨rfl, rfl⟩ rfl rfl) $$ HS
  iintro HS
  iapply ret_wp
  iapply Hk $$ HS [Hrr2]
  · iexact Hrr2

/-- Part 38 waits for the departure of copy 5 of the exchange along `x`; waits for the departure of copy 6 of the exchange along `x`; waits for the departure of copy 7 of the exchange along `x`; waits for the departure of step 0 of the reduction ring along `y`, left half; waits for the departure of step 0 of the reduction ring along `y`, right half. -/
theorem part38_spec {c : D}  {Q : PUnit → sProp 𝕄} :
    St m ρ K 5 36 36 5 c ⊢ iprop((St m ρ K 5 36 36 10 c -∗ Q ⟨⟩)
      -∗ WP c (at0 (k0_part38 (F := F)) c) Q) := by
  iintro HS  Hk
  unfold at0
  rw [k0_part38_eq_skeleton]
  unfold k0_part38_skel
  simp only [semSignalWord, semWaitWord, Prog.lift, Prog.bind_op, Prog.bind_ret, Prog.pure_eq_ret, wp_deviceId, sem5 5 (by decide), sem5 6 (by decide), sem5 7 (by decide), sem7 0 (by decide), sem9 0 (by decide)]
  iapply (dp_r (.rx 5) ⟨rfl, rfl⟩ rfl rfl) $$ HS
  iintro HS
  iapply (dp_r (.rx 6) ⟨rfl, rfl⟩ rfl rfl) $$ HS
  iintro HS
  iapply (dp_r (.rx 7) ⟨rfl, rfl⟩ rfl rfl) $$ HS
  iintro HS
  iapply (dp_r (.ry false 0) ⟨rfl, rfl⟩ rfl rfl) $$ HS
  iintro HS
  iapply (dp_r (.ry true 0) ⟨rfl, rfl⟩ rfl rfl) $$ HS
  iintro HS
  iapply ret_wp
  iapply Hk $$ HS

/-- Part 39 waits for the departure of step 1 of the reduction ring along `y`, left half; waits for the departure of step 1 of the reduction ring along `y`, right half; waits for the departure of step 2 of the reduction ring along `y`, left half; waits for the departure of step 2 of the reduction ring along `y`, right half; waits for the departure of step 0 of the reduction ring along `z`, left half. -/
theorem part39_spec {c : D}  {Q : PUnit → sProp 𝕄} :
    St m ρ K 5 36 36 10 c ⊢ iprop((St m ρ K 5 36 36 15 c -∗ Q ⟨⟩)
      -∗ WP c (at0 (k0_part39 (F := F)) c) Q) := by
  iintro HS  Hk
  unfold at0
  rw [k0_part39_eq_skeleton]
  unfold k0_part39_skel
  simp only [semSignalWord, semWaitWord, Prog.lift, Prog.bind_op, Prog.bind_ret, Prog.pure_eq_ret, wp_deviceId, sem7 1 (by decide), sem7 2 (by decide), sem9 1 (by decide), sem9 2 (by decide), sem11 0 (by decide)]
  iapply (dp_r (.ry false 1) ⟨rfl, rfl⟩ rfl rfl) $$ HS
  iintro HS
  iapply (dp_r (.ry true 1) ⟨rfl, rfl⟩ rfl rfl) $$ HS
  iintro HS
  iapply (dp_r (.ry false 2) ⟨rfl, rfl⟩ rfl rfl) $$ HS
  iintro HS
  iapply (dp_r (.ry true 2) ⟨rfl, rfl⟩ rfl rfl) $$ HS
  iintro HS
  iapply (dp_r (.rz false 0) ⟨rfl, rfl⟩ rfl rfl) $$ HS
  iintro HS
  iapply ret_wp
  iapply Hk $$ HS

/-- Part 40 waits for the departure of step 0 of the reduction ring along `z`, right half; waits for the departure of step 1 of the reduction ring along `z`, left half; waits for the departure of step 1 of the reduction ring along `z`, right half; waits for the departure of step 2 of the reduction ring along `z`, left half; waits for the departure of step 2 of the reduction ring along `z`, right half. -/
theorem part40_spec {c : D}  {Q : PUnit → sProp 𝕄} :
    St m ρ K 5 36 36 15 c ⊢ iprop((St m ρ K 5 36 36 20 c -∗ Q ⟨⟩)
      -∗ WP c (at0 (k0_part40 (F := F)) c) Q) := by
  iintro HS  Hk
  unfold at0
  rw [k0_part40_eq_skeleton]
  unfold k0_part40_skel
  simp only [semSignalWord, semWaitWord, Prog.lift, Prog.bind_op, Prog.bind_ret, Prog.pure_eq_ret, wp_deviceId, sem11 1 (by decide), sem11 2 (by decide), sem13 0 (by decide), sem13 1 (by decide), sem13 2 (by decide)]
  iapply (dp_r (.rz true 0) ⟨rfl, rfl⟩ rfl rfl) $$ HS
  iintro HS
  iapply (dp_r (.rz false 1) ⟨rfl, rfl⟩ rfl rfl) $$ HS
  iintro HS
  iapply (dp_r (.rz true 1) ⟨rfl, rfl⟩ rfl rfl) $$ HS
  iintro HS
  iapply (dp_r (.rz false 2) ⟨rfl, rfl⟩ rfl rfl) $$ HS
  iintro HS
  iapply (dp_r (.rz true 2) ⟨rfl, rfl⟩ rfl rfl) $$ HS
  iintro HS
  iapply ret_wp
  iapply Hk $$ HS

/-- Part 41 waits for the departure of step 0 of the gather along `z`, left half; waits for the departure of step 0 of the gather along `z`, right half; waits for the departure of step 1 of the gather along `z`, left half; waits for the departure of step 1 of the gather along `z`, right half; waits for the departure of step 2 of the gather along `z`, left half; waits for the departure of step 2 of the gather along `z`, right half. -/
theorem part41_spec {c : D}  {Q : PUnit → sProp 𝕄} :
    St m ρ K 5 36 36 20 c ⊢ iprop((St m ρ K 5 36 36 26 c -∗ Ck c 1 1 false qz (fin m ρ) -∗ Ck c 3 3 true qz (fin m ρ) -∗ Ck c 1 0 false qz (fin m ρ) -∗ Ck c 3 0 true qz (fin m ρ) -∗ Ck c 1 3 false qz (fin m ρ) -∗ Ck c 3 1 true qz (fin m ρ) -∗ Q ⟨⟩)
      -∗ WP c (at0 (k0_part41 (F := F)) c) Q) := by
  iintro HS  Hk
  unfold at0
  rw [k0_part41_eq_skeleton]
  unfold k0_part41_skel
  simp only [semSignalWord, semWaitWord, Prog.lift, Prog.bind_op, Prog.bind_ret, Prog.pure_eq_ret, wp_deviceId, sem15 0 (by decide), sem15 1 (by decide), sem15 2 (by decide), sem17 0 (by decide), sem17 1 (by decide), sem17 2 (by decide)]
  iapply (dp_g (.gz false 0) ⟨rfl, rfl⟩ rfl rfl) $$ HS
  iintro HS Hcz1f
  iapply (dp_g (.gz true 0) ⟨rfl, rfl⟩ rfl rfl) $$ HS
  iintro HS Hcz3t
  iapply (dp_g (.gz false 1) ⟨rfl, rfl⟩ rfl rfl) $$ HS
  iintro HS Hcz0f
  iapply (dp_g (.gz true 1) ⟨rfl, rfl⟩ rfl rfl) $$ HS
  iintro HS Hcz0t
  iapply (dp_g (.gz false 2) ⟨rfl, rfl⟩ rfl rfl) $$ HS
  iintro HS Hcz3f
  iapply (dp_g (.gz true 2) ⟨rfl, rfl⟩ rfl rfl) $$ HS
  iintro HS Hcz1t
  iapply ret_wp
  iapply Hk $$ HS [Hcz1f] [Hcz3t] [Hcz0f] [Hcz0t] [Hcz3f] [Hcz1t]
  · iexact Hcz1f
  · iexact Hcz3t
  · iexact Hcz0f
  · iexact Hcz0t
  · iexact Hcz3f
  · iexact Hcz1t

/-- Part 42 waits for the departure of step 0 of the gather along `y`, left half; waits for the departure of step 0 of the gather along `y`, right half; waits for the departure of copy 0 of the gather along `x`; waits for the departure of step 1 of the gather along `y`, left half; waits for the departure of step 1 of the gather along `y`, right half; waits for the departure of copy 1 of the gather along `x`. -/
theorem part42_spec {c : D}  {Q : PUnit → sProp 𝕄} :
    St m ρ K 5 36 36 26 c ⊢ iprop((St m ρ K 5 36 36 32 c -∗ B c 1 false qy (fin m ρ) -∗ B c 3 true qy (fin m ρ) -∗ O (Row (xc c) (yc c + 0)) qx (fin m ρ) c -∗ B c 0 false qy (fin m ρ) -∗ B c 0 true qy (fin m ρ) -∗ O (Row (xc c) (yc c + 1)) qx (fin m ρ) c -∗ Q ⟨⟩)
      -∗ WP c (at0 (k0_part42 (F := F)) c) Q) := by
  iintro HS  Hk
  unfold at0
  rw [k0_part42_eq_skeleton]
  unfold k0_part42_skel
  simp only [semSignalWord, semWaitWord, Prog.lift, Prog.bind_op, Prog.bind_ret, Prog.pure_eq_ret, wp_deviceId, sem19 0 (by decide), sem19 1 (by decide), sem21 0 (by decide), sem21 1 (by decide), sem23 0 (by decide), sem23 1 (by decide)]
  iapply (dp_g (.gy false 0) ⟨rfl, rfl⟩ rfl rfl) $$ HS
  iintro HS Hby1f
  iapply (dp_g (.gy true 0) ⟨rfl, rfl⟩ rfl rfl) $$ HS
  iintro HS Hby3t
  iapply (dp_g (.gx 0) ⟨rfl, rfl⟩ rfl rfl) $$ HS
  iintro HS Hrx0
  iapply (dp_g (.gy false 1) ⟨rfl, rfl⟩ rfl rfl) $$ HS
  iintro HS Hby0f
  iapply (dp_g (.gy true 1) ⟨rfl, rfl⟩ rfl rfl) $$ HS
  iintro HS Hby0t
  iapply (dp_g (.gx 1) ⟨rfl, rfl⟩ rfl rfl) $$ HS
  iintro HS Hrx1
  iapply ret_wp
  iapply Hk $$ HS [Hby1f] [Hby3t] [Hrx0] [Hby0f] [Hby0t] [Hrx1]
  · iexact Hby1f
  · iexact Hby3t
  · iexact Hrx0
  · iexact Hby0f
  · iexact Hby0t
  · iexact Hrx1

end Cert.AllReduce

end
-- ==== Proof.Body.lean ====
module

public import proofs.«01_k».proof.Proof.Parts

/-!
The whole body: its parts one after the other, with the regions cut and joined between them.
-/

@[expose] public section

set_option maxRecDepth 20000

noncomputable section

namespace Cert.AllReduce

open Cert.KernelIdeal Cert.KernelIdeal.Gen
open Idealize.ShloMosaic
open Idealize.ShloMosaic.TcCoe
open Idealize.ShloMosaic.RefSig (tileCredit tileCredit_pos)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg} {K : D × CI → ℕ}
/-- A program after another. -/
theorem seq_wp {α β : Type} {c : D} {p : Prog (TpuEff nD τ sig (Elt F) Λ₀ .tc) β} {k : β → Prog (TpuEff nD τ sig (Elt F) Λ₀ .tc) α} {Q : α → sProp 𝕄} :
    WP c p (fun a => WP c (k a) Q) ⊢ WP c (p >>= k) Q :=
  BIBase.Entails.of_eq (wp_bind _ _ _ p k Q).symm

/-- A device's own landing buffers are what its five signals hand over. -/
theorem own_0 (c : D) : barPay (F := F) 0 (bt 0 c) = C4any Finset.univ c := by
  rw [bar_0, show xp (bt 0 c) = c from xp_xp c]
/-- A device's own landing buffer of the ring along `y`, left half, is what its signal hands over. -/
theorem own_1 (c : D) : barPay (F := F) 1 (bt 1 c) = Cyany false Finset.univ c := by
  rw [bar_1, show dy false (bt 1 c) = c from dy_back false c]
/-- A device's own landing buffer of the ring along `y`, right half, is what its signal hands over. -/
theorem own_2 (c : D) : barPay (F := F) 2 (bt 2 c) = Cyany true Finset.univ c := by
  rw [bar_2, show dy true (bt 2 c) = c from dy_back true c]
/-- A device's own landing buffer of the ring along `z`, left half, is what its signal hands over. -/
theorem own_3 (c : D) : barPay (F := F) 3 (bt 3 c) = Czany false Finset.univ c := by
  rw [bar_3, show dz false (bt 3 c) = c from dz_back false c]
/-- A device's own landing buffer of the ring along `z`, right half, is what its signal hands over. -/
theorem own_4 (c : D) : barPay (F := F) 4 (bt 4 c) = Czany true Finset.univ c := by
  rw [bar_4, show dz true (bt 4 c) = c from dz_back true c]

set_option maxHeartbeats 4000000 in
/-- All parts one after the other. -/
theorem part43_spec {c : D} {Q : D → sProp 𝕄} :
    St m ρ K 0 0 0 0 c ⊢ iprop(XW m ρ c -∗ Oany (F := F) Finset.univ c -∗ cred (tallyAt (barCell c) () 5) -∗ atPos ER (barCell c) 0 ∅ 0 -∗ C4any (F := F) Finset.univ c -∗ Cyany (F := F) false Finset.univ c -∗ Cyany (F := F) true Finset.univ c -∗ Czany (F := F) false Finset.univ c -∗ Czany (F := F) true Finset.univ c
      -∗ (St m ρ K 5 36 36 33 c -∗ semVal (barCell c) 0 -∗ A4 (F := F) c 0 false c -∗ A4 (F := F) c 0 true c -∗ A4 (F := F) c 3 false c -∗ Sl (F := F) false 0 c -∗ A4 (F := F) c 1 true c -∗ Sl (F := F) true 0 c -∗ XW m ρ c -∗ A4 (F := F) c 2 false c -∗ Sl (F := F) false 1 c -∗ A4 (F := F) c 2 true c -∗ Sl (F := F) true 1 c -∗ Sl (F := F) false 2 c -∗ A4 (F := F) c 1 false c -∗ Sl (F := F) true 2 c -∗ A4 (F := F) c 3 true c -∗ Sz (F := F) false 0 c -∗ Sz (F := F) true 0 c -∗ Sz (F := F) false 1 c -∗ Sz (F := F) true 1 c -∗ Sz (F := F) false 2 c -∗ Sz (F := F) true 2 c -∗ Ck c 1 2 false qz (fin m ρ) -∗ Ck c 3 2 true qz (fin m ρ) -∗ B c 0 false qz (fin m ρ) -∗ B c 0 true qz (fin m ρ) -∗ B c 3 false qz (fin m ρ) -∗ B c 1 true qz (fin m ρ) -∗ B c 2 false qz (fin m ρ) -∗ B c 2 false qy (fin m ρ) -∗ B c 2 true qz (fin m ρ) -∗ B c 2 true qy (fin m ρ) -∗ O (Row (xc c + 1) (yc c + 0)) fullShare (fin m ρ) c -∗ O (Row (xc c + 1) (yc c + 1)) fullShare (fin m ρ) c -∗ O (Row (xc c + 1) (yc c + 3)) fullShare (fin m ρ) c -∗ O (Row (xc c + 1) (yc c + 2)) fullShare (fin m ρ) c -∗ Ck c 1 1 false qz (fin m ρ) -∗ Ck c 3 3 true qz (fin m ρ) -∗ Ck c 1 0 false qz (fin m ρ) -∗ Ck c 3 0 true qz (fin m ρ) -∗ Ck c 1 3 false qz (fin m ρ) -∗ Ck c 3 1 true qz (fin m ρ) -∗ B c 1 false qy (fin m ρ) -∗ B c 3 true qy (fin m ρ) -∗ O (Row (xc c) (yc c + 0)) qx (fin m ρ) c -∗ B c 0 false qy (fin m ρ) -∗ B c 0 true qy (fin m ρ) -∗ O (Row (xc c) (yc c + 1)) qx (fin m ρ) c -∗ O (Row (xc c) (yc c + 3)) qx (fin m ρ) c -∗ Q c)
      -∗ WP c (at0 (k0_part43 (F := F))) Q) := by
  iintro HS HXW HO Hcr Hat HA HY0 HY1 HZ0 HZ1 Hk
  unfold at0
  rw [k0_part43_eq_skeleton]
  unfold k0_part43_skel
  ihave Hx := oany_rows $$ [HO]
  · iexact HO
  icases Hx with ⟨⟨Hr00, Hr01, Hr02, Hr03⟩, Hr10, Hr11, Hr12, Hr13⟩
  ihave Hx := (BIBase.Entails.of_eq (own_0 (F := F) c).symm) $$ [HA]
  · iexact HA
  icases Hx with Hpay0
  ihave Hx := (BIBase.Entails.of_eq (own_1 (F := F) c).symm) $$ [HY0]
  · iexact HY0
  icases Hx with Hpay1
  ihave Hx := (BIBase.Entails.of_eq (own_2 (F := F) c).symm) $$ [HY1]
  · iexact HY1
  icases Hx with Hpay2
  ihave Hx := (BIBase.Entails.of_eq (own_3 (F := F) c).symm) $$ [HZ0]
  · iexact HZ0
  icases Hx with Hpay3
  ihave Hx := (BIBase.Entails.of_eq (own_4 (F := F) c).symm) $$ [HZ1]
  · iexact HZ1
  icases Hx with Hpay4
  iapply seq_wp
  iapply part1_spec
  iintro %a1 %a2 %a3 %a4 %a5
  iapply seq_wp
  iapply (part2_spec _ _ _ _ _)
  iintro %b1 %b2 %b3 %b4 %b5 %b6 %b7
  iapply seq_wp
  iapply (part3_spec _ _ _ _ _ _ _) $$ HS Hpay0 Hpay2 Hpay1 Hpay4 Hpay3 HXW
  iintro %a3 %b3 %e3 %d3 HS HXW
  iapply seq_wp
  iapply (part4_spec _ _ _ _ _) $$ HS Hr00 Hcr Hat HXW
  iintro %a4 HS Hsv Hq1 Hq2 Hq3 Hq4 Hax1f Hax1t Hax2f Hax2t Hax3f Hax3t HXW
  ihave Hx := ((BIBase.Entails.of_eq (bar_1 (F := F) c)).trans (cy_slots false)) $$ [Hq1]
  · iexact Hq1
  icases Hx with ⟨Hlyf0, Hlyf1, Hlyf2⟩
  ihave Hx := ((BIBase.Entails.of_eq (bar_2 (F := F) c)).trans (cy_slots true)) $$ [Hq2]
  · iexact Hq2
  icases Hx with ⟨Hlyt0, Hlyt1, Hlyt2⟩
  ihave Hx := ((BIBase.Entails.of_eq (bar_3 (F := F) c)).trans (cz_slots false)) $$ [Hq3]
  · iexact Hq3
  icases Hx with ⟨Hlzf0, Hlzf1, Hlzf2⟩
  ihave Hx := ((BIBase.Entails.of_eq (bar_4 (F := F) c)).trans (cz_slots true)) $$ [Hq4]
  · iexact Hq4
  icases Hx with ⟨Hlzt0, Hlzt1, Hlzt2⟩
  iapply seq_wp
  iapply (part5_spec _ _ _ _ _) $$ HS HXW Hr03 Hax3f
  iintro HS Hp3t HXW
  iapply seq_wp
  iapply (part6_spec _ _ _ _) $$ HS Hr01 Hax1t HXW Hr02
  iintro HS Hp1f HXW Hp2f Hp2t
  iapply seq_wp
  iapply (part7_spec _ _ _ _ _) $$ HS Hp2f Hax2f Hp2t Hax2t Hp1f Hax1f
  iintro HS
  iapply seq_wp
  iapply (part8_spec _ _) $$ HS Hp3t Hax3t
  iintro %r8 HS
  iapply seq_wp
  iapply (part9_spec _ _ _ _) $$ HS HXW Hr10
  iintro HS HXW Hb0t Hox0f Hb0f Ha0f
  iapply seq_wp
  iapply (part10_spec _ _ _ _ _) $$ HS Hb0t Hb0f Hlyf0 Hlyt0
  iintro %r10 HS Hox0t Ha0t
  iapply seq_wp
  iapply (part11_spec _ _ _ _ _) $$ HS HXW Hr13
  iintro %a11 %b11 HS HXW Hb3t Hox3f Hb3f Ha3f
  iapply seq_wp
  iapply (part12_spec _ _ _ _ _ _) $$ HS Hb3f Hlyf1 HXW
  iintro %a12 HS Hsyf0 HXW
  iapply seq_wp
  iapply (part13_spec _ _ _ _ _) $$ HS HXW Hr11
  iintro HS HXW Hb1f Hox1t Hb1t Ha1t
  iapply seq_wp
  iapply (part14_spec _ _ _ _) $$ HS Hb1t Hlyt1 HXW
  iintro %a14 HS Hsyt0 HXW
  iapply seq_wp
  iapply (part15_spec _ _ _ _ _ _) $$ HS HXW Hr12
  iintro %r15 HS HXW Hb2t Hox2f Hb2f Ha2f Hcyf1 Hjy2f
  iapply seq_wp
  iapply (part16_spec _ _ _ _ _) $$ HS Hb2f Hcyf1 Hlyf2 Hjy2f
  iintro %a16 %b16 HS Hsyf1 Hcx2t Hox2t
  iapply seq_wp
  iapply (part17_spec _ _ _ _ _) $$ HS Hb2t Hcx2t
  iintro HS Ha2t Hjy2t Hb2t Hsyt1
  iapply seq_wp
  iapply (part18_spec _ _ _ _) $$ HS Hb2t Hlyt2 Hjy2t Hb1f
  iintro HS Hjy1f Hb1f Hsyf2
  iapply seq_wp
  iapply (part19_spec _ _ _ _) $$ HS Hb1f Hb3t
  iintro HS Hox1f Hb1f Ha1f Hjy3t Hb3t Hsyt2
  iapply seq_wp
  iapply (part20_spec _ _ _ _ _) $$ HS Hb3t
  iintro %a20 %b20 HS Hox3t Hb3t Ha3t
  ihave Hx := (cut_chunks false 1) $$ [Hb1f]
  · iexact Hb1f
  icases Hx with ⟨Hc0f, Hc1f, Hc2f, Hc3f⟩
  ihave Hx := (jY_turn false _) $$ [Hjy1f]
  · iexact Hjy1f
  icases Hx with Hjy1f
  ihave Hx := (cut_chunks true 3) $$ [Hb3t]
  · iexact Hb3t
  icases Hx with ⟨Hc0t, Hc1t, Hc2t, Hc3t⟩
  ihave Hx := (jY_turn true _) $$ [Hjy3t]
  · iexact Hjy3t
  icases Hx with Hjy3t
  iapply seq_wp
  iapply (part21_spec _ _ _ _ _) $$ HS Hc0f Hlzf0
  iintro HS
  iapply seq_wp
  iapply (part22_spec _ _ _) $$ HS Hc0t Hlzt0 Hc3f
  iintro HS Hjz3f Hc3f Hszf0
  iapply seq_wp
  iapply (part23_spec _ _ _) $$ HS Hc3f Hlzf1 Hjz3f Hc1t
  iintro HS Hjz1t Hc1t Hszt0
  iapply seq_wp
  iapply (part24_spec _ _ _) $$ HS Hc1t Hlzt1 Hjz1t Hc2f
  iintro HS Hjz2f Hc2f Hszf1
  iapply seq_wp
  iapply (part25_spec _ _ _) $$ HS Hc2f Hlzf2 Hjz2f Hc2t Hlzt2
  iintro HS Hszt1
  iapply seq_wp
  iapply (part26_spec _ _ _ _) $$ HS Hc1f
  iintro %a26 %b26 HS Hjz1f Hc1f Hszf2 Hczbt2 Hjz3t
  iapply seq_wp
  iapply (part27_spec _ _ _ _ _) $$ HS Hc3t Hczbt2
  iintro %a27 %b27 HS Hc3t Hszt2
  ihave Hx := (own_chunk false 1 1 rfl rfl) $$ [Hc1f]
  · iexact Hc1f
  icases Hx with ⟨Hcz1f, Hcr1f⟩
  ihave Hx := (jZ_turn false _) $$ [Hjz1f]
  · iexact Hjz1f
  icases Hx with Hjz1f
  ihave Hx := (own_chunk true 3 3 rfl rfl) $$ [Hc3t]
  · iexact Hc3t
  icases Hx with ⟨Hcz3t, Hcr3t⟩
  ihave Hx := (jZ_turn true _) $$ [Hjz3t]
  · iexact Hjz3t
  icases Hx with Hjz3t
  iapply seq_wp
  iapply (part28_spec _ _ _ _ _ _ _) $$ HS Hcz1f [Hjz1f] Hcz3t [Hjz3t]
  · iexact Hjz1f
  · iexact Hjz3t
  iintro HS
  iapply seq_wp
  iapply (part29_spec _ _) $$ HS
  iintro HS Hcr0f Hcr0t
  iapply seq_wp
  iapply (part30_spec _ _) $$ HS
  iintro HS Hcr3f Hcr1t Hcz2f Hcr2f
  ihave Hx := (join_chunks false 1) $$ [Hcr0f Hcr1f Hcr2f Hcr3f]
  · isplitl [Hcr0f]
    · iexact Hcr0f
    isplitl [Hcr1f]
    · iexact Hcr1f
    isplitl [Hcr2f]
    · iexact Hcr2f
    iexact Hcr3f
  icases Hx with ⟨Hby1f, Hbx1f⟩
  iapply seq_wp
  iapply (part31_spec _ _ _ _ _) $$ HS Hby1f [Hjy1f]
  · iexact Hjy1f
  iintro HS Hcz2t Hcr2t
  ihave Hx := (join_chunks true 3) $$ [Hcr0t Hcr1t Hcr2t Hcr3t]
  · isplitl [Hcr0t]
    · iexact Hcr0t
    isplitl [Hcr1t]
    · iexact Hcr1t
    isplitl [Hcr2t]
    · iexact Hcr2t
    iexact Hcr3t
  icases Hx with ⟨Hby3t, Hbx3t⟩
  iapply seq_wp
  iapply (part32_spec _ _ _ _ _) $$ HS Hby3t [Hjy3t] Hox0f Hox0t
  · iexact Hjy3t
  iintro %r32 HS Hbz0f Hby0f Hjy0f Hbz0t Hby0t Hjy0t
  iapply seq_wp
  iapply (part33_spec _ _ _ _ _) $$ HS Hby0f Hjy0f Hby0t Hjy0t
  iintro HS Hbz3f Hby3f Hbx3f Hjy3f
  iapply seq_wp
  iapply (part34_spec _ _ _) $$ HS Hbx1f Hox1f Hox1t Hbx3f Hbx3t Hox3f Hox3t
  iintro HS Hbz1t Hby1t Hjy1t
  iapply seq_wp
  iapply (part35_spec _ _ _ _) $$ HS Hby3f Hjy3f Hby1t Hjy1t
  iintro %r35 HS Hbz2f Hby2f Hbx2f Hbz2t Hby2t Hbx2t
  iapply seq_wp
  iapply (part36_spec _ _) $$ HS Hbx2f Hbx2t Hox2f Hox2t
  iintro HS Hrr0 Hrr1 Hrr3
  iapply seq_wp
  iapply (part37_spec) $$ HS
  iintro HS Hrr2
  iapply seq_wp
  iapply (part38_spec) $$ HS
  iintro HS
  iapply seq_wp
  iapply (part39_spec) $$ HS
  iintro HS
  iapply seq_wp
  iapply (part40_spec) $$ HS
  iintro HS
  iapply seq_wp
  iapply (part41_spec) $$ HS
  iintro HS Hcz1f Hcz3t Hcz0f Hcz0t Hcz3f Hcz1t
  iapply seq_wp
  iapply (part42_spec) $$ HS
  iintro HS Hby1f Hby3t Hrx0 Hby0f Hby0t Hrx1
  simp only [Prog.lift, Prog.bind_op, Prog.bind_ret, Prog.pure_eq_ret, sem23 2 (by decide)]
  iapply (dp_g (.gx 2) ⟨rfl, rfl⟩ rfl rfl) $$ HS
  iintro HS Hrx3
  iapply ret_wp
  iapply Hk $$ HS Hsv Ha0f Ha0t Ha3f Hsyf0 Ha1t Hsyt0 HXW Ha2f Hsyf1 Ha2t Hsyt1 Hsyf2 Ha1f Hsyt2 Ha3t Hszf0 Hszt0 Hszf1 Hszt1 Hszf2 Hszt2 Hcz2f Hcz2t Hbz0f Hbz0t Hbz3f Hbz1t Hbz2f Hby2f Hbz2t Hby2t Hrr0 Hrr1 Hrr3 Hrr2 Hcz1f Hcz3t Hcz0f Hcz0t Hcz3f Hcz1t Hby1f Hby3t Hrx0 Hby0f Hby0t Hrx1 [Hrx3]
  iexact Hrx3

set_option maxHeartbeats 4000000 in
/-- The whole body: from the staged inputs and the six buffers to the finished result. -/
theorem body_spec {c : D} {Q : PUnit → sProp 𝕄} :
    St m ρ K 0 0 0 0 c ⊢ iprop(XW m ρ c -∗ Oany (F := F) Finset.univ c -∗ cred (tallyAt (barCell c) () 5) -∗ atPos ER (barCell c) 0 ∅ 0 -∗ C4any (F := F) Finset.univ c -∗ Cyany (F := F) false Finset.univ c -∗ Cyany (F := F) true Finset.univ c -∗ Czany (F := F) false Finset.univ c -∗ Czany (F := F) true Finset.univ c
      -∗ (St m ρ K 5 36 36 36 c -∗ semVal (barCell c) 0 -∗ XW m ρ c -∗ O Finset.univ fullShare (fin m ρ) c -∗ C4any (F := F) Finset.univ c -∗ Cyany (F := F) false Finset.univ c -∗ Cyany (F := F) true Finset.univ c -∗ Czany (F := F) false Finset.univ c -∗ Czany (F := F) true Finset.univ c -∗ Q ⟨⟩)
      -∗ WP c (at0 (cc0_body (F := F))) Q) := by
  iintro HS HXW HO Hcr Hat HA HY0 HY1 HZ0 HZ1 Hk
  unfold at0
  rw [cc0_body_eq_skeleton]
  unfold cc0_body_skel
  iapply seq_wp
  iapply part43_spec $$ HS HXW HO Hcr Hat HA HY0 HY1 HZ0 HZ1
  iintro HS Hsv Ha0f Ha0t Ha3f Hsyf0 Ha1t Hsyt0 HXW Ha2f Hsyf1 Ha2t Hsyt1 Hsyf2 Ha1f Hsyt2 Ha3t Hszf0 Hszt0 Hszf1 Hszt1 Hszf2 Hszt2 Hcz2f Hcz2t Hbz0f Hbz0t Hbz3f Hbz1t Hbz2f Hby2f Hbz2t Hby2t Hrr0 Hrr1 Hrr3 Hrr2 Hcz1f Hcz3t Hcz0f Hcz0t Hcz3f Hcz1t Hby1f Hby3t Hrx0 Hby0f Hby0t Hrx1 Hrx3
  simp only [Prog.lift, Prog.bind_op, Prog.bind_ret, Prog.pure_eq_ret, sem19 2 (by decide), sem21 2 (by decide), sem23 3 (by decide)]
  iapply (dp_g (.gy false 2) ⟨rfl, rfl⟩ rfl rfl) $$ HS
  iintro HS Hby3f
  iapply (dp_g (.gy true 2) ⟨rfl, rfl⟩ rfl rfl) $$ HS
  iintro HS Hby1t
  iapply (dp_g (.gx 3) ⟨rfl, rfl⟩ rfl rfl) $$ HS
  iintro HS Hrx2
  ihave Hx := (join_chunks_z false 1) $$ [Hcz0f Hcz1f Hcz2f Hcz3f]
  · isplitl [Hcz0f]
    · iexact Hcz0f
    isplitl [Hcz1f]
    · iexact Hcz1f
    isplitl [Hcz2f]
    · iexact Hcz2f
    iexact Hcz3f
  icases Hx with Hbz1f
  ihave Hx := (join_chunks_z true 3) $$ [Hcz0t Hcz1t Hcz2t Hcz3t]
  · isplitl [Hcz0t]
    · iexact Hcz0t
    isplitl [Hcz1t]
    · iexact Hcz1t
    isplitl [Hcz2t]
    · iexact Hcz2t
    iexact Hcz3t
  icases Hx with Hbz3t
  ihave Hx := (row_join (xc c) (yc c + 0)) $$ [Hbz0f Hbz0t Hby0f Hby0t Hrx0]
  · isplitl [Hbz0f Hbz0t]
    · isplitl [Hbz0f]
      · iexact Hbz0f
      iexact Hbz0t
    isplitl [Hby0f Hby0t]
    · isplitl [Hby0f]
      · iexact Hby0f
      iexact Hby0t
    iexact Hrx0
  icases Hx with Hro0
  ihave Hx := (row_join (xc c) (yc c + 1)) $$ [Hbz1f Hbz1t Hby1f Hby1t Hrx1]
  · isplitl [Hbz1f Hbz1t]
    · isplitl [Hbz1f]
      · iexact Hbz1f
      iexact Hbz1t
    isplitl [Hby1f Hby1t]
    · isplitl [Hby1f]
      · iexact Hby1f
      iexact Hby1t
    iexact Hrx1
  icases Hx with Hro1
  ihave Hx := (row_join (xc c) (yc c + 2)) $$ [Hbz2f Hbz2t Hby2f Hby2t Hrx2]
  · isplitl [Hbz2f Hbz2t]
    · isplitl [Hbz2f]
      · iexact Hbz2f
      iexact Hbz2t
    isplitl [Hby2f Hby2t]
    · isplitl [Hby2f]
      · iexact Hby2f
      iexact Hby2t
    iexact Hrx2
  icases Hx with Hro2
  ihave Hx := (row_join (xc c) (yc c + 3)) $$ [Hbz3f Hbz3t Hby3f Hby3t Hrx3]
  · isplitl [Hbz3f Hbz3t]
    · isplitl [Hbz3f]
      · iexact Hbz3f
      iexact Hbz3t
    isplitl [Hby3f Hby3t]
    · isplitl [Hby3f]
      · iexact Hby3f
      iexact Hby3t
    iexact Hrx3
  icases Hx with Hro3
  ihave Hx := out_join $$ [Hro0 Hro1 Hro2 Hro3 Hrr0 Hrr1 Hrr2 Hrr3]
  · isplitl [Hro0 Hro1 Hro2 Hro3]
    · isplitl [Hro0]
      · iexact Hro0
      isplitl [Hro1]
      · iexact Hro1
      isplitl [Hro2]
      · iexact Hro2
      iexact Hro3
    isplitl [Hrr0]
    · iexact Hrr0
    isplitl [Hrr1]
    · iexact Hrr1
    isplitl [Hrr2]
    · iexact Hrr2
    iexact Hrr3
  icases Hx with HO
  ihave Hx := (c4_join (yc c)) $$ [Ha0f Ha0t Ha1f Ha1t Ha2f Ha2t Ha3f Ha3t]
  · isplitl [Ha0f Ha0t]
    · isplitl [Ha0f]
      · iexact Ha0f
      iexact Ha0t
    isplitl [Ha1f Ha1t]
    · isplitl [Ha1f]
      · iexact Ha1f
      iexact Ha1t
    isplitl [Ha2f Ha2t]
    · isplitl [Ha2f]
      · iexact Ha2f
      iexact Ha2t
    isplitl [Ha3f]
    · iexact Ha3f
    iexact Ha3t
  icases Hx with HA
  ihave Hx := (cy_join false) $$ [Hsyf0 Hsyf1 Hsyf2]
  · isplitl [Hsyf0]
    · iexact Hsyf0
    isplitl [Hsyf1]
    · iexact Hsyf1
    iexact Hsyf2
  icases Hx with HY0
  ihave Hx := (cy_join true) $$ [Hsyt0 Hsyt1 Hsyt2]
  · isplitl [Hsyt0]
    · iexact Hsyt0
    isplitl [Hsyt1]
    · iexact Hsyt1
    iexact Hsyt2
  icases Hx with HY1
  ihave Hx := (cz_join false) $$ [Hszf0 Hszf1 Hszf2]
  · isplitl [Hszf0]
    · iexact Hszf0
    isplitl [Hszf1]
    · iexact Hszf1
    iexact Hszf2
  icases Hx with HZ0
  ihave Hx := (cz_join true) $$ [Hszt0 Hszt1 Hszt2]
  · isplitl [Hszt0]
    · iexact Hszt0
    isplitl [Hszt1]
    · iexact Hszt1
    iexact Hszt2
  icases Hx with HZ1
  iapply ret_wp
  iapply Hk $$ HS Hsv HXW HO HA HY0 HY1 HZ0 HZ1

end Cert.AllReduce

end
-- ==== Proof.Launch.lean ====
module

public import proofs.«01_k».proof.Proof.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.CollectiveSegs
public import Idealize.ShloMosaic.Lib.Quiescent

/-!
The launch: every device's tokens and credits dealt out, the body run on each device, and what every final state holds.
-/

@[expose] public section

set_option maxRecDepth 20000

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### Cells and tokens listed -/

/-- The kernel's own semaphores. -/
abbrev osem : Bool × Xf → SemLoc sig := fun p => .dma (dS p)

/-- The protocol's DMA cells, departures in the order of starts, then arrivals in the order of waits. -/
def dmaL : List (Bool × Xf) := ord.map (fun j => (false, j)) ++ wrd.map (fun j => (true, j))

/-- The list has every DMA cell. -/
theorem dmaL_univ : (Finset.univ : Finset (Bool × Xf)) = dmaL.toFinset := by decide +kernel
/-- The list has no DMA cell twice. -/
theorem dmaL_nodup : dmaL.Nodup := by decide +kernel

/-- A product over the DMA cells, listed. -/
theorem sep_dma (Φ : Bool × Xf → sProp 𝕄) :
    bigSep Finset.univ Φ = iprop(bigSepL ord (fun j => Φ (false, j)) ∗ bigSepL wrd (fun j => Φ (true, j))) := by
  rw [bigSep_univ_eq_bigSepL dmaL dmaL_univ dmaL_nodup]
  unfold dmaL
  rw [bigSepL_append, bigSepL_map, bigSepL_map]

/-- A product over all cells: the barrier's, and those of the DMA cells. -/
theorem sep_ci (Φ : CI → sProp 𝕄) : bigSep Finset.univ Φ = iprop(Φ none ∗ bigSep Finset.univ fun p => Φ (some p)) := by
  rw [bigSep_univ_eq_bigSepL (none :: dmaL.map some) (by decide +kernel) (by decide +kernel), BI.bigSepL_cons, bigSepL_map,
    bigSep_univ_eq_bigSepL dmaL dmaL_univ dmaL_nodup]
  rfl

/-- A product over the signals, in their order. -/
theorem sep_bord (Φ : Fin 5 → sProp 𝕄) : bigSep Finset.univ Φ = bigSepL bord Φ :=
  bigSep_univ_eq_bigSepL bord (by decide) (by decide) Φ
/-- A product over the copies, in the order of starts. -/
theorem sep_ord (Φ : Xf → sProp 𝕄) : bigSep Finset.univ Φ = bigSepL ord Φ :=
  bigSep_univ_eq_bigSepL ord (by decide +kernel) ord_nodup Φ
/-- A product over the copies, in the order of waits. -/
theorem sep_wrd (Φ : Xf → sProp 𝕄) : bigSep Finset.univ Φ = bigSepL wrd Φ :=
  bigSep_univ_eq_bigSepL wrd (by decide +kernel) wrd_nodup Φ

/-- The kernel's own semaphores are apart from those of the staging. -/
theorem ownSemFacts : Pipeline.OwnSemFacts cfg0.spec osem where
  isScoped := by decide +kernel
  inj p p' h := by
    have h1 : dS p = dS p' := SemLoc.dma.inj h
    have h2 : sn p = sn p' := congrArg Fin.val h1
    have h3 := congrArg dq h2
    rw [dq_sn, dq_sn] at h3
    exact Option.some.inj h3
  disj := by decide +kernel

/-- A device's cell. -/
abbrev kc (p : D × CI) : GSem nD τ sig := kcell p.1 p.2

/-- Different devices' cells differ. -/
theorem kc_injective : Function.Injective kc := by
  rintro ⟨c, i⟩ ⟨c', i'⟩ h
  obtain ⟨rfl, rfl⟩ := kcell_inj h
  rfl

/-- All cells of all devices. -/
def allCells : Finset (GSem nD τ sig) := Finset.univ.map ⟨kc, kc_injective⟩

/-- A device's duty tokens as minted: its barrier's five, one of each DMA cell. -/
abbrev tokOf (x : D × (Fin 5 ⊕ (Bool × Xf))) : GSem nD τ sig × ℕ × Fin 5 := match x.2 with
  | .inl d => (barCell x.1, 0, d)
  | .inr p => (kcell x.1 (some p), 0, 0)

/-- Different duties have different tokens. -/
theorem tokOf_injective : Function.Injective tokOf := by
  rintro ⟨c, x⟩ ⟨c', x'⟩ h
  rcases x with d | p <;> rcases x' with d' | p'
  · obtain ⟨rfl, -⟩ := kcell_inj (congrArg Prod.fst h)
    have : d = d' := congrArg (fun y : GSem nD τ sig × ℕ × Fin 5 => y.2.2) h
    subst this; rfl
  · exact absurd (kcell_inj (congrArg Prod.fst h)).2 (by simp)
  · exact absurd (kcell_inj (congrArg Prod.fst h)).2 (by simp)
  · obtain ⟨rfl, hp⟩ := kcell_inj (congrArg Prod.fst h)
    cases hp; rfl

/-- All duties' tokens. -/
def allToks : Finset (GSem nD τ sig × ℕ × Fin 5) := Finset.univ.map ⟨tokOf, tokOf_injective⟩

/-- The launch element. -/
def u₀ : UU :=
  (initOf (Pipeline.cells cfgs cellOf_inj) (Pipeline.launchToks cfgs cellOf_inj), initOf allCells allToks)

/-- The duty tokens of device `c`'s own cells. -/
def toks (c : D) : sProp 𝕄 :=
  iprop((bigSep Finset.univ fun d : Fin 5 => dutyTok ER (barCell c) 0 d) ∗ bigSep Finset.univ fun p : Bool × Xf => dutyTok ER (kcell c (some p)) 0 0)

/-- What the launch element deals device `c`. -/
def G (c : D) : sProp 𝕄 :=
  iprop((bigSep Finset.univ fun i : CI => roundState ER (Rd m ρ) (kcell c i) 0)
    ∗ (bigSep Finset.univ fun i : CI => iprop(atPos ER (kcell c i) 0 ∅ 0 ∗ reached ER (kcell c i) 0)) ∗ toks c)

/-- The tokens of the duties device `c` pays. -/
def payToks (c : D) : sProp 𝕄 :=
  iprop((bigSep Finset.univ fun d : Fin 5 => dutyTok ER (barCell (bt d c)) 0 d)
    ∗ (bigSep Finset.univ fun j : Xf => dutyTok ER (sndCell j c) 0 0) ∗ bigSep Finset.univ fun j : Xf => dutyTok ER (rcvCell j (tg j c)) 0 0)

/-- Device `c`'s own part: its positions and the tokens it pays with. -/
def linear (c : D) : sProp 𝕄 :=
  iprop((bigSep Finset.univ fun i : CI => atPos ER (kcell c i) 0 ∅ 0) ∗ payToks c)

/-- What the global step makes of the deal. -/
def G' (c : D) : sProp 𝕄 := iprop(∃ K, Recs m ρ K ∗ linear c)

/-- The launch element deals every device its part. -/
theorem fund_all : BI.own (ER (initOf allCells allToks)) ⊢ (|==> bigSep Finset.univ (G m ρ) : sProp 𝕄) := by
  have hX (Φ : GSem nD τ sig → sProp 𝕄) : bigSep allCells Φ = bigSep Finset.univ fun c : D => bigSep Finset.univ fun i : CI => Φ (kcell c i) := by
    unfold allCells; rw [bigSep_map, bigSep_univ_prod]; rfl
  have hT : bigSep allToks (fun x => (dutyTok ER x.1 x.2.1 x.2.2 : sProp 𝕄)) = bigSep Finset.univ fun c : D => toks c := by
    unfold allToks; rw [bigSep_map, bigSep_univ_prod]
    exact bigSep_congr fun c _ => by unfold toks; rw [bigSep_univ_sum]; rfl
  iintro HX
  imod (Rounds.fund ER (Rd m ρ) allCells allToks) $$ HX with ⟨Hst, Hr, Hat, Htok⟩
  imodintro
  ihave Hst' := (BIBase.Entails.of_eq (hX fun g => roundState ER (Rd m ρ) g 0)) $$ Hst
  ihave Hat' := (BIBase.Entails.of_eq (hX fun g => atPos ER g 0 ∅ 0)) $$ Hat
  ihave Hr' := (BIBase.Entails.of_eq (hX fun g => reached ER g 0)) $$ Hr
  ihave Htok' := (BIBase.Entails.of_eq hT) $$ Htok
  unfold G; simp only [bigSep_sep']
  isplitl [Hst']; · iexact Hst'
  isplitl [Hat' Hr']
  · isplitl [Hat'] <;> iassumption
  iexact Htok'

/-- The one semaphore the kernel does not scope is the barrier. -/
theorem unscoped_eq (c : D) : (unscopedSems0 c : sProp 𝕄) = semVal (barCell c) 0 := by
  unfold unscopedSems0; rw [bigSep_eq_bigSepL_of_eq [SemLoc.reg barS] (by decide +kernel) (by decide)]; rfl

/-- A device's cells get their invariants. -/
theorem core_alloc (c : D) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CI => iprop(∃ κ : ℕ, cellInv ER (Rd m ρ) κ (kcell c i)))
          ∗ (bigSep Finset.univ fun i : CI => iprop(atPos ER (kcell c i) 0 ∅ 0 ∗ reached ER (kcell c i) 0)) ∗ toks c) := by
  unfold G
  iintro ⟨Hos, Hus, Hst, Hat, Htok⟩
  ihave Hv := (show iprop(Pipeline.ownSems0 (Ix := Unit) (Name := ℕ) (U := UU) (Lvl := ℕ) (Val := Elt F) (τ := τ) osem c ∗ unscopedSems0 c)
      ⊢ (bigSep Finset.univ fun i : CI => semVal (kcell c i) 0 : sProp 𝕄) from by
        rw [sep_ci, unscoped_eq]
        iintro ⟨H1, H2⟩
        isplitl [H2]; · iexact H2
        unfold Pipeline.ownSems0
        iexact H1) $$ [Hos Hus]
  · isplitl [Hos] <;> iassumption
  imod (show iprop((bigSep Finset.univ fun i : CI => semVal (kcell c i) 0) ∗ bigSep Finset.univ fun i : CI => roundState ER (Rd m ρ) (kcell c i) 0)
      ⊢ (|={Set.univ}=> bigSep Finset.univ fun i : CI => iprop(∃ κ : ℕ, cellInv ER (Rd m ρ) κ (kcell c i)) : sProp 𝕄) from by
        rw [← bigSep_sep']
        exact (bigSep_mono fun i _ => (Rounds.body_intro ER (Rd m ρ) (kcell c i)).trans inv_alloc).trans (bigSep_fupd _ _)) $$ [Hv Hst] with Hinv
  · isplitl [Hv] <;> iassumption
  imodintro
  isplitl [Hinv]; · iexact Hinv
  isplitl [Hat]; · iexact Hat
  iexact Htok

/-- A product over devices and names, each name's devices permuted. -/
theorem turned {I : Type} [Fintype I] (e : I → D ≃ D) (Φ : D → I → sProp 𝕄) :
    (bigSep Finset.univ fun c : D => bigSep Finset.univ fun i => Φ c i) = bigSep Finset.univ fun c : D => bigSep Finset.univ fun i => Φ (e i c) i := by
  rw [BI.bigSep_univ_comm Φ, BI.bigSep_univ_comm (fun c i => Φ (e i c) i)]
  exact bigSep_congr fun i _ => bigSep_univ_equiv (e i) (fun c => Φ c i)

/-- The tokens dealt to the devices that pay with them. -/
theorem toks_around : (bigSep Finset.univ fun c : D => (toks c : sProp 𝕄)) ⊢ bigSep Finset.univ fun c : D => payToks c := by
  have h1 : ∀ c : D, (bigSep Finset.univ fun p : Bool × Xf => (dutyTok ER (kcell c (some p)) 0 0 : sProp 𝕄))
      = iprop((bigSep Finset.univ fun j : Xf => dutyTok ER (sndCell j c) 0 0) ∗ bigSep Finset.univ fun j : Xf => dutyTok ER (rcvCell j c) 0 0) := fun c => by
    rw [bigSep_univ_prod, sep_bool]
  unfold toks payToks
  simp only [h1]
  rw [bigSep_sep', bigSep_sep', bigSep_sep', bigSep_sep',
    turned btE (fun c d => (dutyTok ER (barCell c) 0 d : sProp 𝕄)), turned tgE (fun c j => (dutyTok ER (rcvCell j c) 0 0 : sProp 𝕄))]
  exact BI.Entails.refl _

/-- All devices' parts regrouped: each device gets the tokens of the duties it pays. -/
theorem regroup :
    (bigSep Finset.univ fun c : D => iprop((bigSep Finset.univ fun i : CI => iprop(∃ κ : ℕ, cellInv ER (Rd m ρ) κ (kcell c i)))
          ∗ (bigSep Finset.univ fun i : CI => iprop(atPos ER (kcell c i) 0 ∅ 0 ∗ reached ER (kcell c i) 0)) ∗ toks c) : sProp 𝕄)
      ⊢ bigSep Finset.univ (G' m ρ) := by
  rw [bigSep_sep', bigSep_sep', ← bigSep_univ_prod (fun p : D × CI => iprop(∃ κ : ℕ, cellInv ER (Rd m ρ) κ (kcell p.1 p.2))),
    bigSep_congr (s := Finset.univ) (fun (c : D) _ => bigSep_sep' Finset.univ (fun i : CI => (atPos ER (kcell c i) 0 ∅ 0 : sProp 𝕄)) (fun i => reached ER (kcell c i) 0)),
    bigSep_sep', ← bigSep_univ_prod (fun p : D × CI => (reached ER (kcell p.1 p.2) 0 : sProp 𝕄))]
  iintro ⟨HI, ⟨Hat, #HR⟩, Htok⟩
  ihave HK := (BI.bigSep_exists_pi Finset.univ (fun (p : D × CI) (κ : ℕ) => (cellInv ER (Rd m ρ) κ (kcell p.1 p.2) : sProp 𝕄))) $$ HI
  icases HK with ⟨%K, #HI⟩
  ihave Htk := (toks_around (F := F)) $$ Htok
  iapply (BI.bigSep_with_persistent (R := Recs m ρ K) (Φ := fun c => linear (F := F) c) fun c _ => by
    unfold G'
    iintro ⟨H1, H2⟩
    iexists K
    isplitl [H1]; · iexact H1
    iexact H2)
  isplitr
  · unfold Recs; isplitl; · iexact HI
    iexact HR
  · unfold linear
    rw [bigSep_sep']
    isplitl [Hat]; · iexact Hat
    iexact Htk

/-- The global step: from all devices' semaphores and parts to what each device's body starts from. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- What a device owes at launch: five units and 36 copies. -/
def O₀ (c : D) : CellTallies nD τ sig Unit := owB bord ord c

/-- What all devices' copies of a list owe an arrival cell. -/
theorem owX_rcv (j : Xf) (c : D) (l : List Xf) : ∑ d : D, owX l d (rcvCell j c) () = l.count j * N j := by
  induction l with
  | nil => simp [owX]
  | cons i l ih =>
    have h1 : ∀ d : D, owX (i :: l) d (rcvCell j c) () = owX l d (rcvCell j c) () + if d = sr j c then (if i = j then N j else 0) else 0 := by
      intro d
      show (owX l d + tallyAt (rcvCell i (tg i d)) () (N i)) (rcvCell j c) () = _
      rw [Pi.add_apply, Finsupp.add_apply, tallyAt_apply]
      refine congrArg (owX l d (rcvCell j c) () + ·) ?_
      by_cases hi : i = j
      · subst hi
        rw [if_pos rfl]
        by_cases hd : d = sr i c
        · subst hd; rw [tg_sr, if_pos ⟨rfl, rfl⟩, if_pos rfl]
        · rw [if_neg hd, if_neg fun h => hd (by rw [(kcell_inj h.1).1, sr_tg])]
      · rw [if_neg hi, ite_self, if_neg fun h => hi (congrArg Prod.snd (Option.some.inj (kcell_inj h.1).2)).symm]
    rw [Finset.sum_congr rfl fun d _ => h1 d, Finset.sum_add_distrib, ih, Finset.sum_ite_eq' Finset.univ (sr j c) fun _ => if i = j then N j else 0,
      if_pos (Finset.mem_univ _), List.count_cons]
    by_cases hi : i = j
    · subst hi; simp [Nat.add_mul]
    · simp [hi]

/-- Copies owe a barrier nothing. -/
theorem owX_bar (c d : D) (l : List Xf) : owX l d (barCell c) () = 0 := by
  induction l with
  | nil => rfl
  | cons i l ih =>
    show (owX l d + tallyAt (rcvCell i (tg i d)) () (N i)) (barCell c) () = _
    rw [Pi.add_apply, Finsupp.add_apply, tallyAt_apply, ih, if_neg fun h => absurd (kcell_inj h.1).2 (by simp)]

/-- Signals owe an arrival nothing. -/
theorem owB_rcv (j : Xf) (c d : D) (b : List (Fin 5)) (l : List Xf) : owB b l d (rcvCell j c) () = owX l d (rcvCell j c) () := by
  induction b with
  | nil => rfl
  | cons e b ih =>
    show (owB b l d + tallyAt (barCell (bt e d)) () 1) (rcvCell j c) () = _
    rw [Pi.add_apply, Finsupp.add_apply, tallyAt_apply, ih, if_neg fun h => absurd (kcell_inj h.1).2 (by simp), Nat.add_zero]

/-- What all devices' signals of a list owe a barrier. -/
theorem owB_bar (c : D) (b : List (Fin 5)) (l : List Xf) : ∑ d : D, owB b l d (barCell c) () = b.length := by
  induction b with
  | nil => exact (Finset.sum_congr rfl fun d _ => owX_bar c d l).trans (by simp)
  | cons e b ih =>
    have h1 : ∀ d : D, owB (e :: b) l d (barCell c) () = owB b l d (barCell c) () + if d = bs e c then 1 else 0 := by
      intro d
      show (owB b l d + tallyAt (barCell (bt e d)) () 1) (barCell c) () = _
      rw [Pi.add_apply, Finsupp.add_apply, tallyAt_apply]
      refine congrArg (owB b l d (barCell c) () + ·) ?_
      by_cases hd : d = bs e c
      · subst hd; rw [bt_bs, if_pos ⟨rfl, rfl⟩, if_pos rfl]
      · rw [if_neg hd, if_neg fun h => hd (by rw [(kcell_inj h.1).1, bs_bt])]
    rw [Finset.sum_congr rfl fun d _ => h1 d, Finset.sum_add_distrib, ih, Finset.sum_ite_eq' Finset.univ (bs e c) fun _ => 1,
      if_pos (Finset.mem_univ _), List.length_cons]

/-- A barrier's credit at launch. -/
theorem launch_bar (c : D) :
    tallyOn (barCell c) (launchCredit (Pipeline.owing O₀) 0 (barCell c)) = (tallyAt (barCell c) () 5 : CellTallies nD τ sig Unit) := by
  unfold tallyAt; refine congrArg _ (Finsupp.ext fun u => ?_); cases u
  rw [Pipeline.launchCredit_owing, Finsupp.single_eq_same]
  exact owB_bar c bord ord

/-- An arrival's credit at launch. -/
theorem launch_rcv (j : Xf) (c : D) :
    tallyOn (rcvCell j c) (launchCredit (Pipeline.owing O₀) 0 (rcvCell j c)) = (tallyAt (rcvCell j c) () (N j) : CellTallies nD τ sig Unit) := by
  unfold tallyAt; refine congrArg _ (Finsupp.ext fun u => ?_); cases u
  rw [Pipeline.launchCredit_owing, Finsupp.single_eq_same]
  refine (Finset.sum_congr rfl fun d _ => owB_rcv j c d bord ord).trans ((owX_rcv j c ord).trans ?_)
  rw [List.count_eq_one_of_mem ord_nodup (mem_ord j), Nat.one_mul]

/-- The cells whose credit a device waits with. -/
def crL : List (SemLoc sig) := .reg barS :: wrd.map (fun j => osem (true, j))

/-- The list has no cell twice. -/
theorem crL_nodup : crL.Nodup := by decide +kernel

/-- The credit a device waits with. -/
theorem creds (c : D) :
    (Pipeline.launchCred O₀ c : sProp 𝕄) ⊢ iprop(cred (tallyAt (barCell c) () 5) ∗ bigSepL wrd (fun j => cred (tallyAt (rcvCell j c) () (N j)))) := by
  unfold Pipeline.launchCred
  refine (BI.bigSep_subset (Finset.subset_univ crL.toFinset)).trans ?_
  rw [bigSep_eq_bigSepL_of_eq crL rfl crL_nodup]
  unfold crL
  rw [BI.bigSepL_cons, bigSepL_map]
  refine BI.sep_mono (BIBase.Entails.of_eq (congrArg cred (launch_bar c))) (bigSepL_mono fun j _ => BIBase.Entails.of_eq (congrArg cred (launch_rcv j c)))

end Cert.AllReduce

end
-- ==== Proof.Run.lean ====
module

public import proofs.«01_k».proof.Proof.Launch

/-!
The run: the body on each device between what the launch deals and what the exit takes, and what every final state holds.
-/

@[expose] public section

set_option maxRecDepth 20000

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### The pipeline's data -/

/-- The call's one grid point. -/
abbrev t₀ : Fin cfg0.N := t0_0

/-- The kernel's result on every device. -/
def outAt : (cc0_stg3_0 : Ref sig .tc).ty.Contents (Elt F) := fun i : S1024x1024.Idx => fin m ρ (i 0).val (i 1).val

/-- What device `c`'s body starts from besides its buffers. -/
def start (c : D) : sProp 𝕄 :=
  iprop(G' m ρ c ∗ (cred (tallyAt (barCell c) () 5) ∗ bigSepL wrd (fun j => cred (tallyAt (rcvCell j c) () (N j)))) ∗ levAts L lv)

/-- The scratch buffers at any contents. -/
def scratch (c : D) : sProp 𝕄 :=
  iprop(C4any (F := F) Finset.univ c ∗ Cyany (F := F) false Finset.univ c ∗ Cyany (F := F) true Finset.univ c ∗ Czany (F := F) false Finset.univ c ∗ Czany (F := F) true Finset.univ c)

/-- What a device holds before the body. -/
def Φ₀ (c : D) : sProp 𝕄 := iprop(start m ρ c ∗ scratch (F := F) c)
/-- What a device holds after the body. -/
def Φ₁ (c : D) : sProp 𝕄 := iprop((unscopedSems0 c ∗ Pipeline.ownSems0 (Ix := Unit) (Name := ℕ) (U := UU) (Lvl := ℕ) (Val := Elt F) (τ := τ) osem c) ∗ scratch (F := F) c)

/-- The call's data for the launch: what is staged, and what the body starts from and leaves. -/
def dats (_ : Fin 1) (c : D) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => w1stg m ρ c
    | ⟨2, _⟩ => w2stg m ρ c
    | ⟨3, _⟩ => outAt m ρ
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

/-- Every staging buffer is held whole. -/
theorem share_eq (c : D) (w : Fin cfg0.W) : (dats (F := F) m ρ 0 c).share w = fullShare := by
  unfold Dat.share; split <;> rfl

/-! ### The body -/

/-- The protocol's part of a device at launch. -/
theorem st_intro (K : D × CI → ℕ) (c : D) (W : Waits sig Unit) :
    iprop(Recs m ρ K ∗ linear (F := F) c ∗ bigSepL wrd (fun j => cred (tallyAt (rcvCell j c) () (N j))) ∗ levAts L lv ∗ owes (c : Thread nD τ) (O₀ c) W)
      ⊢ iprop(St m ρ K 0 0 0 0 c ∗ atPos ER (barCell c) 0 ∅ 0) := by
  have hS : (bigSepL ord (tokS c) : sProp 𝕄)
      = iprop(bigSepL ord (fun j => dutyTok ER (sndCell j c) 0 0) ∗ bigSepL ord (fun j => dutyTok ER (rcvCell j (tg j c)) 0 0) ∗ bigSepL ord (fun j => atPos ER (sndCell j c) 0 ∅ 0)) := by
    simp only [← sep_ord]; unfold tokS; rw [bigSep_sep', bigSep_sep']
  have hW : (bigSepL wrd (tokW c) : sProp 𝕄)
      = iprop(bigSepL wrd (fun j => atPos ER (rcvCell j c) 0 ∅ 0) ∗ bigSepL wrd (fun j => cred (tallyAt (rcvCell j c) () (N j)))) := by
    simp only [← sep_wrd]; unfold tokW; rw [bigSep_sep']
  unfold linear payToks
  rw [sep_ci, sep_dma, sep_bord, sep_ord, sep_ord]
  iintro ⟨#HR, ⟨⟨HB, HPs, HPr⟩, Hb, Hs, Hr⟩, Hc, #Hlev, HO⟩
  isplitr [HB]
  · unfold St
    isplitr; · iexact HR
    isplitr; · iexact Hlev
    isplitl [HO]; · iexists W; iexact HO
    isplitl [Hb]; · iexact Hb
    isplitl [Hs Hr HPs]
    · rw [List.drop_zero, hS]
      isplitl [Hs]; · iexact Hs
      isplitl [Hr]; · iexact Hr
      iexact HPs
    isplitl [HPr Hc]
    · rw [List.drop_zero, hW]
      isplitl [HPr]; · iexact HPr
      iexact Hc
    simp only [List.take_zero, List.drop_nil, BI.bigSepL_nil]
    isplitr; · iempintro
    isplitr <;> iempintro
  · iexact HB

/-- The protocol's part of a device at the end: nothing owed, every semaphore back at zero. -/
theorem st_exit (K : D × CI → ℕ) (c : D) :
    iprop(St m ρ K 5 36 36 36 c ∗ semVal (barCell c) 0)
      ⊢ iprop((∃ W, owes (c : Thread nD τ) 0 W) ∗ unscopedSems0 c ∗ Pipeline.ownSems0 (Ix := Unit) (Name := ℕ) (U := UU) (Lvl := ℕ) (Val := Elt F) (τ := τ) osem c) := by
  have h1 : wrd.take 36 = wrd := rfl
  have h2 : ord.take 36 = ord := rfl
  unfold St
  rw [h1, h2, unscoped_eq]
  iintro ⟨⟨-, -, HO, -, -, -, -, Hr, Hs⟩, HB⟩
  isplitl [HO]
  · icases HO with ⟨%W, HO⟩; iexists W; iexact HO
  isplitl [HB]; · iexact HB
  unfold Pipeline.ownSems0
  rw [sep_dma]
  isplitl [Hs]; · iexact Hs
  iexact Hr

/-- Owning a whole buffer at given contents. -/
theorem owns_whole_eq (c : D) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer whole at given contents. -/
abbrev stg (c : D) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the body starts from. -/
def bodyPre (c : D) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

/-- What the body leaves. -/
def bodyPost (c : D) : sProp 𝕄 :=
  iprop(Φ₁ (F := F) c ∗ (dats m ρ 0 c).owesAt () t₀.succ
    ∗ stg c cc0_stg0_0 (xstg m ρ c) ∗ stg c cc0_stg1_0 (w1stg m ρ c) ∗ stg c cc0_stg2_0 (w2stg m ρ c) ∗ stg c cc0_stg3_0 (outAt m ρ))

/-- Contents of the output's staging buffer, as a function of row and column. -/
theorem oany_intro (c : D) (f : Buf (Elt F) ((c : Thread nD τ).loc cc0_stg3_0)) :
    (((c : Thread nD τ).loc cc0_stg3_0) ↦{fullShare} f : sProp 𝕄) ⊢ Oany (F := F) Finset.univ c := by
  iintro H
  unfold Oany O
  iexists (fun r col : ℕ => (f : S1024x1024.Idx → F .f32) (ix r col))
  rw [show (fun i : S1024x1024.Idx => (fun r col : ℕ => (f : S1024x1024.Idx → F .f32) (ix r col)) (i 0).val (i 1).val) = f from
    funext fun i => congrArg f (funext fun a => by fin_cases a <;> exact Fin.ext (Nat.mod_eq_of_lt (i _).isLt))]
  iexact H

/-- The body, from what the launch gives a device to what the exit takes. -/
theorem sound_body (c : D) (Kt : PUnit → sProp 𝕄) :
    iprop(bodyPre m ρ c ∗ (bodyPost m ρ c -∗ Kt ⟨⟩)) ⊢ WP c (at0 (cc0_body (F := F))) Kt := by
  unfold bodyPre Φ₀ start scratch G'
  iintro ⟨⟨⟨⟨⟨%K, #HR, Hlin⟩, ⟨HcB, HcR⟩, #Hlev⟩, H4, Hy0, Hy1, Hz0, Hz1⟩, Ho, ⟨%d0, %g0, %hg0, Hx⟩, ⟨%d1, %g1, %hg1, Hw1⟩, ⟨%d2, %g2, %hg2, Hw2⟩, ⟨%d3, %g3, %hg3, Hout⟩⟩, Hk⟩
  have hx : g0 = xstg m ρ c := by rw [hg0]; unfold Dat.before; rw [if_pos (fetch0_0 t₀)]; rfl
  have h1 : g1 = w1stg m ρ c := by rw [hg1]; unfold Dat.before; rw [if_pos (fetch0_1 t₀)]; rfl
  have h2 : g2 = w2stg m ρ c := by rw [hg2]; unfold Dat.before; rw [if_pos (fetch0_2 t₀)]; rfl
  subst hx h1 h2
  unfold Dat.owesAt Pipeline.owesWithin
  icases Ho with ⟨%W, %hW, HO⟩
  rw [show (dats m ρ 0 c).owed t₀.castSucc = O₀ c from rfl]
  ihave Hst := (st_intro m ρ K c W) $$ [Hlin HcR HO]
  · isplitr; · iexact HR
    isplitl [Hlin]; · iexact Hlin
    isplitl [HcR]; · iexact HcR
    isplitr; · iexact Hlev
    iexact HO
  icases Hst with ⟨Hst, HatB⟩
  ihave Hout' := (oany_intro c g3) $$ Hout
  iapply (body_spec (K := K) (c := c) (Q := Kt)) $$ Hst [Hx Hw1 Hw2] Hout' HcB HatB H4 Hy0 Hy1 Hz0 Hz1
  · unfold XW
    isplitl [Hx]; · iexact Hx
    isplitl [Hw1]; · iexact Hw1
    iexact Hw2
  iintro Hst HvB HX Hout H4 Hy0 Hy1 Hz0 Hz1
  ihave He := (st_exit m ρ K c) $$ [Hst HvB]
  · isplitl [Hst]; · iexact Hst
    iexact HvB
  icases He with ⟨⟨%W', HO⟩, Hu, Hos⟩
  iapply Hk
  unfold bodyPost Φ₁ Dat.owesAt Pipeline.owesWithin scratch XW
  icases HX with ⟨Hx, Hw1, Hw2⟩
  rw [show (dats m ρ 0 c).owed t₀.succ = 0 from rfl]
  isplitl [Hu Hos H4 Hy0 Hy1 Hz0 Hz1]
  · isplitl [Hu Hos]
    · isplitl [Hu]; · iexact Hu
      iexact Hos
    isplitl [H4]; · iexact H4
    isplitl [Hy0]; · iexact Hy0
    isplitl [Hy1]; · iexact Hy1
    isplitl [Hz0]; · iexact Hz0
    iexact Hz1
  isplitl [HO]
  · iexists W'
    isplitr; · ipureintro; exact fun _ _ => Or.inl trivial
    iexact HO
  isplitl [Hx]
  · iexists _; isplitr; · (ipureintro; rfl)
    iexact Hx
  isplitl [Hw1]
  · iexists _; isplitr; · (ipureintro; rfl)
    iexact Hw1
  isplitl [Hw2]
  · iexists _; isplitr; · (ipureintro; rfl)
    iexact Hw2
  iexists _; isplitr; · (ipureintro; rfl)
  unfold O
  iexact Hout

/-- The body obligation on device `c`. -/
theorem body_obligation (c : D) : BodyObligation (dats (F := F) m ρ 0 c) (defs₀ (F := F)) 𝒱₀ () Set.univ := fun t => by
  rw [show t = t₀ from fin_N0 t]
  rw [bigSep_W0, bigSep_W0]
  simp only [owns_whole_eq]
  show bodyPre m ρ c ⊢ WP c (at0 (cc0_body (F := F))) (fun _ => bodyPost m ρ c)
  iintro H
  iapply (sound_body m ρ c fun _ => bodyPost m ρ c)
  isplitl; · iexact H
  iintro H; iexact H

/-! ### The launch theorem's side conditions -/

/-- What the global step gives a device is what its body starts from. -/
theorem start_intro (c : D) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

/-- What a device holds before the body, assembled. -/
theorem phi0_intro (c : D) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

/-- What a device holds after the body, taken apart. -/
theorem phi1_exit (c : D) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁ scratch
  iintro ⟨⟨Hu, Ho⟩, Hr⟩
  isplitl [Hu]; · iexact Hu
  isplitl [Ho]; · iexact Ho
  iexact Hr

/-- The staging's waits are allowed. -/
theorem waits (c : D) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_zero c _ (by fin_cases w <;> fin_cases s <;> rfl) bord ord
    · show _ ⊢ MayWait _ _ _ 0
      rw [MayWait_zero]; iintro -; iempintro

/-! ### The run -/

/-- An array's contents after the run. -/
def finalA (c : D) (w : Fin cfg0.W) : Buf (Elt F) ((cfg0.win w).arr.view.loc (c : Thread nD τ)) := (dats m ρ 0 c).arrAt w cfg0.N

/-- The arrays hold those contents. -/
def QC : PUnit × MemSt nD τ sig (Elt F) → Prop := fun r =>
  ∀ c : D, ∀ w : Fin cfg0.W, r.2.mem ((cfg0.win w).arr.view.loc (c : Thread nD τ)) = finalA m ρ c w

/-- Over any float values, from any memory with every counter at zero: every weakly fair execution on the 32 devices ends, and
    every final state has each device's arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input arrays hold what they held. -/
theorem finalA_x (c : D) : finalA m ρ c (0 : Fin 4) = (s₀ m ρ).mem (win0_0.arr.view.loc (c : Thread nD τ)) :=
  (dats (F := F) m ρ 0 c).arrAt_in (0 : Fin 4) rfl _
/-- The first weights hold what they held. -/
theorem finalA_w1 (c : D) : finalA m ρ c (1 : Fin 4) = (s₀ m ρ).mem (win0_1.arr.view.loc (c : Thread nD τ)) :=
  (dats (F := F) m ρ 0 c).arrAt_in (1 : Fin 4) rfl _
/-- The second weights hold what they held. -/
theorem finalA_w2 (c : D) : finalA m ρ c (2 : Fin 4) = (s₀ m ρ).mem (win0_2.arr.view.loc (c : Thread nD τ)) :=
  (dats (F := F) m ρ 0 c).arrAt_in (2 : Fin 4) rfl _

/-- The result array's one block, read back, is the kernel's result. -/
theorem finalA_o (c : D) : (win0_3.blk (0 : Fin 1)).view.read (Elt F) (finalA m ρ c (3 : Fin 4)) = outAt m ρ := by
  unfold finalA
  rw [show cfg0.N = ((0 : Fin 1) : Fin cfg0.N).val + 1 from rfl, (dats m ρ 0 c).arrAt_succ (3 : Fin 4) (0 : Fin 1)]
  rw [show (cfg0.win (3 : Fin 4)).flush (0 : Fin 1) = true from by decide, if_pos rfl]
  exact View.read_write_univ _ _

end Cert.AllReduce

end
-- ==== Proof.Value.lean ====
module

public import proofs.«01_k».proof.Proof.Run
public import proofs.«01_k».proof.Defs
public import proofs.«01_k».proof.Proof.Gen.ReferenceIdeal.Run
public import Idealize.ShloMosaic.Lib.ValueIdx
public import Idealize.ShloMosaic.Lib.MatmulPlain
public import Idealize.ShloMosaic.Lib.StackMember
public import Idealize.ShloMosaic.Lib.Pipeline.Value
public import Idealize.ShloMosaic.Lib.Pipeline.ValueKit.Acc
public import Idealize.ShloMosaic.Lib.Layout

/-!
The value: the ring sums are the sum over all 32 devices, a device's product is its block of the two contractions, and
together they are the reference's contraction over all 65536 hidden columns.
-/

@[expose] public section

set_option maxRecDepth 20000

noncomputable section

namespace Cert.AllReduce

open Cert.KernelIdeal Cert.KernelIdeal.Gen
open Idealize.ShloMosaic
open Idealize.ShloMosaic.TcCoe
open Idealize.ShloMosaic.ValueIdx
open Idealize.SL.Sem

/-! ### The ring sums over all devices -/

/-- The devices whose products each partial sum holds, in the order they are added. -/
def lY (h : Bool) : ℕ → D → List D
  | 0, c => [c, xp c]
  | n + 1, c => [c, xp c] ++ lY h n (dy (!h) c)
/-- The devices whose products the full sum of the ring along `y` holds. -/
def lQ (h : Bool) (c : D) : List D := (c :: lY h 2 (dy (!h) c)) ++ [xp c]
/-- The devices whose products a partial sum of the ring along `z` holds. -/
def lZ (h : Bool) : ℕ → D → List D
  | 0, c => lQ h c
  | n + 1, c => lQ h c ++ lZ h n (dz (!h) c)

/-- The full sum holds every device once. -/
theorem lZ_univ : ∀ (h : Bool) (c : D), (lZ h 3 c).toFinset = Finset.univ := by decide +kernel
/-- The full sum holds no device twice. -/
theorem lZ_nodup : ∀ (h : Bool) (c : D), (lZ h 3 c).Nodup := by decide +kernel

variable (m : (ℓ : Loc nD τ sig) → Buf (Elt Ideal) ℓ) (ρ : Dev nD → PrngReg)

/-- A device's product, as a real number of the extended line. -/
def pr (r col : ℕ) (c : D) : EReal := Pl m ρ c r col

/-- A partial sum of the ring along `y` is the sum of its devices' products. -/
theorem ty_eq (h : Bool) (r col : ℕ) : ∀ (n : ℕ) (c : D), (Ty m ρ h n c r col : EReal) = ((lY h n c).map (pr m ρ r col)).sum
  | 0, c => by
    show pr m ρ r col c + pr m ρ r col (xp c) = _
    simp [lY]
  | n + 1, c => by
    show pr m ρ r col c + pr m ρ r col (xp c) + (Ty m ρ h n (dy (!h) c) r col : EReal) = _
    rw [ty_eq h r col n]
    simp [lY, add_assoc]

/-- The full sum of the ring along `y` is the sum of its devices' products. -/
theorem tq_eq (h : Bool) (r col : ℕ) (c : D) : (Tq m ρ h c r col : EReal) = ((lQ h c).map (pr m ρ r col)).sum := by
  show pr m ρ r col c + (Ty m ρ h 2 (dy (!h) c) r col : EReal) + pr m ρ r col (xp c) = _
  rw [ty_eq]
  simp [lQ, add_assoc]

/-- A partial sum of the ring along `z` is the sum of its devices' products. -/
theorem tz_eq (h : Bool) (r col : ℕ) : ∀ (n : ℕ) (c : D), (Tz m ρ h n c r col : EReal) = ((lZ h n c).map (pr m ρ r col)).sum
  | 0, c => tq_eq m ρ h r col c
  | n + 1, c => by
    show (Tq m ρ h c r col : EReal) + (Tz m ρ h n (dz (!h) c) r col : EReal) = _
    rw [tz_eq h r col n, tq_eq]
    simp [lZ]

/-- The kernel's result is the sum of all devices' products. -/
theorem fin_eq (r col : ℕ) : (fin m ρ r col : EReal) = ∑ c : D, pr m ρ r col c := by
  unfold fin
  rw [tz_eq, ← List.sum_toFinset _ (lZ_nodup _ _), lZ_univ]

/-! ### A device's product -/

/-- The three arguments as device `c` holds them. -/
def ax (c : D) : FVec Ideal ⟨2, ![1024, 1024]⟩ .f32 := m ((c : Thread nD τ).loc main_arg0)
/-- The first weights as device `c` holds them. -/
def aw1 (c : D) : FVec Ideal ⟨2, ![1024, 2048]⟩ .f32 := m ((c : Thread nD τ).loc main_arg1)
/-- The second weights as device `c` holds them. -/
def aw2 (c : D) : FVec Ideal ⟨2, ![2048, 1024]⟩ .f32 := m ((c : Thread nD τ).loc main_arg2)

/-- A whole array's one block is the array. -/
theorem stg_x (c : D) : xstg m ρ c = ax m c :=
  Memref.read_access_unit_zero (Elt Ideal) main_arg0 (funext fun a => by fin_cases a <;> rfl) _ (m ((c : Thread nD τ).loc main_arg0))
/-- The staged first weights are the array. -/
theorem stg_w1 (c : D) : w1stg m ρ c = aw1 m c :=
  Memref.read_access_unit_zero (Elt Ideal) main_arg1 (funext fun a => by fin_cases a <;> rfl) _ (m ((c : Thread nD τ).loc main_arg1))
/-- The staged second weights are the array. -/
theorem stg_w2 (c : D) : w2stg m ρ c = aw2 m c :=
  Memref.read_access_unit_zero (Elt Ideal) main_arg2 (funext fun a => by fin_cases a <;> rfl) _ (m ((c : Thread nD τ).loc main_arg2))

/-- The hidden block at a row and a hidden column: the rectified contraction. -/
theorem pay1_apply (x : FVec Ideal ⟨2, ![128, 1024]⟩ .f32) (w1 : FVec Ideal ⟨2, ![1024, 2048]⟩ .f32) (r : Fin 128) (k : Fin 2048) :
    k0_pay1 (F := Ideal) x w1 (ix2 r k) = max (∑ j : Fin 1024, x (ix2 r j) * w1 (ix2 j k)) (0 : EReal) := by
  unfold k0_pay1
  simp only [shapeCast_self]
  show max (FloatOps.matmul (F := Ideal) (DotDims.plain 128 1024 2048) none x w1 (constant S128x2048 .f32 0x00000000#32) (ix2 r k)) (Ideal.ofBits .f32 0x00000000#32) = _
  rw [Ideal.matmul_plain_apply]
  show max (Ideal.ofBits .f32 0x00000000#32 + _) _ = _
  rw [Ideal.ofBits_zero_f32, zero_add]

/-- The block product at a row and a column: the contraction over the device's hidden columns. -/
theorem pay2_apply (g : FVec Ideal ⟨2, ![128, 2048]⟩ .f32) (w2 : FVec Ideal ⟨2, ![2048, 1024]⟩ .f32) (r : Fin 128) (c : Fin 1024) :
    k0_pay2 (F := Ideal) g w2 (ix2 r c) = (∑ k : Fin 2048, g (ix2 r k) * w2 (ix2 k c) : EReal) := by
  unfold k0_pay2
  simp only [shapeCast_self]
  show FloatOps.matmul (F := Ideal) (DotDims.plain 128 2048 1024) none g w2 (constant S128x1024 .f32 0x00000000#32) (ix2 r c) = _
  rw [Ideal.matmul_plain_apply]
  show Ideal.ofBits .f32 0x00000000#32 + _ = _
  rw [Ideal.ofBits_zero_f32, zero_add]

/-- A device's product at a row and a column of the result. -/
theorem pr_eq (c : D) (r col : Fin 1024) :
    pr m ρ r.val col.val c = ∑ k : Fin 2048, max (∑ j : Fin 1024, ax m c (ix2 r j) * aw1 m c (ix2 j k)) (0 : EReal) * aw2 m c (ix2 k col) := by
  have hi : (fun a => match a with
      | ⟨0, _⟩ => ⟨r.val % 128, Nat.mod_lt _ (by decide)⟩
      | ⟨1, _⟩ => ⟨col.val % 1024, Nat.mod_lt _ (by decide)⟩ : S128x1024.Idx) = ix2 (⟨r.val % 128, Nat.mod_lt _ (by decide)⟩ : Fin 128) col := by
    funext a; apply Fin.ext
    match a with
    | ⟨0, _⟩ => rfl
    | ⟨1, _⟩ => exact Nat.mod_eq_of_lt col.isLt
  have hx : ∀ j : Fin 1024, xrows m ρ c (128 * (r.val / 128)) (ix2 (⟨r.val % 128, Nat.mod_lt _ (by decide)⟩ : Fin 128) j) = ax m c (ix2 r j) := fun j => by
    unfold xrows
    rw [stg_x]
    refine congrArg (ax m c) (funext fun a => Fin.ext ?_)
    match a with
    | ⟨0, _⟩ => show (128 * (r.val / 128) + r.val % 128) % 1024 = r.val; rw [Nat.div_add_mod]; exact Nat.mod_eq_of_lt r.isLt
    | ⟨1, _⟩ => exact Nat.mod_eq_of_lt j.isLt
  refine (congrArg (mlp (xrows m ρ c (128 * (r.val / 128))) (w1stg m ρ c) (w2stg m ρ c)) hi).trans ?_
  unfold mlp
  rw [stg_w1, stg_w2]
  refine (pay2_apply _ _ _ _).trans (Finset.sum_congr rfl fun k _ => congrArg (· * aw2 m c (ix2 k col)) ?_)
  refine (pay1_apply _ _ _ _).trans (congrArg (max · (0 : EReal)) (Finset.sum_congr rfl fun j _ => congrArg (· * aw1 m c (ix2 j k)) (hx j)))

/-! ### The reference -/

/-- The reference's composed value. -/
abbrev refOut (x : FVec Ideal ⟨2, ![1024, 1024]⟩ .f32) (w1 : FVec Ideal ⟨2, ![1024, 65536]⟩ .f32) (w2 : FVec Ideal ⟨2, ![65536, 1024]⟩ .f32) :
    FVec Ideal ⟨2, ![1024, 1024]⟩ .f32 :=
  Host.dotGeneral (φ₁ := .f32) (φ₂ := .f32) Cert.ReferenceIdeal.dot_S1024x65536_S65536x1024_S1024x1024_1_0_0_1_n_n none
    (maximumf (Host.dotGeneral (φ₁ := .f32) (φ₂ := .f32) Cert.ReferenceIdeal.dot_S1024x1024_S1024x65536_S1024x65536_1_0_0_1_n_n none x w1)
      (broadcastInDim Cert.ReferenceIdeal.S1024x65536 ![] Cert.ReferenceIdeal.Facts₀.bcast_S_S1024x65536 (constant Cert.ReferenceIdeal.S_ .f32 0x00000000#32))) w2

/-- The reference's result at a row and a column. -/
theorem ref_apply (x : FVec Ideal ⟨2, ![1024, 1024]⟩ .f32) (w1 : FVec Ideal ⟨2, ![1024, 65536]⟩ .f32) (w2 : FVec Ideal ⟨2, ![65536, 1024]⟩ .f32) (r col : Fin 1024) :
    refOut x w1 w2 (ix2 r col) = (∑ k : Fin 65536, max (∑ j : Fin 1024, x (ix2 r j) * w1 (ix2 j k)) (0 : EReal) * w2 (ix2 k col) : EReal) := by
  refine (StackMember.dotGeneral_plain_apply (φ₁ := .f32) (φ₂ := .f32) (m := 1024) (n := 1024) (k := 65536) none _ w2 r col).trans (Finset.sum_congr rfl fun k _ => ?_)
  refine congrArg (· * w2 (ix2 k col)) ?_
  show max (Host.dotGeneral (φ₁ := .f32) (φ₂ := .f32) (DotDims.plain 1024 1024 65536) none x w1 (ix2 r k)) (Ideal.ofBits .f32 0x00000000#32) = _
  rw [StackMember.dotGeneral_plain_apply, Ideal.ofBits_zero_f32]

/-- A sum over the hidden columns, device by device. -/
theorem sum_blocks (f : Fin 65536 → EReal) :
    ∑ c : Fin 32, ∑ k : Fin 2048, f ⟨c.val * 2048 + k.val, by have := c.isLt; have := k.isLt; omega⟩ = ∑ k : Fin 65536, f k := by
  have h := Fin.sum_univ_univ_mul_add 32 2048 (fun i : ℕ => if hi : i < 65536 then f ⟨i, hi⟩ else 0)
  refine Eq.trans (Finset.sum_congr rfl fun c _ => Finset.sum_congr rfl fun k _ => ?_) (h.trans (Finset.sum_congr rfl fun k _ => ?_))
  · have hi : c.val * 2048 + k.val < 65536 := by have := c.isLt; have := k.isLt; omega
    show _ = if hi : c.val * 2048 + k.val < 65536 then f ⟨c.val * 2048 + k.val, hi⟩ else 0
    rw [dif_pos hi]
  · exact dif_pos k.isLt

/-- When the devices hold their blocks of the whole arrays, the kernel's result is the reference's. -/
theorem out_eq (x : FVec Ideal ⟨2, ![1024, 1024]⟩ .f32) (w1 : FVec Ideal ⟨2, ![1024, 65536]⟩ .f32) (w2 : FVec Ideal ⟨2, ![65536, 1024]⟩ .f32)
    (hx : ∀ c : D, ax m c = x) (h1 : ∀ c : D, aw1 m c = Layout.block ⟨2, ![1024, 2048]⟩ ⟨2, ![1024, 65536]⟩ 1 32 c w1)
    (h2 : ∀ c : D, aw2 m c = Layout.block ⟨2, ![2048, 1024]⟩ ⟨2, ![65536, 1024]⟩ 0 32 c w2) : outAt m ρ = refOut x w1 w2 := by
  funext i
  obtain ⟨r, col, rfl⟩ : ∃ r col : Fin 1024, i = ix2 r col := ⟨i 0, i 1, eq_ix2 i⟩
  rw [ref_apply]
  show fin m ρ r.val col.val = _
  refine (fin_eq m ρ _ _).trans ?_
  rw [← sum_blocks]
  refine Finset.sum_congr rfl fun c _ => ?_
  rw [pr_eq]
  refine Finset.sum_congr rfl fun k _ => ?_
  have e1 : ∀ j : Fin 1024, aw1 m c (ix2 j k) = w1 (ix2 j ⟨c.val * 2048 + k.val, by have : c.val < 32 := c.isLt; omega⟩) := fun j => by
    rw [h1, Layout.block_apply]
    refine congrArg w1 (funext fun a => Fin.ext ?_)
    match a with
    | ⟨0, _⟩ => rfl
    | ⟨1, _⟩ => rfl
  have e2 : aw2 m c (ix2 k col) = w2 (ix2 ⟨c.val * 2048 + k.val, by have : c.val < 32 := c.isLt; omega⟩ col) := by
    rw [h2, Layout.block_apply]
    refine congrArg w2 (funext fun a => Fin.ext ?_)
    match a with
    | ⟨0, _⟩ => rfl
    | ⟨1, _⟩ => rfl
  rw [hx, e2]
  simp only [e1]

/-! ### The claims -/

variable {F : FTy → Type} [FloatOps F]

/-- Every final state: the arguments unchanged, the result at the computed contents, every counter at zero. -/
theorem run_all (m : (ℓ : Loc nD τ sig) → Buf (Elt F) ℓ) (ρ : Dev nD → PrngReg) :
    θ_run defs (onTc (τ := τ) (main (F := F))) (s₀ m ρ) (fun r => (∀ c : D,
      r.2.mem ((c : Thread nD τ).loc main_v1) = outAt m ρ
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun r h => ⟨fun c =>
      ⟨(h.1 c (3 : Fin 4)).trans ((Memref.read_access_unit_zero (Elt F) main_v1 (funext fun a => by fin_cases a <;> rfl) _ (finalA m ρ c (3 : Fin 4))).symm.trans (finalA_o m ρ c)),
        (h.1 c (0 : Fin 4)).trans (finalA_x m ρ c), (h.1 c (1 : Fin 4)).trans (finalA_w1 m ρ c), (h.1 c (2 : Fin 4)).trans (finalA_w2 m ρ c)⟩, h.2⟩)
    (run_main m ρ)

end Cert.AllReduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- Over any float values the kernel runs, its arguments unchanged and every counter back at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => (h.1 c).2, h.2⟩) (Cert.AllReduce.run_all (F := F) m ρ)

/-- The kernel as printed and the idealized kernel have the same kernel bodies. -/
theorem same_defs₀ {F : FTy → Type} [FloatOps F] :
    Cert.Kernel.defs₀ (F := F) = Cert.KernelIdeal.defs₀ (F := F) := by
  refine congrArg Defs.onTc (funext fun l => ?_)
  obtain ⟨i, hi⟩ := l
  cases i with
  | zero => exact funext fun ⟨t, s⟩ => rfl
  | succ n => exact absurd hi (Nat.not_lt.2 (Nat.le_add_left _ _))

/-- The kernel as printed and the idealized kernel have the same table of bodies. -/
theorem same_defs {F : FTy → Type} [FloatOps F] :
    Cert.Kernel.defs (F := F) = Cert.KernelIdeal.defs (F := F) :=
  congrArg (Pipeline.defs (Cert.KernelIdeal.pcfgs (F := F))) same_defs₀

/-- The kernel as printed: the same run at the bit patterns, the two programs having one text. -/
theorem frame_kernel : Cert.quiescent_Kernel := by
  intro m ρ _
  rw [same_defs]
  exact frame_any (F := Bits) m ρ

/-- The idealized kernel: the same run at the extended reals. -/
theorem frame_kernelIdeal : Cert.quiescent_KernelIdeal := fun m ρ _ => frame_any (F := Ideal) m ρ

/-- The reference runs, its arguments unchanged; it has no semaphore. -/
theorem frame_reference : Cert.quiescent_ReferenceIdeal := fun m ρ _ =>
  (θ_run Cert.ReferenceIdeal.defs _ _).mono (fun r h => ⟨fun c => (h c).2, funext fun ⟨_, sm⟩ => by cases sm with | reg s => exact s.elim0 | dma s => exact s.elim0⟩)
    (Cert.ReferenceIdeal.Value.run (F := Ideal) m ρ)

/-- Every device ends with the reference's result. -/
theorem algebraic : Cert.algebraic_KernelIdeal_ReferenceIdeal := fun m ρ m' ρ' _ hm =>
  ⟨Cert.AllReduce.outAt (F := Ideal) m ρ,
    (θ_run Cert.KernelIdeal.defs _ _).mono (fun _ h => h.1) (Cert.AllReduce.run_all (F := Ideal) m ρ),
    (θ_run Cert.ReferenceIdeal.defs _ _).mono (fun r h => ⟨(h 0).1.trans
        (Cert.AllReduce.out_eq m ρ _ _ _ (fun c => (hm c).1) (fun c => (hm c).2.1) (fun c => (hm c).2.2)).symm, (h 0).2⟩)
      (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
